-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradReferenceIdeal (m : (ℓ : Loc Cert.MergeGradReferenceIdeal.nD Cert.MergeGradReferenceIdeal.τ Cert.MergeGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ r.2.sem = fun _ => 0)

def quiescent_MergeGradReferenceIdeal [hMergeGradReferenceIdeal : Cert.MergeGradReferenceIdeal.Facts] : Prop :=
  ∀ (m : (ℓ : Loc Cert.MergeGradReferenceIdeal.nD Cert.MergeGradReferenceIdeal.τ Cert.MergeGradReferenceIdeal.sig) → Buf (Elt Ideal) ℓ) (g : Dev Cert.MergeGradReferenceIdeal.nD → PrngReg), Pre_MergeGradReferenceIdeal m →
    θ_run (Cert.MergeGradReferenceIdeal.defs (F := Ideal)) (onTc (τ := Cert.MergeGradReferenceIdeal.τ) (Cert.MergeGradReferenceIdeal.main (F := Ideal))) ⟨m, fun _ => 0, g⟩ (fun r => (∀ c : Dev Cert.MergeGradReferenceIdeal.nD,
      r.2.mem ((c.tc : Thread Cert.MergeGradReferenceIdeal.nD Cert.MergeGradReferenceIdeal.τ).loc Cert.MergeGradReferenceIdeal.main_arg0) = m ((c.tc : Thread Cert.MergeGradReferenceIdeal.nD Cert.MergeGradReferenceIdeal.τ).loc Cert.MergeGradReferenceIdeal.main_arg0)
      ∧ r.2.mem ((c.tc : Thread Cert.MergeGradReferenceIdeal.nD Cert.MergeGradReferenceIdeal.τ).loc Cert.MergeGradReferenceIdeal.main_arg1) = m ((c.tc : Thread Cert.MergeGradReferenceIdeal.nD Cert.MergeGradReferenceIdeal.τ).loc Cert.MergeGradReferenceIdeal.main_arg1)
      ∧ r.2.mem ((c.tc : Thread Cert.MergeGradReferenceIdeal.nD Cert.MergeGradReferenceIdeal.τ).loc Cert.MergeGradReferenceIdeal.main_arg2) = m ((c.tc : Thread Cert.MergeGradReferenceIdeal.nD Cert.MergeGradReferenceIdeal.τ).loc Cert.MergeGradReferenceIdeal.main_arg2)
      ∧ r.2.mem ((c.tc : Thread Cert.MergeGradReferenceIdeal.nD Cert.MergeGradReferenceIdeal.τ).loc Cert.MergeGradReferenceIdeal.main_arg3) = m ((c.tc : Thread Cert.MergeGradReferenceIdeal.nD Cert.MergeGradReferenceIdeal.τ).loc Cert.MergeGradReferenceIdeal.main_arg3)
      ∧ r.2.mem ((c.tc : Thread Cert.MergeGradReferenceIdeal.nD Cert.MergeGradReferenceIdeal.τ).loc Cert.MergeGradReferenceIdeal.main_arg4) = m ((c.tc : Thread Cert.MergeGradReferenceIdeal.nD Cert.MergeGradReferenceIdeal.τ).loc Cert.MergeGradReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)) (v1 : (c : Dev Cert.MlpIdeal.nD) → Buf (Elt Ideal) ((c.tc : Thread Cert.MlpIdeal.nD Cert.MlpIdeal.τ).loc Cert.MlpIdeal.main_v5)) (v2 : (c : Dev Cert.MlpIdeal.nD) → Buf (Elt Ideal) ((c.tc : Thread Cert.MlpIdeal.nD Cert.MlpIdeal.τ).loc Cert.MlpIdeal.main_v4)) (v3 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_v5) = v1 c
          ∧ r.2.mem ((c.tc : Thread Cert.MlpIdeal.nD Cert.MlpIdeal.τ).loc Cert.MlpIdeal.main_v4) = v2 c
          ∧ r.2.mem ((c.tc : Thread Cert.MlpIdeal.nD Cert.MlpIdeal.τ).loc Cert.MlpIdeal.main_v3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v11) = v0 c
          ∧ r.2.mem ((c.tc : Thread Cert.MlpReferenceIdeal.nD Cert.MlpReferenceIdeal.τ).loc Cert.MlpReferenceIdeal.main_v21) = v1 c
          ∧ r.2.mem ((c.tc : Thread Cert.MlpReferenceIdeal.nD Cert.MlpReferenceIdeal.τ).loc Cert.MlpReferenceIdeal.main_v22) = v2 c
          ∧ r.2.mem ((c.tc : Thread Cert.MlpReferenceIdeal.nD Cert.MlpReferenceIdeal.τ).loc Cert.MlpReferenceIdeal.main_v23) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v0)) (v1 : (c : Dev Cert.MixerIdeal.nD) → Buf (Elt Ideal) ((c.tc : Thread Cert.MixerIdeal.nD Cert.MixerIdeal.τ).loc Cert.MixerIdeal.main_v1)) (v2 : (c : Dev Cert.MixerIdeal.nD) → Buf (Elt Ideal) ((c.tc : Thread Cert.MixerIdeal.nD Cert.MixerIdeal.τ).loc Cert.MixerIdeal.main_v2)) (v3 : (c : Dev Cert.MixerIdeal.nD) → Buf (Elt Ideal) ((c.tc : Thread Cert.MixerIdeal.nD Cert.MixerIdeal.τ).loc Cert.MixerIdeal.main_v5)) (v4 : (c : Dev Cert.MixerIdeal.nD) → Buf (Elt Ideal) ((c.tc : Thread Cert.MixerIdeal.nD Cert.MixerIdeal.τ).loc Cert.MixerIdeal.main_v7)) (v5 : (c : Dev Cert.MixerIdeal.nD) → Buf (Elt Ideal) ((c.tc : Thread Cert.MixerIdeal.nD Cert.MixerIdeal.τ).loc Cert.MixerIdeal.main_v3)) (v6 : (c : Dev Cert.MixerIdeal.nD) → Buf (Elt Ideal) ((c.tc : Thread Cert.MixerIdeal.nD Cert.MixerIdeal.τ).loc Cert.MixerIdeal.main_v6)) (v7 : (c : Dev Cert.MixerIdeal.nD) → Buf (Elt Ideal) ((c.tc : Thread Cert.MixerIdeal.nD Cert.MixerIdeal.τ).loc Cert.MixerIdeal.main_v8)) (v8 : (c : Dev Cert.MixerIdeal.nD) → Buf (Elt Ideal) ((c.tc : Thread Cert.MixerIdeal.nD Cert.MixerIdeal.τ).loc Cert.MixerIdeal.main_v4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0) = v0 c
          ∧ r.2.mem ((c.tc : Thread Cert.MixerIdeal.nD Cert.MixerIdeal.τ).loc Cert.MixerIdeal.main_v1) = v1 c
          ∧ r.2.mem ((c.tc : Thread Cert.MixerIdeal.nD Cert.MixerIdeal.τ).loc Cert.MixerIdeal.main_v2) = v2 c
          ∧ r.2.mem ((c.tc : Thread Cert.MixerIdeal.nD Cert.MixerIdeal.τ).loc Cert.MixerIdeal.main_v5) = v3 c
          ∧ r.2.mem ((c.tc : Thread Cert.MixerIdeal.nD Cert.MixerIdeal.τ).loc Cert.MixerIdeal.main_v7) = v4 c
          ∧ r.2.mem ((c.tc : Thread Cert.MixerIdeal.nD Cert.MixerIdeal.τ).loc Cert.MixerIdeal.main_v3) = v5 c
          ∧ r.2.mem ((c.tc : Thread Cert.MixerIdeal.nD Cert.MixerIdeal.τ).loc Cert.MixerIdeal.main_v6) = v6 c
          ∧ r.2.mem ((c.tc : Thread Cert.MixerIdeal.nD Cert.MixerIdeal.τ).loc Cert.MixerIdeal.main_v8) = v7 c
          ∧ r.2.mem ((c.tc : Thread Cert.MixerIdeal.nD Cert.MixerIdeal.τ).loc Cert.MixerIdeal.main_v4) = v8 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v6) = v0 c
          ∧ r.2.mem ((c.tc : Thread Cert.MixerReferenceIdeal.nD Cert.MixerReferenceIdeal.τ).loc Cert.MixerReferenceIdeal.main_v7) = v1 c
          ∧ r.2.mem ((c.tc : Thread Cert.MixerReferenceIdeal.nD Cert.MixerReferenceIdeal.τ).loc Cert.MixerReferenceIdeal.main_v8) = v2 c
          ∧ r.2.mem ((c.tc : Thread Cert.MixerReferenceIdeal.nD Cert.MixerReferenceIdeal.τ).loc Cert.MixerReferenceIdeal.main_v21) = v3 c
          ∧ r.2.mem ((c.tc : Thread Cert.MixerReferenceIdeal.nD Cert.MixerReferenceIdeal.τ).loc Cert.MixerReferenceIdeal.main_v17) = v4 c
          ∧ r.2.mem ((c.tc : Thread Cert.MixerReferenceIdeal.nD Cert.MixerReferenceIdeal.τ).loc Cert.MixerReferenceIdeal.main_v14) = v5 c
          ∧ r.2.mem ((c.tc : Thread Cert.MixerReferenceIdeal.nD Cert.MixerReferenceIdeal.τ).loc Cert.MixerReferenceIdeal.main_v22) = v6 c
          ∧ r.2.mem ((c.tc : Thread Cert.MixerReferenceIdeal.nD Cert.MixerReferenceIdeal.τ).loc Cert.MixerReferenceIdeal.main_v23) = v7 c
          ∧ r.2.mem ((c.tc : Thread Cert.MixerReferenceIdeal.nD Cert.MixerReferenceIdeal.τ).loc Cert.MixerReferenceIdeal.main_v24) = v8 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v17)) (v1 : (c : Dev Cert.InProjIdeal.nD) → Buf (Elt Ideal) ((c.tc : Thread Cert.InProjIdeal.nD Cert.InProjIdeal.τ).loc Cert.InProjIdeal.main_v30)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17) = v0 c
          ∧ r.2.mem ((c.tc : Thread Cert.InProjIdeal.nD Cert.InProjIdeal.τ).loc Cert.InProjIdeal.main_v30) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_v20) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v17)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v17) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v8) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v18) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_MergeGrad_MergeGradIdeal : Prop :=
  True

def algebraic_MergeGradIdeal_MergeGradReferenceIdeal [hMergeGradIdeal : Cert.MergeGradIdeal.Facts] [hMergeGradReferenceIdeal : Cert.MergeGradReferenceIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradReferenceIdeal.nD Cert.MergeGradReferenceIdeal.τ Cert.MergeGradReferenceIdeal.sig) → Buf (Elt Ideal) ℓ) (g' : Dev Cert.MergeGradReferenceIdeal.nD → PrngReg), Pre_MergeGradIdeal m →
    (∀ c : Dev Cert.MergeGradIdeal.nD,
      m' ((c.tc : Thread Cert.MergeGradReferenceIdeal.nD Cert.MergeGradReferenceIdeal.τ).loc Cert.MergeGradReferenceIdeal.main_arg0) = m ((c.tc : Thread Cert.MergeGradIdeal.nD Cert.MergeGradIdeal.τ).loc Cert.MergeGradIdeal.main_arg0)
      ∧ m' ((c.tc : Thread Cert.MergeGradReferenceIdeal.nD Cert.MergeGradReferenceIdeal.τ).loc Cert.MergeGradReferenceIdeal.main_arg1) = m ((c.tc : Thread Cert.MergeGradIdeal.nD Cert.MergeGradIdeal.τ).loc Cert.MergeGradIdeal.main_arg1)
      ∧ m' ((c.tc : Thread Cert.MergeGradReferenceIdeal.nD Cert.MergeGradReferenceIdeal.τ).loc Cert.MergeGradReferenceIdeal.main_arg2) = m ((c.tc : Thread Cert.MergeGradIdeal.nD Cert.MergeGradIdeal.τ).loc Cert.MergeGradIdeal.main_arg2)
      ∧ m' ((c.tc : Thread Cert.MergeGradReferenceIdeal.nD Cert.MergeGradReferenceIdeal.τ).loc Cert.MergeGradReferenceIdeal.main_arg3) = m ((c.tc : Thread Cert.MergeGradIdeal.nD Cert.MergeGradIdeal.τ).loc Cert.MergeGradIdeal.main_arg3)
      ∧ m' ((c.tc : Thread Cert.MergeGradReferenceIdeal.nD Cert.MergeGradReferenceIdeal.τ).loc Cert.MergeGradReferenceIdeal.main_arg4) = m ((c.tc : Thread Cert.MergeGradIdeal.nD Cert.MergeGradIdeal.τ).loc Cert.MergeGradIdeal.main_arg4)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v0_0) = v0 c
          ∧ r.2.mem ((c.tc : Thread Cert.MergeGradIdeal.nD Cert.MergeGradIdeal.τ).loc Cert.MergeGradIdeal.main_v0_1) = v1 c
          ∧ r.2.mem ((c.tc : Thread Cert.MergeGradIdeal.nD Cert.MergeGradIdeal.τ).loc Cert.MergeGradIdeal.main_v0_2) = v2 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ θ_run (Cert.MergeGradReferenceIdeal.defs (F := Ideal)) (onTc (τ := Cert.MergeGradReferenceIdeal.τ) (Cert.MergeGradReferenceIdeal.main (F := Ideal))) ⟨m', fun _ => 0, g'⟩ (fun r => ∀ c : Dev Cert.MergeGradReferenceIdeal.nD,
          r.2.mem ((c.tc : Thread Cert.MergeGradReferenceIdeal.nD Cert.MergeGradReferenceIdeal.τ).loc Cert.MergeGradReferenceIdeal.main_v36) = v0 c
          ∧ r.2.mem ((c.tc : Thread Cert.MergeGradReferenceIdeal.nD Cert.MergeGradReferenceIdeal.τ).loc Cert.MergeGradReferenceIdeal.main_v37) = v1 c
          ∧ r.2.mem ((c.tc : Thread Cert.MergeGradReferenceIdeal.nD Cert.MergeGradReferenceIdeal.τ).loc Cert.MergeGradReferenceIdeal.main_v38) = v2 c
          ∧ r.2.mem ((c.tc : Thread Cert.MergeGradReferenceIdeal.nD Cert.MergeGradReferenceIdeal.τ).loc Cert.MergeGradReferenceIdeal.main_arg0) = m' ((c.tc : Thread Cert.MergeGradReferenceIdeal.nD Cert.MergeGradReferenceIdeal.τ).loc Cert.MergeGradReferenceIdeal.main_arg0)
          ∧ r.2.mem ((c.tc : Thread Cert.MergeGradReferenceIdeal.nD Cert.MergeGradReferenceIdeal.τ).loc Cert.MergeGradReferenceIdeal.main_arg1) = m' ((c.tc : Thread Cert.MergeGradReferenceIdeal.nD Cert.MergeGradReferenceIdeal.τ).loc Cert.MergeGradReferenceIdeal.main_arg1)
          ∧ r.2.mem ((c.tc : Thread Cert.MergeGradReferenceIdeal.nD Cert.MergeGradReferenceIdeal.τ).loc Cert.MergeGradReferenceIdeal.main_arg2) = m' ((c.tc : Thread Cert.MergeGradReferenceIdeal.nD Cert.MergeGradReferenceIdeal.τ).loc Cert.MergeGradReferenceIdeal.main_arg2)
          ∧ r.2.mem ((c.tc : Thread Cert.MergeGradReferenceIdeal.nD Cert.MergeGradReferenceIdeal.τ).loc Cert.MergeGradReferenceIdeal.main_arg3) = m' ((c.tc : Thread Cert.MergeGradReferenceIdeal.nD Cert.MergeGradReferenceIdeal.τ).loc Cert.MergeGradReferenceIdeal.main_arg3)
          ∧ r.2.mem ((c.tc : Thread Cert.MergeGradReferenceIdeal.nD Cert.MergeGradReferenceIdeal.τ).loc Cert.MergeGradReferenceIdeal.main_arg4) = m' ((c.tc : Thread Cert.MergeGradReferenceIdeal.nD Cert.MergeGradReferenceIdeal.τ).loc Cert.MergeGradReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMixer : Cert.Mixer.Facts) (hMixerIdeal : Cert.MixerIdeal.Facts) (hMixerReferenceIdeal : Cert.MixerReferenceIdeal.Facts) (hInProj : Cert.InProj.Facts) (hInProjIdeal : Cert.InProjIdeal.Facts) (hInProjReferenceIdeal : Cert.InProjReferenceIdeal.Facts) (hInGrad : Cert.InGrad.Facts) (hInGradIdeal : Cert.InGradIdeal.Facts) (hInGradReferenceIdeal : Cert.InGradReferenceIdeal.Facts) (hMerge : Cert.Merge.Facts) (hMergeIdeal : Cert.MergeIdeal.Facts) (hMergeReferenceIdeal : Cert.MergeReferenceIdeal.Facts) (hMergeGrad : Cert.MergeGrad.Facts) (hMergeGradIdeal : Cert.MergeGradIdeal.Facts) (hMergeGradReferenceIdeal : Cert.MergeGradReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeGrad (hMergeGrad := hMergeGrad)
    ∧ quiescent_MergeGradIdeal (hMergeGradIdeal := hMergeGradIdeal)
    ∧ quiescent_MergeGradReferenceIdeal (hMergeGradReferenceIdeal := hMergeGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Mixer_MixerIdeal
    ∧ algebraic_MixerIdeal_MixerReferenceIdeal (hMixerIdeal := hMixerIdeal) (hMixerReferenceIdeal := hMixerReferenceIdeal)
    ∧ preserves_InProj_InProjIdeal
    ∧ algebraic_InProjIdeal_InProjReferenceIdeal (hInProjIdeal := hInProjIdeal) (hInProjReferenceIdeal := hInProjReferenceIdeal)
    ∧ preserves_InGrad_InGradIdeal
    ∧ algebraic_InGradIdeal_InGradReferenceIdeal (hInGradIdeal := hInGradIdeal) (hInGradReferenceIdeal := hInGradReferenceIdeal)
    ∧ preserves_Merge_MergeIdeal
    ∧ algebraic_MergeIdeal_MergeReferenceIdeal (hMergeIdeal := hMergeIdeal) (hMergeReferenceIdeal := hMergeReferenceIdeal)
    ∧ preserves_MergeGrad_MergeGradIdeal
    ∧ algebraic_MergeGradIdeal_MergeGradReferenceIdeal (hMergeGradIdeal := hMergeGradIdeal) (hMergeGradReferenceIdeal := hMergeGradReferenceIdeal)
-- ==== Pre_finite.lean ====
abbrev S4096x1024 : Shape := ⟨2, ![4096, 1024]⟩
abbrev S4096x128 : Shape := ⟨2, ![4096, 128]⟩
abbrev S4096x7680 : Shape := ⟨2, ![4096, 7680]⟩
abbrev S_ : Shape := ⟨0, ![]⟩
abbrev S4096x16 : Shape := ⟨2, ![4096, 16]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4096x128_S4096x16_0_0 : S4096x128.Slices ![0, 0] S4096x16
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x128 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S4096x16 .f32 := (extractStridedSlice S4096x16 ![0, 0] · slices_S4096x128_S4096x16_0_0) main_arg4
  let main_v24 : FVec F S4096x16 .f32 := Host.absf main_v23
  let main_cst_6 : FVec F S_ .f32 := constant S_ .f32 0x7F800000#32
  let main_v25 : FVec F S4096x16 .f32 := broadcastInDim S4096x16 ![] bcast_S_S4096x16 main_cst_6
  let main_v26 : IVec S4096x16 1 := cmpf .olt main_v24 main_v25
  let main_c_7 : IVec S_ 1 := constantI S_ 1 1#1
  let main_v27 : IVec S_ 1 := (fun x v => Host.reduce IntOp.andi x v reducesTo_S4096x16_S_d0_1 h_S_) main_v26 main_c_7
  let main_v28 : IVec S_ 1 := andi main_v22 main_v27
  main_v28

def fn {F : FTy → Type} [FloatOps F] (main_arg0 : FVec F S4096x1024 .bf16) (main_arg1 : FVec F S4096x1024 .bf16) (main_arg2 : FVec F S4096x1024 .bf16) (main_arg3 : FVec F S4096x1024 .bf16) (main_arg4 : FVec F S4096x128 .f32) (main_arg5 : FVec F S4096x7680 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_arg4 main_v16 main_v17
-- ==== Kernel.lean ====
abbrev S4096x1024 : Shape := ⟨2, ![4096, 1024]⟩
abbrev S4096x128 : Shape := ⟨2, ![4096, 128]⟩
abbrev S4096x7680 : Shape := ⟨2, ![4096, 7680]⟩
abbrev S4096x16 : Shape := ⟨2, ![4096, 16]⟩
abbrev S4096x16x64 : Shape := ⟨3, ![4096, 16, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S16x64x4096 : Shape := ⟨3, ![16, 64, 4096]⟩
abbrev S16x8x1x512 : Shape := ⟨4, ![16, 8, 1, 512]⟩
abbrev S512x128 : Shape := ⟨2, ![512, 128]⟩
abbrev S2x8x1x512 : Shape := ⟨4, ![2, 8, 1, 512]⟩
abbrev S512x512 : Shape := ⟨2, ![512, 512]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩

abbrev nBuf : Space → Nat
  | .hbm => 64
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x128, .f32⟩
  | .hbm, ⟨5, _⟩ => ⟨S4096x7680, .bf16⟩
  | .hbm, ⟨6, _⟩ => ⟨S4096x16, .f32⟩
  | .hbm, ⟨7, _⟩ => ⟨S4096x1024, .f32⟩
  | .hbm, ⟨8, _⟩ => ⟨S4096x16x64, .f32⟩
  | .hbm, ⟨9, _⟩ => ⟨S4096x1024, .f32⟩
  | .hbm, ⟨10, _⟩ => ⟨S4096x16x64, .f32⟩
  | .hbm, ⟨11, _⟩ => ⟨S16x4096x4096, .f32⟩
  | .hbm, ⟨12, _⟩ => ⟨S16x4096, .f32⟩
  | .hbm, ⟨13, _⟩ => ⟨S16x4096x1, .f32⟩
  | .hbm, ⟨14, _⟩ => ⟨S16x4096x4096, .f32⟩
  | .hbm, ⟨15, _⟩ => ⟨S16x4096x4096, .f32⟩
  | .hbm, ⟨16, _⟩ => ⟨S16x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S1x4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S4096x1024, .f32⟩
  | .hbm, ⟨44, _⟩ => ⟨S4096x16x64, .f32⟩
  | .hbm, ⟨45, _⟩ => ⟨S16x64x4096, .f32⟩
  | .hbm, ⟨46, _⟩ => ⟨S4096x16x64, .f32⟩
  | .hbm, ⟨47, _⟩ => ⟨S16x4096, .f32⟩
  | .hbm, ⟨48, _⟩ => ⟨S16x4096, .f32⟩
  | .hbm, ⟨49, _⟩ => ⟨S16x4096, .f32⟩
  | .hbm, ⟨50, _⟩ => ⟨S16x4096, .f32⟩
  | .hbm, ⟨51, _⟩ => ⟨S16x8x1x512, .f32⟩
  | .hbm, ⟨52, _⟩ => ⟨S4096x1024, .f32⟩
  | .hbm, ⟨53, _⟩ => ⟨S4096x16x64, .f32⟩
  | .hbm, ⟨54, _⟩ => ⟨S4096x16x64, .f32⟩
  | .hbm, ⟨55, _⟩ => ⟨S_, .f32⟩
  | .hbm, ⟨56, _⟩ => ⟨S4096x16, .f32⟩
  | .hbm, ⟨57, _⟩ => ⟨S16x4096, .f32⟩
  | .hbm, ⟨58, _⟩ => ⟨S16x8x1x512, .f32⟩
  | .hbm, ⟨59, _⟩ => ⟨S4096x1024, .bf16⟩
  | .hbm, ⟨60, _⟩ => ⟨S4096x7680, .bf16⟩
  | .hbm, ⟨61, _⟩ => ⟨S4096x1024, .f32⟩
  | .hbm, ⟨62, _⟩ => ⟨S16x8x1x512, .f32⟩
  | .hbm, ⟨63, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S2x8x1x512, .f32⟩
  | .local _ .vmem, ⟨11, _⟩ => ⟨S2x8x1x512, .f32⟩
  | .local _ .vmem, ⟨12, _⟩ => ⟨S2x8x1x512, .f32⟩
  | .local _ .vmem, ⟨13, _⟩ => ⟨S2x8x1x512, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S4096x128, .f32⟩
  | .local _ .vmem, ⟨19, _⟩ => ⟨S4096x128, .f32⟩
  | .local _ .vmem, ⟨20, _⟩ => ⟨S2x8x1x512, .f32⟩
  | .local _ .vmem, ⟨21, _⟩ => ⟨S2x8x1x512, .f32⟩
  | .local _ .vmem, ⟨22, _⟩ => ⟨S512x128, .f32⟩
  | .local _ .vmem, ⟨23, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v53 : BitVec 32 := Scalar.muli arg1 c512_i32
  v53
def k0_off1 (i : grid0.Coords) : Fin 2 → Nat :=
  let arg1 : BitVec 32 := BitVec.ofNat 32 (i 1).val
  let c512_i32 : BitVec 32 := 512#32
  let v53 : BitVec 32 := Scalar.muli arg1 c512_i32
  let v54 : BitVec 32 := v53
  let v55 : Index := Scalar.indexCast v54
  let c0_19 : Index := 0#32
  ![v55.toNat, 0]
def k0_off2 (i : grid0.Coords) : Fin 4 → Nat :=
  let c0_25 : Index := 0#32
  let arg1 : BitVec 32 := BitVec.ofNat 32 (i 1).val
  let v73 : Index := Scalar.indexCast arg1
  let c0_26 : Index := 0#32
  let c0_27 : Index := 0#32
  ![0, v73.toNat, 0, 0]
def k0_off3 (i : grid0.Coords) : Fin 4 → Nat :=
  let c1 : Index := 1#32
  let arg1 : BitVec 32 := BitVec.ofNat 32 (i 1).val
  let v120 : Index := Scalar.indexCast arg1
  let c0_47 : Index := 0#32
  let c0_48 : Index := 0#32
  ![1, v120.toNat, 0, 0]
@[reducible] def k0_t1_loop (i : grid0.Coords) : Scf.Loop 32 :=
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let c1_i32_68 : BitVec 32 := 1#32
  ⟨v160, v165, c1_i32_68⟩
def k0_mult2 (i : grid0.Coords) (k0_t1 : Fin (k0_t1_loop i).trips) : BitVec 32 :=
  let arg1 : BitVec 32 := BitVec.ofNat 32 (i 1).val
  let c1_i32_66 : BitVec 32 := 1#32
  let v160 : BitVec 32 := Scalar.addi arg1 c1_i32_66
  let c1_i32_68 : BitVec 32 := 1#32
  let arg15 : BitVec 32 := Scf.iv v160 c1_i32_68 k0_t1
  let c512_i32_77 : BitVec 32 := 512#32
  let v180 : BitVec 32 := Scalar.muli arg15 c512_i32_77
  v180
def k0_off4 (i : grid0.Coords) (k0_t1 : Fin (k0_t1_loop i).trips) : Fin 2 → Nat :=
  let arg1 : BitVec 32 := BitVec.ofNat 32 (i 1).val
  let c1_i32_66 : BitVec 32 := 1#32
  let v160 : BitVec 32 := Scalar.addi arg1 c1_i32_66
  let c1_i32_68 : BitVec 32 := 1#32
  let arg15 : BitVec 32 := Scf.iv v160 c1_i32_68 k0_t1
  let c512_i32_77 : BitVec 32 := 512#32
  let v180 : BitVec 32 := Scalar.muli arg15 c512_i32_77
  let v181 : BitVec 32 := v180
  let v182 : Index := Scalar.indexCast v181
  let c0_78 : Index := 0#32
  ![v182.toNat, 0]
def k0_off5 (i : grid0.Coords) (k0_t1 : Fin (k0_t1_loop i).trips) : Fin 4 → Nat :=
  let c0_83 : Index := 0#32
  let arg1 : BitVec 32 := BitVec.ofNat 32 (i 1).val
  let c1_i32_66 : BitVec 32 := 1#32
  let v160 : BitVec 32 := Scalar.addi arg1 c1_i32_66
  let c1_i32_68 : BitVec 32 := 1#32
  let arg15 : BitVec 32 := Scf.iv v160 c1_i32_68 k0_t1
  let v197 : Index := Scalar.indexCast arg15
  let c0_84 : Index := 0#32
  let c0_85 : Index := 0#32
  ![0, v197.toNat, 0, 0]
def k0_off6 (i : grid0.Coords) (k0_t1 : Fin (k0_t1_loop i).trips) : Fin 4 → Nat :=
  let c1_104 : Index := 1#32
  let arg1 : BitVec 32 := BitVec.ofNat 32 (i 1).val
  let c1_i32_66 : BitVec 32 := 1#32
  let v160 : BitVec 32 := Scalar.addi arg1 c1_i32_66
  let c1_i32_68 : BitVec 32 := 1#32
  let arg15 : BitVec 32 := Scf.iv v160 c1_i32_68 k0_t1
  let v241 : Index := Scalar.indexCast arg15
  let c0_105 : Index := 0#32
  let c0_106 : Index := 0#32
  ![1, v241.toNat, 0, 0]
@[reducible] def k0_t2_loop (i : grid0.Coords) : Scf.Loop 32 :=
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let v162 : BitVec 32 := Scalar.addi v160 v161
  let c1_i32_69 : BitVec 32 := 1#32
  ⟨v165, v162, c1_i32_69⟩
def k0_mult3 (i : grid0.Coords) (k0_t2 : Fin (k0_t2_loop i).trips) : BitVec 32 :=
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let c1_i32_69 : BitVec 32 := 1#32
  let arg15 : BitVec 32 := Scf.iv v165 c1_i32_69 k0_t2
  let c512_i32_77 : BitVec 32 := 512#32
  let v180 : BitVec 32 := Scalar.muli arg15 c512_i32_77
  v180
def k0_off7 (i : grid0.Coords) (k0_t2 : Fin (k0_t2_loop i).trips) : Fin 2 → Nat :=
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let c1_i32_69 : BitVec 32 := 1#32
  let arg15 : BitVec 32 := Scf.iv v165 c1_i32_69 k0_t2
  let c512_i32_77 : BitVec 32 := 512#32
  let v180 : BitVec 32 := Scalar.muli arg15 c512_i32_77
  let v181 : BitVec 32 := v180
  let v182 : Index := Scalar.indexCast v181
  let c0_78 : Index := 0#32
  ![v182.toNat, 0]
def k0_off8 (i : grid0.Coords) (k0_t2 : Fin (k0_t2_loop i).trips) : Fin 4 → Nat :=
  let c0_83 : Index := 0#32
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let c1_i32_69 : BitVec 32 := 1#32
  let arg15 : BitVec 32 := Scf.iv v165 c1_i32_69 k0_t2
  let v197 : Index := Scalar.indexCast arg15
  let c0_84 : Index := 0#32
  let c0_85 : Index := 0#32
  ![0, v197.toNat, 0, 0]
def k0_off9 (i : grid0.Coords) (k0_t2 : Fin (k0_t2_loop i).trips) : Fin 4 → Nat :=
  let c1_104 : Index := 1#32
  let arg1 : BitVec 32 := BitVec.ofNat 32 (i 1).val
  let c1_i32_66 : BitVec 32 := 1#32
  let v160 : BitVec 32 := Scalar.addi arg1 c1_i32_66
  let c8_i32 : BitVec 32 := 8#32
  let v161 : BitVec 32 := Scalar.subi c8_i32 v160
  let c1_i32_67 : BitVec 32 := 1#32
  let v163 : BitVec 32 := Scalar.divsi v161 c1_i32_67
  let v164 : BitVec 32 := Scalar.muli v163 c1_i32_67
  let v165 : BitVec 32 := Scalar.addi v160 v164
  let c1_i32_69 : BitVec 32 := 1#32
  let arg15 : BitVec 32 := Scf.iv v165 c1_i32_69 k0_t2
  let v241 : Index := Scalar.indexCast arg15
  let c0_105 : Index := 0#32
  let c0_106 : Index := 0#32
  ![1, v241.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg0 c48_i32
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x128 : Shape := ⟨2, ![4096, 128]⟩
abbrev S4096x7680 : Shape := ⟨2, ![4096, 7680]⟩
abbrev S4096x16 : Shape := ⟨2, ![4096, 16]⟩
abbrev S4096x16x64 : Shape := ⟨3, ![4096, 16, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S16x64x4096 : Shape := ⟨3, ![16, 64, 4096]⟩
abbrev S16x4096x64 : Shape := ⟨3, ![16, 4096, 64]⟩
abbrev S4096x6144 : Shape := ⟨2, ![4096, 6144]⟩
abbrev S4096x512 : Shape := ⟨2, ![4096, 512]⟩
abbrev S16x8x1x512 : Shape := ⟨4, ![16, 8, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x128, .f32⟩
  | .hbm, ⟨5, _⟩ => ⟨S4096x7680, .bf16⟩
  | .hbm, ⟨6, _⟩ => ⟨S4096x16, .f32⟩
  | .hbm, ⟨7, _⟩ => ⟨S4096x1024, .f32⟩
  | .hbm, ⟨8, _⟩ => ⟨S4096x16x64, .f32⟩
  | .hbm, ⟨9, _⟩ => ⟨S4096x1024, .f32⟩
  | .hbm, ⟨10, _⟩ => ⟨S4096x16x64, .f32⟩
  | .hbm, ⟨11, _⟩ => ⟨S4096x1024, .f32⟩
  | .hbm, ⟨12, _⟩ => ⟨S4096x16x64, .f32⟩
  | .hbm, ⟨13, _⟩ => ⟨S16x4096x4096, .f32⟩
  | .hbm, ⟨14, _⟩ => ⟨S16x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x4096, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x4096x4096, .i1⟩
  | .hbm, ⟨29, _⟩ => ⟨S_, .f32⟩
  | .hbm, ⟨30, _⟩ => ⟨S_, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .i1⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S16x4096, .i1⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S16x4096, .f32⟩
  | .hbm, ⟨61, _⟩ => ⟨S16x4096x1, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x64x4096, .f32⟩
  | .hbm, ⟨75, _⟩ => ⟨S4096x16x64, .f32⟩
  | .hbm, ⟨76, _⟩ => ⟨S4096x1024, .f32⟩
  | .hbm, ⟨77, _⟩ => ⟨S4096x16x64, .f32⟩
  | .hbm, ⟨78, _⟩ => ⟨S16x64x4096, .f32⟩
  | .hbm, ⟨79, _⟩ => ⟨S16x4096x4096, .f32⟩
  | .hbm, ⟨80, _⟩ => ⟨S16x64x4096, .f32⟩
  | .hbm, ⟨81, _⟩ => ⟨S4096x16x64, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S_, .f32⟩
  | .hbm, ⟨86, _⟩ => ⟨S16x4096, .f32⟩
  | .hbm, ⟨87, _⟩ => ⟨S16x4096x1, .f32⟩
  | .hbm, ⟨88, _⟩ => ⟨S16x4096x1, .f32⟩
  | .hbm, ⟨89, _⟩ => ⟨S16x4096x4096, .f32⟩
  | .hbm, ⟨90, _⟩ => ⟨S16x4096x4096, .f32⟩
  | .hbm, ⟨91, _⟩ => ⟨S_, .f32⟩
  | .hbm, ⟨92, _⟩ => ⟨S16x4096, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S_, .f32⟩
  | .hbm, ⟨97, _⟩ => ⟨S16x4096x4096, .f32⟩
  | .hbm, ⟨98, _⟩ => ⟨S16x4096x4096, .f32⟩
  | .hbm, ⟨99, _⟩ => ⟨S16x4096x4096, .f32⟩
  | .hbm, ⟨100, _⟩ => ⟨S_, .f32⟩
  | .hbm, ⟨101, _⟩ => ⟨S16x4096, .f32⟩
  | .hbm, ⟨102, _⟩ => ⟨S16x1x4096, .f32⟩
  | .hbm, ⟨103, _⟩ => ⟨S_, .f32⟩
  | .hbm, ⟨104, _⟩ => ⟨S16x4096, .f32⟩
  | .hbm, ⟨105, _⟩ => ⟨S4096x16, .f32⟩
  | .hbm, ⟨106, _⟩ => ⟨S_, .f32⟩
  | .hbm, ⟨107, _⟩ => ⟨S16x4096, .f32⟩
  | .hbm, ⟨108, _⟩ => ⟨S16x4096x1, .f32⟩
  | .hbm, ⟨109, _⟩ => ⟨S_, .f32⟩
  | .hbm, ⟨110, _⟩ => ⟨S16x4096, .f32⟩
  | .hbm, ⟨111, _⟩ => ⟨S4096x16, .f32⟩
  | .hbm, ⟨112, _⟩ => ⟨S16x4096x64, .f32⟩
  | .hbm, ⟨113, _⟩ => ⟨S4096x16x64, .f32⟩
  | .hbm, ⟨114, _⟩ => ⟨S16x4096x64, .f32⟩
  | .hbm, ⟨115, _⟩ => ⟨S4096x16x64, .f32⟩
  | .hbm, ⟨116, _⟩ => ⟨S4096x6144, .bf16⟩
  | .hbm, ⟨117, _⟩ => ⟨S4096x1024, .f32⟩
  | .hbm, ⟨118, _⟩ => ⟨S4096x1024, .bf16⟩
  | .hbm, ⟨119, _⟩ => ⟨S4096x512, .bf16⟩
  | .hbm, ⟨120, _⟩ => ⟨S4096x7680, .bf16⟩
  | .hbm, ⟨121, _⟩ => ⟨S4096x1024, .f32⟩
  | .hbm, ⟨122, _⟩ => ⟨S4096x1024, .bf16⟩
  | .hbm, ⟨123, _⟩ => ⟨S4096x1024, .f32⟩
  | .hbm, ⟨124, _⟩ => ⟨S16x4096, .f32⟩
  | .hbm, ⟨125, _⟩ => ⟨S16x8x1x512, .f32⟩
  | .hbm, ⟨126, _⟩ => ⟨S4096x16x64, .f32⟩
  | .hbm, ⟨127, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== Mlp.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 10
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x1024, .f32⟩
  | .hbm, ⟨6, _⟩ => ⟨S4096x4096, .bf16⟩
  | .hbm, ⟨7, _⟩ => ⟨S4096x1024, .bf16⟩
  | .hbm, ⟨8, _⟩ => ⟨S1024x4096, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4096x1024, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x4096, .bf16⟩
  | .local _ .vmem, ⟨30, _⟩ => ⟨S1024x4096, .bf16⟩
  | .local _ .vmem, ⟨31, _⟩ => ⟨S1024x4096, .bf16⟩
  | .local _ .vmem, ⟨32, _⟩ => ⟨S1024x1024, .f32⟩
  | .local _ .vmem, ⟨33, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | .hbm, ⟨32, _⟩ => ⟨S1024x4096, .bf16⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Mixer.lean ====
abbrev S4096x1024 : Shape := ⟨2, ![4096, 1024]⟩
abbrev S1024x1024 : Shape := ⟨2, ![1024, 1024]⟩

abbrev nBuf : Space → Nat
  | .hbm => 18
  | .vmem => 39
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x1024, .bf16⟩
  | .hbm, ⟨14, _⟩ => ⟨S4096x1024, .bf16⟩
  | .hbm, ⟨15, _⟩ => ⟨S1024x1024, .bf16⟩
  | .hbm, ⟨16, _⟩ => ⟨S4096x1024, .f32⟩
  | .hbm, ⟨17, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S4096x1024, .bf16⟩
  | .local _ .vmem, ⟨29, _⟩ => ⟨S4096x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .f32⟩
  | .local _ .vmem, ⟨35, _⟩ => ⟨S1024x1024, .f32⟩
  | .local _ .vmem, ⟨36, _⟩ => ⟨S4096x1024, .bf16⟩
  | .local _ .vmem, ⟨37, _⟩ => ⟨S4096x1024, .bf16⟩
  | .local _ .vmem, ⟨38, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg1_0 : Ref sig .tc := ⟨.vmem, 29, rfl⟩
abbrev cc6_stg2_0 : Ref sig .tc := ⟨.vmem, 30, rfl⟩
abbrev cc7_stg0_0 : Ref sig .tc := ⟨.vmem, 31, rfl⟩
abbrev cc7_stg0_1 : Ref sig .tc := ⟨.vmem, 32, rfl⟩
abbrev cc7_stg1_0 : Ref sig .tc := ⟨.vmem, 33, rfl⟩
abbrev cc7_stg2_0 : Ref sig .tc := ⟨.vmem, 34, rfl⟩
abbrev cc7_stg2_1 : Ref sig .tc := ⟨.vmem, 35, rfl⟩
abbrev cc8_stg0_0 : Ref sig .tc := ⟨.vmem, 36, rfl⟩
abbrev cc8_stg1_0 : Ref sig .tc := ⟨.vmem, 37, rfl⟩
abbrev cc8_stg2_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem1_0 : DmaSem sig := 29
abbrev cc6_sem2_0 : DmaSem sig := 30
abbrev cc7_sem0_0 : DmaSem sig := 31
abbrev cc7_sem0_1 : DmaSem sig := 32
abbrev cc7_sem1_0 : DmaSem sig := 33
abbrev cc7_sem2_0 : DmaSem sig := 34
abbrev cc7_sem2_1 : DmaSem sig := 35
abbrev cc8_sem0_0 : DmaSem sig := 36
abbrev cc8_sem1_0 : DmaSem sig := 37
abbrev cc8_sem2_0 : DmaSem sig := 38

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S1024x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S1024x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]
-- ==== MixerReferenceIdeal.lean ====
abbrev S4096x1024 : Shape := ⟨2, ![4096, 1024]⟩
abbrev S1024x1024 : Shape := ⟨2, ![1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S1024x1024, .f32⟩
  | .hbm, ⟨23, _⟩ => ⟨S4096x1024, .f32⟩
  | .hbm, ⟨24, _⟩ => ⟨S1024x1024, .f32⟩
  | .hbm, ⟨25, _⟩ => ⟨S1024x1024, .f32⟩
  | .hbm, ⟨26, _⟩ => ⟨S4096x1024, .f32⟩
  | .hbm, ⟨27, _⟩ => ⟨S1024x1024, .f32⟩
  | .hbm, ⟨28, _⟩ => ⟨S1024x1024, .f32⟩
  | .hbm, ⟨29, _⟩ => ⟨S4096x1024, .f32⟩
  | .hbm, ⟨30, _⟩ => ⟨S4096x1024, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== InProj.lean ====
abbrev S4x1024x1796 : Shape := ⟨3, ![4, 1024, 1796]⟩
abbrev S4096x1024 : Shape := ⟨2, ![4096, 1024]⟩
abbrev S4096x7680 : Shape := ⟨2, ![4096, 7680]⟩
abbrev S1x1024x1796 : Shape := ⟨3, ![1, 1024, 1796]⟩
abbrev S1024x1796 : Shape := ⟨2, ![1024, 1796]⟩
abbrev S1024x252 : Shape := ⟨2, ![1024, 252]⟩
abbrev S1024x504 : Shape := ⟨2, ![1024, 504]⟩
abbrev S1024x1040 : Shape := ⟨2, ![1024, 1040]⟩
abbrev S_ : Shape := ⟨0, ![]⟩
abbrev S1024x496 : Shape := ⟨2, ![1024, 496]⟩
abbrev S1024x7680 : Shape := ⟨2, ![1024, 7680]⟩
abbrev S1024x1024 : Shape := ⟨2, ![1024, 1024]⟩
abbrev S1024x1536 : Shape := ⟨2, ![1024, 1536]⟩
abbrev S4096x768 : Shape := ⟨2, ![4096, 768]⟩
abbrev S1024x768 : Shape := ⟨2, ![1024, 768]⟩

abbrev nBuf : Space → Nat
  | .hbm => 35
  | .vmem => 11
  | .smem => 0
  | _ => 0

abbrev bufTy : (tb : Table) → Fin (tcTables nBuf tb) → BufTy
  | .hbm, ⟨0, _⟩ => ⟨S4x1024x1796, .bf16⟩
  | .hbm, ⟨1, _⟩ => ⟨S4096x1024, .bf16⟩
  | .hbm, ⟨2, _⟩ => ⟨S4096x7680, .bf16⟩
  | .hbm, ⟨3, _⟩ => ⟨S1x1024x1796, .bf16⟩
  | .hbm, ⟨4, _⟩ => ⟨S1024x1796, .bf16⟩
  | .hbm, ⟨5, _⟩ => ⟨S1x1024x1796, .bf16⟩
  | .hbm, ⟨6, _⟩ => ⟨S1024x1796, .bf16⟩
  | .hbm, ⟨7, _⟩ => ⟨S1024x252, .bf16⟩
  | .hbm, ⟨8, _⟩ => ⟨S1x1024x1796, .bf16⟩
  | .hbm, ⟨9, _⟩ => ⟨S1024x1796, .bf16⟩
  | .hbm, ⟨10, _⟩ => ⟨S1024x504, .bf16⟩
  | .hbm, ⟨11, _⟩ => ⟨S1x1024x1796, .bf16⟩
  | .hbm, ⟨12, _⟩ => ⟨S1024x1796, .bf16⟩
  | .hbm, ⟨13, _⟩ => ⟨S1x1024x1796, .bf16⟩
  | .hbm, ⟨14, _⟩ => ⟨S1024x1796, .bf16⟩
  | .hbm, ⟨15, _⟩ => ⟨S1x1024x1796, .bf16⟩
  | .hbm, ⟨16, _⟩ => ⟨S1024x1796, .bf16⟩
  | .hbm, ⟨17, _⟩ => ⟨S1024x1040, .bf16⟩
  | .hbm, ⟨18, _⟩ => ⟨S_, .bf16⟩
  | .hbm, ⟨19, _⟩ => ⟨S1024x496, .bf16⟩
  | .hbm, ⟨20, _⟩ => ⟨S1024x7680, .bf16⟩
  | .hbm, ⟨21, _⟩ => ⟨S4096x7680, .f32⟩
  | .hbm, ⟨22, _⟩ => ⟨S1024x7680, .bf16⟩
  | .hbm, ⟨23, _⟩ => ⟨S1024x1796, .bf16⟩
  | .hbm, ⟨24, _⟩ => ⟨S1024x252, .bf16⟩
  | .hbm, ⟨25, _⟩ => ⟨S1024x1040, .bf16⟩
  | .hbm, ⟨26, _⟩ => ⟨S1024x504, .bf16⟩
  | .hbm, ⟨27, _⟩ => ⟨S1024x1796, .bf16⟩
  | .hbm, ⟨28, _⟩ => ⟨S1024x1796, .bf16⟩
  | .hbm, ⟨29, _⟩ => ⟨S1024x1796, .bf16⟩
  | .hbm, ⟨30, _⟩ => ⟨S1x1024x1796, .bf16⟩
  | .hbm, ⟨31, _⟩ => ⟨S1x1024x1796, .bf16⟩
  | .hbm, ⟨32, _⟩ => ⟨S1x1024x1796, .bf16⟩
  | .hbm, ⟨33, _⟩ => ⟨S1x1024x1796, .bf16⟩
  | .hbm, ⟨34, _⟩ => ⟨S4x1024x1796, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S4096x1024, .bf16⟩
  | .local _ .vmem, ⟨7, _⟩ => ⟨S4096x768, .bf16⟩
  | .local _ .vmem, ⟨8, _⟩ => ⟨S4096x768, .bf16⟩
  | .local _ .vmem, ⟨9, _⟩ => ⟨S1024x768, .bf16⟩
  | .local _ .vmem, ⟨10, _⟩ => ⟨S1024x768, .bf16⟩
  | _, _ => ⟨S4x1024x1796, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 10, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== InProjReferenceIdeal.lean ====
abbrev S4x1024x1796 : Shape := ⟨3, ![4, 1024, 1796]⟩
abbrev S4096x1024 : Shape := ⟨2, ![4096, 1024]⟩
abbrev S4096x7680 : Shape := ⟨2, ![4096, 7680]⟩
abbrev S1024x4x1796 : Shape := ⟨3, ![1024, 4, 1796]⟩
abbrev S1024x7184 : Shape := ⟨2, ![1024, 7184]⟩
abbrev S4096x7184 : Shape := ⟨2, ![4096, 7184]⟩
abbrev S4096x2048 : Shape := ⟨2, ![4096, 2048]⟩
abbrev S4096x1040 : Shape := ⟨2, ![4096, 1040]⟩
abbrev S4096x4096 : Shape := ⟨2, ![4096, 4096]⟩
abbrev S7184x1024 : Shape := ⟨2, ![7184, 1024]⟩
abbrev S_ : Shape := ⟨0, ![]⟩
abbrev S4096x496 : Shape := ⟨2, ![4096, 496]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x1796, .bf16⟩
  | .hbm, ⟨1, _⟩ => ⟨S4096x1024, .bf16⟩
  | .hbm, ⟨2, _⟩ => ⟨S4096x7680, .bf16⟩
  | .hbm, ⟨3, _⟩ => ⟨S1024x4x1796, .bf16⟩
  | .hbm, ⟨4, _⟩ => ⟨S1024x7184, .bf16⟩
  | .hbm, ⟨5, _⟩ => ⟨S4096x1024, .f32⟩
  | .hbm, ⟨6, _⟩ => ⟨S1024x7184, .f32⟩
  | .hbm, ⟨7, _⟩ => ⟨S4096x7184, .f32⟩
  | .hbm, ⟨8, _⟩ => ⟨S4096x2048, .bf16⟩
  | .hbm, ⟨9, _⟩ => ⟨S4096x1040, .bf16⟩
  | .hbm, ⟨10, _⟩ => ⟨S4096x4096, .bf16⟩
  | .hbm, ⟨11, _⟩ => ⟨S4096x7184, .bf16⟩
  | .hbm, ⟨12, _⟩ => ⟨S4096x7184, .f32⟩
  | .hbm, ⟨13, _⟩ => ⟨S7184x1024, .f32⟩
  | .hbm, ⟨14, _⟩ => ⟨S1024x7184, .f32⟩
  | .hbm, ⟨15, _⟩ => ⟨S4096x1024, .f32⟩
  | .hbm, ⟨16, _⟩ => ⟨S4096x2048, .f32⟩
  | .hbm, ⟨17, _⟩ => ⟨S4096x4096, .f32⟩
  | .hbm, ⟨18, _⟩ => ⟨S4096x1040, .f32⟩
  | .hbm, ⟨19, _⟩ => ⟨S_, .f32⟩
  | .hbm, ⟨20, _⟩ => ⟨S4096x496, .f32⟩
  | .hbm, ⟨21, _⟩ => ⟨S4096x7680, .f32⟩
  | .hbm, ⟨22, _⟩ => ⟨S1024x4x1796, .f32⟩
  | .hbm, ⟨23, _⟩ => ⟨S4x1024x1796, .f32⟩
  | .hbm, ⟨24, _⟩ => ⟨S4x1024x1796, .bf16⟩
  | _, _ => ⟨S4x1024x1796, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== InGrad.lean ====
abbrev S4x1024x1796 : Shape := ⟨3, ![4, 1024, 1796]⟩
abbrev S4096x7680 : Shape := ⟨2, ![4096, 7680]⟩
abbrev S1x1024x1796 : Shape := ⟨3, ![1, 1024, 1796]⟩
abbrev S1024x1796 : Shape := ⟨2, ![1024, 1796]⟩
abbrev S1024x252 : Shape := ⟨2, ![1024, 252]⟩
abbrev S1024x504 : Shape := ⟨2, ![1024, 504]⟩
abbrev S1024x1040 : Shape := ⟨2, ![1024, 1040]⟩
abbrev S_ : Shape := ⟨0, ![]⟩
abbrev S1024x496 : Shape := ⟨2, ![1024, 496]⟩
abbrev S1024x7680 : Shape := ⟨2, ![1024, 7680]⟩
abbrev S4096x1024 : Shape := ⟨2, ![4096, 1024]⟩
abbrev S1024x3840 : Shape := ⟨2, ![1024, 3840]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4x1024x1796, .bf16⟩
  | .hbm, ⟨1, _⟩ => ⟨S4096x7680, .bf16⟩
  | .hbm, ⟨2, _⟩ => ⟨S1x1024x1796, .bf16⟩
  | .hbm, ⟨3, _⟩ => ⟨S1024x1796, .bf16⟩
  | .hbm, ⟨4, _⟩ => ⟨S1x1024x1796, .bf16⟩
  | .hbm, ⟨5, _⟩ => ⟨S1024x1796, .bf16⟩
  | .hbm, ⟨6, _⟩ => ⟨S1024x252, .bf16⟩
  | .hbm, ⟨7, _⟩ => ⟨S1x1024x1796, .bf16⟩
  | .hbm, ⟨8, _⟩ => ⟨S1024x1796, .bf16⟩
  | .hbm, ⟨9, _⟩ => ⟨S1024x504, .bf16⟩
  | .hbm, ⟨10, _⟩ => ⟨S1x1024x1796, .bf16⟩
  | .hbm, ⟨11, _⟩ => ⟨S1024x1796, .bf16⟩
  | .hbm, ⟨12, _⟩ => ⟨S1x1024x1796, .bf16⟩
  | .hbm, ⟨13, _⟩ => ⟨S1024x1796, .bf16⟩
  | .hbm, ⟨14, _⟩ => ⟨S1x1024x1796, .bf16⟩
  | .hbm, ⟨15, _⟩ => ⟨S1024x1796, .bf16⟩
  | .hbm, ⟨16, _⟩ => ⟨S1024x1040, .bf16⟩
  | .hbm, ⟨17, _⟩ => ⟨S_, .bf16⟩
  | .hbm, ⟨18, _⟩ => ⟨S1024x496, .bf16⟩
  | .hbm, ⟨19, _⟩ => ⟨S1024x7680, .bf16⟩
  | .hbm, ⟨20, _⟩ => ⟨S4096x1024, .f32⟩
  | .local _ .vmem, ⟨0, _⟩ => ⟨S1024x3840, .bf16⟩
  | .local _ .vmem, ⟨1, _⟩ => ⟨S1024x3840, .bf16⟩
  | .local _ .vmem, ⟨2, _⟩ => ⟨S1024x3840, .bf16⟩
  | .local _ .vmem, ⟨3, _⟩ => ⟨S1024x3840, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x1796, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradReferenceIdeal.lean ====
abbrev S4x1024x1796 : Shape := ⟨3, ![4, 1024, 1796]⟩
abbrev S4096x7680 : Shape := ⟨2, ![4096, 7680]⟩
abbrev S1024x4x1796 : Shape := ⟨3, ![1024, 4, 1796]⟩
abbrev S1024x7184 : Shape := ⟨2, ![1024, 7184]⟩
abbrev S4096x2048 : Shape := ⟨2, ![4096, 2048]⟩
abbrev S4096x1040 : Shape := ⟨2, ![4096, 1040]⟩
abbrev S4096x4096 : Shape := ⟨2, ![4096, 4096]⟩
abbrev S4096x7184 : Shape := ⟨2, ![4096, 7184]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1796, .bf16⟩
  | .hbm, ⟨1, _⟩ => ⟨S4096x7680, .bf16⟩
  | .hbm, ⟨2, _⟩ => ⟨S1024x4x1796, .bf16⟩
  | .hbm, ⟨3, _⟩ => ⟨S1024x7184, .bf16⟩
  | .hbm, ⟨4, _⟩ => ⟨S1024x7184, .f32⟩
  | .hbm, ⟨5, _⟩ => ⟨S4096x2048, .bf16⟩
  | .hbm, ⟨6, _⟩ => ⟨S4096x1040, .bf16⟩
  | .hbm, ⟨7, _⟩ => ⟨S4096x4096, .bf16⟩
  | .hbm, ⟨8, _⟩ => ⟨S4096x7184, .bf16⟩
  | .hbm, ⟨9, _⟩ => ⟨S4096x7184, .f32⟩
  | .hbm, ⟨10, _⟩ => ⟨S4096x1024, .f32⟩
  | _, _ => ⟨S4x1024x1796, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Merge.lean ====
abbrev S4096x7680 : Shape := ⟨2, ![4096, 7680]⟩
abbrev S4096x1024 : Shape := ⟨2, ![4096, 1024]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeReferenceIdeal.lean ====
abbrev S4096x7680 : Shape := ⟨2, ![4096, 7680]⟩
abbrev S4096x1024 : Shape := ⟨2, ![4096, 1024]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MergeGrad.lean ====
abbrev S4096x1024 : Shape := ⟨2, ![4096, 1024]⟩
abbrev S4096x7680 : Shape := ⟨2, ![4096, 7680]⟩
abbrev S512x1024 : Shape := ⟨2, ![512, 1024]⟩
abbrev S512x2048 : Shape := ⟨2, ![512, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x1024, .f32⟩
  | .hbm, ⟨3, _⟩ => ⟨S4096x1024, .f32⟩
  | .hbm, ⟨4, _⟩ => ⟨S4096x7680, .bf16⟩
  | .hbm, ⟨5, _⟩ => ⟨S4096x7680, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeGradReferenceIdeal.lean ====
abbrev S4096x1024 : Shape := ⟨2, ![4096, 1024]⟩
abbrev S4096x7680 : Shape := ⟨2, ![4096, 7680]⟩
abbrev S4096x2048 : Shape := ⟨2, ![4096, 2048]⟩
abbrev S_ : Shape := ⟨0, ![]⟩
abbrev S4096x4096 : Shape := ⟨2, ![4096, 4096]⟩
abbrev S4096x1536 : Shape := ⟨2, ![4096, 1536]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7680, .f32⟩
  | .hbm, ⟨2, _⟩ => ⟨S4096x1024, .f32⟩
  | .hbm, ⟨3, _⟩ => ⟨S4096x1024, .f32⟩
  | .hbm, ⟨4, _⟩ => ⟨S4096x7680, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x4096, .bf16⟩
  | .hbm, ⟨45, _⟩ => ⟨S4096x2048, .bf16⟩
  | .hbm, ⟨46, _⟩ => ⟨S4096x1536, .bf16⟩
  | .hbm, ⟨47, _⟩ => ⟨S4096x7680, .bf16⟩
  | .hbm, ⟨48, _⟩ => ⟨S4096x1024, .bf16⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Run.lean ====
/-
  One grid point of the kernel, run once for each of its two cases: the first key block of a pair of heads, where the
  query gradient's and the query gate's blocks are zeroed, and the others.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The program's own test that the key block's index is zero. -/
abbrev Starts (i : grid0.Coords) : Prop :=
  (Scalar.cmpi .ne (Scalar.extui (Scalar.cmpi .eq (BitVec.ofNat 32 (i 1).val) 0#32)) 0#32) = 1#1

/-- It holds exactly at the first of every eight points. -/
theorem starts_iff (t : Fin cfg0.N) : Starts (grid0.coords t) ↔ t.val % 8 = 0 := by
  have e : ((grid0.coords t) 1).val = t.val % 8 := by
    have e1 : (grid0.coords t 1).val = t.val / 1 % 8 := Pipeline.Grid.coords_val t 1 (by decide) rfl
    omega
  have h : t.val % 8 < 8 := Nat.mod_lt _ (by decide)
  simp only [Starts, e]
  generalize t.val % 8 = r at h
  interval_cases r <;> decide

set_option maxHeartbeats 4000000 in
/-- The body where the query blocks are zeroed first: what it stores in each output, found by running it. -/
@[irreducible] def runA (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)
    (hc : Starts i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (g10 : BufTy.Contents (Elt F) arg10.view.ty) (g11 : BufTy.Contents (Elt F) arg11.view.ty)
      (g12 : BufTy.Contents (Elt F) arg12.view.ty) (g13 : BufTy.Contents (Elt F) arg13.view.ty),
      { g14 : BufTy.Contents (Elt F) arg14.view.ty // ∀ (E : Set ℕ) (K : PUnit → sProp 𝕄),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) -∗ K ⟨⟩))
        ⊢ wp frame (wpE (defs₀ (F := F)) Variants.none c none) E (cc0_flash_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14) K } := by
  refine ⟨?_, ?_, ?_, ?_, ?_, fun E K => ?run⟩
  case run =>
    simp only [cc0_flash_bwd_eq_skeleton]; unfold cc0_flash_bwd_skel
    simp only [k0_part5_eq_skeleton, k0_part6_eq_skeleton, k0_part7_eq_skeleton, k0_part8_eq_skeleton]
    iintro ⟨H2, H3, H4, H5, H6, H7, H8, H10, H11, H12, H13, H14, Hk⟩
    sl_exec (disch := first | sl_exact hc)
    sl_step
    iapply Hk
    sl_close

set_option maxHeartbeats 4000000 in
/-- The body at the other points: what it stores in each output, found by running it. -/
@[irreducible] def runB (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)
    (hc : ¬Starts i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (g10 : BufTy.Contents (Elt F) arg10.view.ty) (g11 : BufTy.Contents (Elt F) arg11.view.ty)
      (g12 : BufTy.Contents (Elt F) arg12.view.ty) (g13 : BufTy.Contents (Elt F) arg13.view.ty),
      { g14 : BufTy.Contents (Elt F) arg14.view.ty // ∀ (E : Set ℕ) (K : PUnit → sProp 𝕄),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) -∗ K ⟨⟩))
        ⊢ wp frame (wpE (defs₀ (F := F)) Variants.none c none) E (cc0_flash_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14) K } := by
  refine ⟨?_, ?_, ?_, ?_, ?_, fun E K => ?run⟩
  case run =>
    simp only [cc0_flash_bwd_eq_skeleton]; unfold cc0_flash_bwd_skel
    simp only [k0_part5_eq_skeleton, k0_part6_eq_skeleton, k0_part7_eq_skeleton, k0_part8_eq_skeleton]
    iintro ⟨H2, H3, H4, H5, H6, H7, H8, H10, H11, H12, H13, H14, Hk⟩
    sl_exec (disch := first | sl_exact hc)
    sl_step
    iapply Hk
    sl_close

end Cert.KernelIdeal.Run
-- ==== Proof.Trip.lean ====
/-
  What one trip of the kernel's loop over query blocks yields and stores, as the program's own arithmetic over the
  blocks it reads.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.WritesUnit
public import proofs.«01_k».proof.Proof.Run

@[expose] public section

set_option maxRecDepth 16384

noncomputable section

namespace Cert.KernelIdeal.Run

open Cert.KernelIdeal Cert.KernelIdeal.Gen
open Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop carries: the key gradient, the value gradient and the two heads' key-gate columns. -/
abbrev Acc (F : FTy → Type) [FloatOps F] : Type :=
  FVec F S512x128 .f32 × FVec F S512x128 .f32 × FVec F S512x1 .f32 × FVec F S512x1 .f32

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg9 : Memref sig .tc .hbm S4096x7680 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole) (v7 : IVec S512x128 1) (v12 : IVec S512x128 1) (v19 : FVec F S512x128 .bf16) (v23 : FVec F S512x128 .bf16) (v27 : FVec F S512x128 .bf16) (v31 : FVec F S512x128 .bf16) (v39 : FVec F S512x1 .f32) (v47 : FVec F S512x1 .f32) (v160 : BitVec 32)
  (X2 : BufTy.Contents (Elt F) arg2.view.ty) (X3 : BufTy.Contents (Elt F) arg3.view.ty)
  (X7 : BufTy.Contents (Elt F) arg7.view.ty) (X8 : BufTy.Contents (Elt F) arg8.view.ty)
  (f12 : BufTy.Contents (Elt F) arg12.view.ty) (f13 : BufTy.Contents (Elt F) arg13.view.ty)
  (k : Fin (k0_t1_loop i).trips) (acc : Acc F)

/-- The rectangle of the query rows a trip works on. -/
abbrev rowsR (i : grid0.Coords) (k : Fin (k0_t1_loop i).trips) : Rect S4096x128 :=
  Rect.unit (s := S4096x128) (k0_off4 i k) S512x128.size (k0_off4_inb i k)
/-- The rectangle of the first head's line for that query block. -/
abbrev line0R (i : grid0.Coords) (k : Fin (k0_t1_loop i).trips) : Rect S2x8x1x512 :=
  Rect.unit (s := S2x8x1x512) (k0_off5 i k) S1x1x1x512.size (k0_off5_inb i k)
/-- The rectangle of the second head's line for that query block. -/
abbrev line1R (i : grid0.Coords) (k : Fin (k0_t1_loop i).trips) : Rect S2x8x1x512 :=
  Rect.unit (s := S2x8x1x512) (k0_off6 i k) S1x1x1x512.size (k0_off6_inb i k)

/-- The four carried values a trip yields, over the values it reads. -/
abbrev tripAcc (v7 v12 : IVec S512x128 1) (v19 v23 v27 v31 : FVec F S512x128 .bf16) (v39 v47 : FVec F S512x1 .f32)
    (q g : Vec F S512x128 .bf16) (l0 d0 l1 d1 : Vec F S1x1x1x512 .f32) (acc : Acc F) : Acc F :=
  (k0_pay23 v12 v23 v31 v47 q g (k0_pay14 v7 v19 v27 v39 acc.1 q g l0 d0) l1 d1,
   k0_pay20 v12 v23 v47 q g (k0_pay11 v7 v19 v39 acc.2.1 q g l0) l1,
   k0_pay18 acc.2.2.1 (k0_pay12 v19 v27 v39 q g l0 d0),
   k0_pay2 acc.2.2.2 (k0_pay21 v23 v31 v47 q g l1 d1))

theorem tripR_eq : tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v7 v12 v19 v23 v27 v31 v39 v47 v160 X2 X3 X7 X8 k acc f12 f13
    = tripAcc v7 v12 v19 v23 v27 v31 v39 v47 (arg2.view.readAt (Elt F) (rowsR i k).toLoadRect X2)
        (arg3.view.readAt (Elt F) (rowsR i k).toLoadRect X3)
        (arg7.view.readAt (Elt F) (line0R i k).toLoadRect X7) (arg8.view.readAt (Elt F) (line0R i k).toLoadRect X8)
        (arg7.view.readAt (Elt F) (line1R i k).toLoadRect X7) (arg8.view.readAt (Elt F) (line1R i k).toLoadRect X8) acc := by
  unfold tripR_k0_t1 trip_k0_t1
  rfl

theorem tripL_eq : tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v7 v12 v19 v23 v27 v31 v39 v47 v160 X2 X3 X7 X8 k acc f12 f13
    = ([⟨rowsR i k, k0_pay3
          (k0_pay15 v19 v27 v39 (arg2.view.readAt (Elt F) (rowsR i k).toLoadRect X2)
            (arg3.view.readAt (Elt F) (rowsR i k).toLoadRect X3) (arg7.view.readAt (Elt F) (line0R i k).toLoadRect X7)
            (arg8.view.readAt (Elt F) (line0R i k).toLoadRect X8))
          (k0_pay24 v23 v31 v47 (arg2.view.readAt (Elt F) (rowsR i k).toLoadRect X2)
            (arg3.view.readAt (Elt F) (rowsR i k).toLoadRect X3) (arg7.view.readAt (Elt F) (line1R i k).toLoadRect X7)
            (arg8.view.readAt (Elt F) (line1R i k).toLoadRect X8))
          (arg12.view.readAt (Elt F) (rowsR i k).toLoadRect f12)⟩],
       [⟨line1R i k, k0_pay1
          (k0_pay21 v23 v31 v47 (arg2.view.readAt (Elt F) (rowsR i k).toLoadRect X2)
            (arg3.view.readAt (Elt F) (rowsR i k).toLoadRect X3) (arg7.view.readAt (Elt F) (line1R i k).toLoadRect X7)
            (arg8.view.readAt (Elt F) (line1R i k).toLoadRect X8))
          (arg13.view.readAt (Elt F) (line1R i k).toLoadRect f13)⟩,
        ⟨line0R i k, k0_pay17
          (k0_pay12 v19 v27 v39 (arg2.view.readAt (Elt F) (rowsR i k).toLoadRect X2)
            (arg3.view.readAt (Elt F) (rowsR i k).toLoadRect X3) (arg7.view.readAt (Elt F) (line0R i k).toLoadRect X7)
            (arg8.view.readAt (Elt F) (line0R i k).toLoadRect X8))
          (k0_pay16 (arg13.view.readAt (Elt F) (line0R i k).toLoadRect f13))⟩]) := by
  unfold tripL_k0_t1 trip_k0_t1
  rfl

end Cert.KernelIdeal.Run
-- ==== Proof.Body.lean ====
/-
  What one grid point leaves in each output, over what it found there: the step at the diagonal block, then the loop.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.WritesUnit
public import proofs.«01_k».proof.Proof.Trip

@[expose] public section

set_option maxRecDepth 16384

noncomputable section

namespace Cert.KernelIdeal.Run

open Cert.KernelIdeal Cert.KernelIdeal.Gen
open Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rectangle of the query rows of the diagonal block. -/
abbrev diagR (i : grid0.Coords) : Rect S4096x128 := Rect.unit (s := S4096x128) (k0_off1 i) S512x128.size (k0_off1_inb i)
/-- The first head's line of the diagonal block. -/
abbrev diag0R (i : grid0.Coords) : Rect S2x8x1x512 := Rect.unit (s := S2x8x1x512) (k0_off2 i) S1x1x1x512.size (k0_off2_inb i)
/-- The second head's line of the diagonal block. -/
abbrev diag1R (i : grid0.Coords) : Rect S2x8x1x512 := Rect.unit (s := S2x8x1x512) (k0_off3 i) S1x1x1x512.size (k0_off3_inb i)
/-- The whole rectangle of a block of keys. -/
abbrev wholeR : Rect S512x128 := Rect.unit (s := S512x128) ![0, 0] S512x128.size inb_S512x128_S512x128_0_0

abbrev rK (a : Memref sig .tc .vmem S512x128 .bf16) (X : BufTy.Contents (Elt F) a.view.ty) : Vec F S512x128 .bf16 :=
  a.view.readAt (Elt F) wholeR.toLoadRect X
abbrev rF (a : Memref sig .tc .vmem S512x128 .f32) (X : BufTy.Contents (Elt F) a.view.ty) : Vec F S512x128 .f32 :=
  a.view.readAt (Elt F) wholeR.toLoadRect X
abbrev rQ (i : grid0.Coords) (a : Memref sig .tc .vmem S4096x128 .bf16) (X : BufTy.Contents (Elt F) a.view.ty) : Vec F S512x128 .bf16 :=
  a.view.readAt (Elt F) (diagR i).toLoadRect X
abbrev rL0 (i : grid0.Coords) (a : Memref sig .tc .vmem S2x8x1x512 .f32) (X : BufTy.Contents (Elt F) a.view.ty) : Vec F S1x1x1x512 .f32 :=
  a.view.readAt (Elt F) (diag0R i).toLoadRect X
abbrev rL1 (i : grid0.Coords) (a : Memref sig .tc .vmem S2x8x1x512 .f32) (X : BufTy.Contents (Elt F) a.view.ty) : Vec F S1x1x1x512 .f32 :=
  a.view.readAt (Elt F) (diag1R i).toLoadRect X

/-- The second head's key-gate column. -/
abbrev fs1 (i : grid0.Coords) (fk : Vec F S512x128 .f32) : FVec F S512x1 .f32 :=
  k0_pay47 (BitVec.ofNat 32 (i 0).val) (iota .tc S512x128 32 [1] iota_S512x128_d1_w32) fk
/-- The first head's weights on the diagonal block. -/
abbrev p0 (i : grid0.Coords) (kb : Vec F S512x128 .bf16) (fk : Vec F S512x128 .f32) (q : Vec F S512x128 .bf16)
    (l0 : Vec F S1x1x1x512 .f32) : FVec F S512x512 .f32 :=
  k0_pay54 (iota .tc S512x512 32 [0] iota_S512x512_d0_w32) (iota .tc S512x512 32 [1] iota_S512x512_d1_w32)
    (k0_pay42 kb) (k0_pay46 i fk) q l0
/-- The same, rounded for the product. -/
abbrev p0b (i : grid0.Coords) (kb : Vec F S512x128 .bf16) (fk : Vec F S512x128 .f32) (q : Vec F S512x128 .bf16)
    (l0 : Vec F S1x1x1x512 .f32) : FVec F S512x512 .bf16 :=
  k0_pay55 (iota .tc S512x512 32 [0] iota_S512x512_d0_w32) (iota .tc S512x512 32 [1] iota_S512x512_d1_w32)
    (k0_pay42 kb) (k0_pay46 i fk) q l0
/-- The second head's masked scores on the diagonal block. -/
abbrev s1 (i : grid0.Coords) (kb : Vec F S512x128 .bf16) (fk : Vec F S512x128 .f32) (q : Vec F S512x128 .bf16) : FVec F S512x512 .f32 :=
  k0_pay65 (iota .tc S512x512 32 [0] iota_S512x512_d0_w32) (iota .tc S512x512 32 [1] iota_S512x512_d1_w32)
    (k0_pay43 kb) (fs1 i fk) q

/-- The arithmetic of the diagonal step: what it leaves in the four carried values. -/
abbrev diagAcc (i : grid0.Coords) (kb vb : Vec F S512x128 .bf16) (fk : Vec F S512x128 .f32) (q g : Vec F S512x128 .bf16)
    (l0 d0 l1 d1 : Vec F S1x1x1x512 .f32) : Acc F :=
  (k0_pay70 (k0_pay45 vb) g (k0_pay59 (k0_pay44 vb) k0_pay50 g (k0_pay52 k0_pay40 q) (p0 i kb fk q l0) d0) (k0_pay63 k0_pay41 q) (s1 i kb fk q) l1 d1,
   k0_pay67 (k0_pay56 k0_pay50 (k0_pay53 k0_pay40 g) (p0b i kb fk q l0) (constant S512x128 .f32 0x00000000#32)) (k0_pay64 k0_pay41 g) (s1 i kb fk q) l1,
   k0_pay62 (k0_pay44 vb) k0_pay51 g (p0 i kb fk q l0) d0,
   k0_pay72 (k0_pay45 vb) k0_pay51 g (s1 i kb fk q) l1 d1)

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

section
variable (b12 : BufTy.Contents (Elt F) arg12.view.ty) (b13 : BufTy.Contents (Elt F) arg13.view.ty) (o : Vec F S1x1x1x512 .f32)

/-- The query gradient's buffer after the diagonal step. -/
abbrev diag12 : BufTy.Contents (Elt F) arg12.view.ty :=
  arg12.view.writes (Elt F) b12 [⟨diagR i, k0_pay73 (k0_pay43 (rK arg4 X4)) (k0_pay45 (rK arg5 X5)) (rQ i arg3 X3)
    (k0_pay60 (k0_pay42 (rK arg4 X4)) (k0_pay44 (rK arg5 X5)) (rQ i arg3 X3)
      (p0 i (rK arg4 X4) (rF arg6 X6) (rQ i arg2 X2) (rL0 i arg7 X7)) (rL0 i arg8 X8))
    (s1 i (rK arg4 X4) (rF arg6 X6) (rQ i arg2 X2)) (rL1 i arg7 X7) (rL1 i arg8 X8)
    (arg12.view.readAt (Elt F) (diagR i).toLoadRect b12)⟩]

/-- The first head's line of the query gate's gradient after the diagonal step. -/
abbrev diagPiece0 : View.Piece (Elt F) S2x8x1x512 .f32 :=
  ⟨diag0R i, k0_pay61 (k0_pay44 (rK arg5 X5)) (rQ i arg3 X3)
    (p0 i (rK arg4 X4) (rF arg6 X6) (rQ i arg2 X2) (rL0 i arg7 X7)) (rL0 i arg8 X8)
    (arg13.view.readAt (Elt F) (diag0R i).toLoadRect b13)⟩

/-- The second head's line, over the old line `o`. -/
abbrev diagPiece1 : View.Piece (Elt F) S2x8x1x512 .f32 :=
  ⟨diag1R i, k0_pay71 (k0_pay45 (rK arg5 X5)) (rQ i arg3 X3)
    (s1 i (rK arg4 X4) (rF arg6 X6) (rQ i arg2 X2)) (rL1 i arg7 X7) (rL1 i arg8 X8) o⟩

/-- The query gate's buffer after the diagonal step. -/
abbrev diag13 : BufTy.Contents (Elt F) arg13.view.ty :=
  arg13.view.writes (Elt F) b13 [diagPiece1 i arg2 arg3 arg4 arg5 arg6 arg7 arg8 X2 X3 X4 X5 X6 X7 X8 o, diagPiece0 i arg2 arg3 arg4 arg5 arg6 arg7 arg8 arg13 X2 X3 X4 X5 X6 X7 X8 b13]

/-- The loop's state after its last trip, begun from the diagonal step. -/
abbrev endSt : (Acc F) × List (View.Piece (Elt F) S4096x128 .f32) × List (View.Piece (Elt F) S2x8x1x512 .f32) :=
  st_k0_t1 (F := F) Variants.none c none i arg2 harg2 arg3 harg3 arg4 harg4 arg5 harg5 arg6 harg6 arg7 harg7 arg8 harg8 (Memref.whole main_arg5) (Memref.isWhole_whole _) arg10 harg10 arg11 harg11 arg12 harg12 arg13 harg13 arg14 harg14 k0_pay40 k0_pay41 (k0_pay42 (rK arg4 X4)) (k0_pay43 (rK arg4 X4))
    (k0_pay44 (rK arg5 X5)) (k0_pay45 (rK arg5 X5)) (k0_pay46 i (rF arg6 X6)) (fs1 i (rF arg6 X6))
    (Scalar.addi (BitVec.ofNat 32 (i 1).val) 1#32) X2 X3 X7 X8 (diag12 i arg2 arg3 arg4 arg5 arg6 arg7 arg8 arg12 X2 X3 X4 X5 X6 X7 X8 b12) (diag13 i arg2 arg3 arg4 arg5 arg6 arg7 arg8 arg13 X2 X3 X4 X5 X6 X7 X8 b13 o)
    (diagAcc i (rK arg4 X4) (rK arg5 X5) (rF arg6 X6) (rQ i arg2 X2) (rQ i arg3 X3) (rL0 i arg7 X7) (rL0 i arg8 X8)
      (rL1 i arg7 X7) (rL1 i arg8 X8))
    (k0_t1_loop i).trips
end

theorem runB_10 (hc : ¬Starts i) : (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).1 = arg10.view.writes (Elt F) f10 [⟨wholeR, k0_pay7 (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).1.1⟩] := by
  unfold runB
  rfl

theorem runB_11 (hc : ¬Starts i) : (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.1 = arg11.view.writes (Elt F) f11 [⟨wholeR, k0_pay8 (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).1.2.1⟩] := by
  unfold runB
  rfl

theorem runB_12 (hc : ¬Starts i) : (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.1 = arg12.view.writes (Elt F) (diag12 i arg2 arg3 arg4 arg5 arg6 arg7 arg8 arg12 X2 X3 X4 X5 X6 X7 X8 f12) (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).2.1 := by
  rw [← View.writes_append]
  unfold runB
  rfl

theorem runB_13 (hc : ¬Starts i) : (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.1 = arg13.view.writes (Elt F) (diag13 i arg2 arg3 arg4 arg5 arg6 arg7 arg8 arg13 X2 X3 X4 X5 X6 X7 X8 f13 (arg13.view.readAt (Elt F) (diag1R i).toLoadRect f13)) (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).2.2 := by
  rw [← View.writes_append]
  unfold runB
  rfl

theorem runB_14 (hc : ¬Starts i) : (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.2.1 = arg14.view.writes (Elt F) f14
    [⟨wholeR, k0_pay9 (iota .tc S512x128 32 [1] iota_S512x128_d1_w32) (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).1.2.2.1 (endSt c i arg2 harg2 arg3 harg3 arg4 harg4 arg5 harg5 arg6 harg6 arg7 harg7 arg8 harg8 arg10 harg10 arg11 harg11 arg12 harg12 arg13 harg13 arg14 harg14 X2 X3 X4 X5 X6 X7 X8 f12 f13 (arg13.view.readAt (Elt F) (diag1R i).toLoadRect f13)).1.2.2.2⟩] := by
  unfold runB
  dsimp only
  sl_unfold_words
  rfl

/-- The query gradient's buffer just zeroed. -/
abbrev zero12 (a : Memref sig .tc .vmem S4096x128 .f32) : BufTy.Contents (Elt F) a.view.ty :=
  a.view.writes (Elt F) a.view.junk [⟨Rect.unit (s := S4096x128) ![0, 0] S4096x128.size inb_S4096x128_S4096x128_0_0, k0_pay49⟩]
/-- The query gate's buffer just zeroed. -/
abbrev zero13 (a : Memref sig .tc .vmem S2x8x1x512 .f32) : BufTy.Contents (Elt F) a.view.ty :=
  a.view.writes (Elt F) a.view.junk [⟨Rect.unit (s := S2x8x1x512) ![0, 0, 0, 0] S2x8x1x512.size inb_S2x8x1x512_S2x8x1x512_0_0_0_0, k0_pay48⟩]

theorem runA_10 (hc : Starts i) : (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).1 = arg10.view.writes (Elt F) f10 [⟨wholeR, k0_pay7 (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).1.1⟩] := by
  unfold endSt diag12 diag13 diagPiece0 zero12 zero13
  simp only [← View.writes_append, List.cons_append, List.nil_append]
  unfold runA
  dsimp only
  sl_unfold_words
  rfl

theorem runA_11 (hc : Starts i) : (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.1 = arg11.view.writes (Elt F) f11 [⟨wholeR, k0_pay8 (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).1.2.1⟩] := by
  unfold endSt diag12 diag13 diagPiece0 zero12 zero13
  simp only [← View.writes_append, List.cons_append, List.nil_append]
  unfold runA
  dsimp only
  sl_unfold_words
  rfl

theorem runA_12 (hc : Starts i) : (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.1 = arg12.view.writes (Elt F) (diag12 i arg2 arg3 arg4 arg5 arg6 arg7 arg8 arg12 X2 X3 X4 X5 X6 X7 X8 (zero12 arg12)) (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).2.1 := by
  unfold endSt diag12 diag13 diagPiece0 zero12 zero13
  simp only [← View.writes_append, List.cons_append, List.nil_append]
  unfold runA
  dsimp only
  sl_unfold_words
  rfl

theorem runA_13 (hc : Starts i) : (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.1 = arg13.view.writes (Elt F) (diag13 i arg2 arg3 arg4 arg5 arg6 arg7 arg8 arg13 X2 X3 X4 X5 X6 X7 X8 (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))) (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).2.2 := by
  unfold endSt diag12 diag13 diagPiece0 zero12 zero13
  simp only [← View.writes_append, List.cons_append, List.nil_append]
  unfold runA
  dsimp only
  sl_unfold_words
  rfl

theorem runA_14 (hc : Starts i) : (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.2.1 = arg14.view.writes (Elt F) f14
    [⟨wholeR, k0_pay9 (iota .tc S512x128 32 [1] iota_S512x128_d1_w32) (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).1.2.2.1 (endSt c i arg2 harg2 arg3 harg3 arg4 harg4 arg5 harg5 arg6 harg6 arg7 harg7 arg8 harg8 arg10 harg10 arg11 harg11 arg12 harg12 arg13 harg13 arg14 harg14 X2 X3 X4 X5 X6 X7 X8 (zero12 arg12) (zero13 arg13) (arg13.view.readAt (Elt F) (diag1R i).toLoadRect (arg13.view.writes (Elt F) (zero13 arg13) [diagPiece0 i arg2 arg3 arg4 arg5 arg6 arg7 arg8 arg13 X2 X3 X4 X5 X6 X7 X8 (zero13 arg13)]))).1.2.2.2⟩] := by
  unfold endSt diag12 diag13 diagPiece0 zero12 zero13
  simp only [← View.writes_append, List.cons_append, List.nil_append]
  unfold runA
  dsimp only
  sl_unfold_words
  rfl

end Cert.KernelIdeal.Run
-- ==== Proof.Pay.lean ====
/-
  The kernel's arithmetic at an index, over the extended reals: each stored or carried value as sums over the blocks.
-/
module

public import proofs.«01_k».proof.Proof.Body
public import Idealize.ShloMosaic.Lib.Pointwise
public import Idealize.ShloMosaic.Lib.Tactic.WordOmega

@[expose] public section

set_option maxRecDepth 16384

noncomputable section

namespace Cert.KernelIdeal.Run

open Cert.KernelIdeal Cert.KernelIdeal.Gen
open Idealize.ShloMosaic Idealize.ShloMosaic.TcCoe

/-- `x` on the lanes of head `j` of the pair, zero on the other head's. -/
def half (j : Fin 2) (x : EReal) (e : Fin 128) : EReal := if e.val / 64 = j.val then x else 0

/-- Position `b` of query block `n`. -/
def row (n : Fin 8) (b : Fin 512) : Fin 4096 := ⟨512 * n.val + b.val, by have := n.isLt; have := b.isLt; omega⟩

/-- What a grid point reads: its pair of heads and its key block; all queries and their cotangents; the block's keys and
values; the key gates; each query's log-sum and delta. -/
structure Pt where
  pair : Fin 8
  kb : Fin 8
  q : Fin 4096 → Fin 128 → EReal
  g : Fin 4096 → Fin 128 → EReal
  k : Fin 512 → Fin 128 → EReal
  v : Fin 512 → Fin 128 → EReal
  fk : Fin 512 → Fin 128 → EReal
  l : Fin 2 → Fin 8 → Fin 512 → EReal
  d : Fin 2 → Fin 8 → Fin 512 → EReal

namespace Pt

variable (I : Pt)

/-- The gate's lane of head `j`. -/
def lane (j : Fin 2) : Fin 128 := ⟨2 * I.pair.val + j.val, by have := I.pair.isLt; have := j.isLt; omega⟩

/-- Key `a` against position `b` of query block `n`, without the query's gate. -/
def score (j : Fin 2) (n : Fin 8) (a b : Fin 512) : EReal :=
  (∑ e, half j (I.k a e) e * I.q (row n b) e) - I.fk a (I.lane j)

/-- The weight: the exponential of the score less the log-sum, nothing above the diagonal. -/
def wt (j : Fin 2) (n : Fin 8) (a b : Fin 512) : EReal :=
  Ideal.exp ((if n = I.kb ∧ ¬a ≤ b then ⊥ else I.score j n a b) - I.l j n b)

/-- The score's gradient. -/
def ds (j : Fin 2) (n : Fin 8) (a b : Fin 512) : EReal :=
  I.wt j n a b * ((∑ e, half j (I.v a e) e * I.g (row n b) e) - I.d j n b)

/-- Query block `n`'s part of the value gradient. -/
def cV (n : Fin 8) (a : Fin 512) (e : Fin 128) : EReal := ∑ j, ∑ b, I.wt j n a b * half j (I.g (row n b) e) e
/-- Query block `n`'s part of the key gradient. -/
def cK (n : Fin 8) (a : Fin 512) (e : Fin 128) : EReal := ∑ j, ∑ b, I.ds j n a b * half j (I.q (row n b) e) e
/-- The key block's part of the query gradient. -/
def cQ (n : Fin 8) (b : Fin 512) (e : Fin 128) : EReal := ∑ j, ∑ a, I.ds j n a b * half j (I.k a e) e
/-- The key block's part of the query gate's gradient. -/
def cF (j : Fin 2) (n : Fin 8) (b : Fin 512) : EReal := ∑ a, I.ds j n a b
/-- Query block `n`'s part of the key gate's gradient, before the sign. -/
def cG (j : Fin 2) (n : Fin 8) (a : Fin 512) : EReal := ∑ b, I.ds j n a b

end Pt

theorem mask0 : ∀ e : Fin 128, (IntOp.andi (IntOp.cmpi .sge (BitVec.ofNat 32 e.val) 0#32)
    (IntOp.cmpi .slt (BitVec.ofNat 32 e.val) 64#32)) = BitVec.ofBool (decide (e.val / 64 = 0)) := by decide +kernel
theorem mask1 : ∀ e : Fin 128, (IntOp.andi (IntOp.cmpi .sge (BitVec.ofNat 32 e.val) 64#32)
    (IntOp.cmpi .slt (BitVec.ofNat 32 e.val) 128#32)) = BitVec.ofBool (decide (e.val / 64 = 1)) := by decide +kernel
theorem mask2 : ∀ e : Fin 128, (IntOp.cmpi .slt (BitVec.ofNat 32 e.val) 64#32) = BitVec.ofBool (decide (e.val / 64 = 0)) := by
  decide +kernel
theorem lane0 : ∀ (h : Fin 8) (e : Fin 128), IntOp.cmpi .eq (BitVec.ofNat 32 e.val)
    (Scalar.addi (Scalar.muli 2#32 (BitVec.ofNat 32 h.val)) 0#32) = BitVec.ofBool (decide (e.val = 2 * h.val)) := by decide +kernel
theorem lane1 : ∀ (h : Fin 8) (e : Fin 128), IntOp.cmpi .eq (BitVec.ofNat 32 e.val)
    (Scalar.addi (Scalar.muli 2#32 (BitVec.ofNat 32 h.val)) 1#32) = BitVec.ofBool (decide (e.val = 2 * h.val + 1)) := by decide +kernel
theorem sle_iff (a b : Fin 512) : IntOp.cmpi .sle (BitVec.ofNat 32 a.val) (BitVec.ofNat 32 b.val) = BitVec.ofBool (decide (a ≤ b)) := by
  have ha := a.isLt
  have hb := b.isLt
  have e : ∀ n : ℕ, n < 512 → (BitVec.ofNat 32 n).toInt = n := fun n h => by
    have h2 : (BitVec.ofNat 32 n).toNat = n := by rw [BitVec.toNat_ofNat]; exact Nat.mod_eq_of_lt (by omega)
    rw [BitVec.toInt_eq_toNat_of_lt (by rw [h2]; omega), h2]
  have : BitVec.sle (BitVec.ofNat 32 a.val) (BitVec.ofNat 32 b.val) = decide (a ≤ b) := by
    rw [BitVec.sle, e _ ha, e _ hb]
    exact decide_eq_decide.mpr (by rw [Fin.le_def]; exact Int.ofNat_le)
  exact congrArg BitVec.ofBool this

theorem select_half0 (x : EReal) (e : Fin 128) : Scalar.select (BitVec.ofBool (decide (e.val / 64 = 0))) x 0 = half 0 x e := by
  unfold half
  by_cases h : e.val / 64 = 0 <;> simp [h, Scalar.select]
theorem select_half1 (x : EReal) (e : Fin 128) : Scalar.select (BitVec.ofBool (decide (e.val / 64 = 1))) x 0 = half 1 x e := by
  unfold half
  by_cases h : e.val / 64 = 1 <;> simp [h, Scalar.select]

theorem mask_bot : (Named.named (F := Ideal) κ "mask" 0xF149F2CA#32 : Ideal .f32) = (⊥ : EReal) :=
  IdealRules.named_const.ideal_named_scalar _ _ _ _ rfl

theorem pay42_at (x : Vec Ideal S512x128 .bf16) (a : Fin 512) (e : Fin 128) : k0_pay42 x (ix2 a e) = half 0 (x (ix2 a e)) e := by
  pointwise [k0_pay42, k0_pay40]
  rw [mask0, select_half0]
theorem pay43_at (x : Vec Ideal S512x128 .bf16) (a : Fin 512) (e : Fin 128) : k0_pay43 x (ix2 a e) = half 1 (x (ix2 a e)) e := by
  pointwise [k0_pay43, k0_pay41]
  rw [mask1, select_half1]
theorem pay44_at (x : Vec Ideal S512x128 .bf16) (a : Fin 512) (e : Fin 128) : k0_pay44 x (ix2 a e) = half 0 (x (ix2 a e)) e := by
  pointwise [k0_pay44, k0_pay40]
  rw [mask0, select_half0]
theorem pay45_at (x : Vec Ideal S512x128 .bf16) (a : Fin 512) (e : Fin 128) : k0_pay45 x (ix2 a e) = half 1 (x (ix2 a e)) e := by
  pointwise [k0_pay45, k0_pay41]
  rw [mask1, select_half1]

theorem pay46_at (i : grid0.Coords) (x : Vec Ideal S512x128 .f32) (a : Fin 512) (p : Fin 128) (hp : p.val = 2 * (i 0).val) :
    k0_pay46 i x (ix2 a 0) = x (ix2 a p) := by
  pointwise [k0_pay46]
  have h8 : (i 0).val < 8 := (i 0).isLt
  rw [Finset.sum_eq_single p]
  · rw [lane0 ⟨(i 0).val, h8⟩ p]; simp [hp, Scalar.select]
  · intro e _ he
    rw [lane0 ⟨(i 0).val, h8⟩ e]
    have : ¬e.val = 2 * (i 0).val := fun h => he (Fin.ext (h.trans hp.symm))
    simp [this, Scalar.select]
  · intro h; exact absurd (Finset.mem_univ _) h
theorem fs1_at (i : grid0.Coords) (x : Vec Ideal S512x128 .f32) (a : Fin 512) (p : Fin 128) (hp : p.val = 2 * (i 0).val + 1) :
    fs1 i x (ix2 a 0) = x (ix2 a p) := by
  pointwise [fs1, k0_pay47]
  have h8 : (i 0).val < 8 := (i 0).isLt
  rw [Finset.sum_eq_single p]
  · rw [lane1 ⟨(i 0).val, h8⟩ p]; simp [hp, Scalar.select]
  · intro e _ he
    rw [lane1 ⟨(i 0).val, h8⟩ e]
    have : ¬e.val = 2 * (i 0).val + 1 := fun h => he (Fin.ext (h.trans hp.symm))
    simp [this, Scalar.select]
  · intro h; exact absurd (Finset.mem_univ _) h

end Cert.KernelIdeal.Run
-- ==== Proof.Step.lean ====
/-
  One step of the kernel over a query block, at an index: the carried values gain that block's part of each gradient.
-/
module

public import proofs.«01_k».proof.Proof.Pay
public import Idealize.ShloMosaic.Lib.Pointwise
public import Idealize.ShloMosaic.Lib.Tactic.WordOmega

@[expose] public section

set_option maxRecDepth 16384

noncomputable section

namespace Cert.KernelIdeal.Run

open Cert.KernelIdeal Cert.KernelIdeal.Gen
open Idealize.ShloMosaic Idealize.ShloMosaic.TcCoe

/-- Keeping a product's lanes is keeping one factor's. -/
theorem half_mul (j : Fin 2) (x y : EReal) (e : Fin 128) : half j (x * y) e = x * half j y e := by
  unfold half; split <;> simp

variable (I : Pt)

/-- The blocks a step loads are the grid point's data at query block `n`. -/
structure Loads (i : grid0.Coords) (n : Fin 8) (kb vb : Vec Ideal S512x128 .bf16) (fk : Vec Ideal S512x128 .f32)
    (q g : Vec Ideal S512x128 .bf16) (l0 d0 l1 d1 : Vec Ideal S1x1x1x512 .f32) : Prop where
  pair : I.pair.val = (i 0).val
  k : ∀ a e, kb (ix2 a e) = I.k a e
  v : ∀ a e, vb (ix2 a e) = I.v a e
  fk : ∀ a e, fk (ix2 a e) = I.fk a e
  q : ∀ b e, q (ix2 b e) = I.q (row n b) e
  g : ∀ b e, g (ix2 b e) = I.g (row n b) e
  l0 : ∀ b, l0 (ix4 0 0 0 b) = I.l 0 n b
  d0 : ∀ b, d0 (ix4 0 0 0 b) = I.d 0 n b
  l1 : ∀ b, l1 (ix4 0 0 0 b) = I.l 1 n b
  d1 : ∀ b, d1 (ix4 0 0 0 b) = I.d 1 n b

variable {I} {i : grid0.Coords} {n : Fin 8} {kb vb : Vec Ideal S512x128 .bf16} {fk : Vec Ideal S512x128 .f32}
  {q g : Vec Ideal S512x128 .bf16} {l0 d0 l1 d1 : Vec Ideal S1x1x1x512 .f32}

section
variable (h : Loads I i n kb vb fk q g l0 d0 l1 d1)
include h

theorem col0 (a : Fin 512) : k0_pay46 i fk (ix2 a 0) = I.fk a (I.lane 0) := by
  rw [pay46_at i fk a (I.lane 0) (by show 2 * I.pair.val + 0 = _; rw [h.pair]; rfl), h.fk]
theorem col1 (a : Fin 512) : fs1 i fk (ix2 a 0) = I.fk a (I.lane 1) := by
  rw [fs1_at i fk a (I.lane 1) (by show 2 * I.pair.val + 1 = _; rw [h.pair]), h.fk]

/-! ### Off the diagonal -/

theorem wt0 (hn : n ≠ I.kb) (a b : Fin 512) : k0_pay10 (k0_pay42 kb) (k0_pay46 i fk) q l0 (ix2 a b) = I.wt 0 n a b := by
  pointwise [k0_pay10]
  simp only [pay42_at, col0 h, h.k, h.q, h.l0]
  unfold Pt.wt Pt.score
  rw [if_neg (fun c => hn c.1)]
theorem wt1 (hn : n ≠ I.kb) (a b : Fin 512) : k0_pay19 (k0_pay43 kb) (fs1 i fk) q l1 (ix2 a b) = I.wt 1 n a b := by
  pointwise [k0_pay19]
  simp only [pay43_at, col1 h, h.k, h.q, h.l1]
  unfold Pt.wt Pt.score
  rw [if_neg (fun c => hn c.1)]
theorem ds0 (hn : n ≠ I.kb) (a b : Fin 512) :
    k0_pay12 (k0_pay42 kb) (k0_pay44 vb) (k0_pay46 i fk) q g l0 d0 (ix2 a b) = I.ds 0 n a b := by
  pointwise [k0_pay12]
  simp only [wt0 h hn, pay44_at, h.v, h.g, h.d0]
  rfl
theorem ds1 (hn : n ≠ I.kb) (a b : Fin 512) :
    k0_pay21 (k0_pay43 kb) (k0_pay45 vb) (fs1 i fk) q g l1 d1 (ix2 a b) = I.ds 1 n a b := by
  pointwise [k0_pay21]
  simp only [wt1 h hn, pay45_at, h.v, h.g, h.d1]
  rfl

/-- The four carried values of a trip. -/
abbrev tripA (i : grid0.Coords) (kb vb : Vec Ideal S512x128 .bf16) (fk : Vec Ideal S512x128 .f32)
    (q g : Vec Ideal S512x128 .bf16) (l0 d0 l1 d1 : Vec Ideal S1x1x1x512 .f32) (acc : Acc Ideal) : Acc Ideal :=
  tripAcc k0_pay40 k0_pay41 (k0_pay42 kb) (k0_pay43 kb) (k0_pay44 vb) (k0_pay45 vb) (k0_pay46 i fk) (fs1 i fk)
    q g l0 d0 l1 d1 acc

theorem trip_k (hn : n ≠ I.kb) (acc : Acc Ideal) (a : Fin 512) (e : Fin 128) :
    (tripA i kb vb fk q g l0 d0 l1 d1 acc).1 (ix2 a e) = acc.1 (ix2 a e) + I.cK n a e := by
  pointwise [k0_pay23, k0_pay22, k0_pay14, k0_pay13, k0_pay40, k0_pay41]
  simp only [ds0 h hn, ds1 h hn, mask0, mask1, select_half0, select_half1, half_mul, h.q]
  unfold Pt.cK
  rw [Fin.sum_univ_two, ← add_assoc]
theorem trip_v (hn : n ≠ I.kb) (acc : Acc Ideal) (a : Fin 512) (e : Fin 128) :
    (tripA i kb vb fk q g l0 d0 l1 d1 acc).2.1 (ix2 a e) = acc.2.1 (ix2 a e) + I.cV n a e := by
  pointwise [k0_pay20, k0_pay11, k0_pay40, k0_pay41]
  simp only [wt0 h hn, wt1 h hn, mask0, mask1, select_half0, select_half1, half_mul, h.g]
  unfold Pt.cV
  rw [Fin.sum_univ_two, ← add_assoc]
theorem trip_f0 (hn : n ≠ I.kb) (acc : Acc Ideal) (a : Fin 512) :
    (tripA i kb vb fk q g l0 d0 l1 d1 acc).2.2.1 (ix2 a 0) = acc.2.2.1 (ix2 a 0) + -I.cG 0 n a := by
  pointwise [k0_pay18]
  simp only [ds0 h hn]
  rfl
theorem trip_f1 (hn : n ≠ I.kb) (acc : Acc Ideal) (a : Fin 512) :
    (tripA i kb vb fk q g l0 d0 l1 d1 acc).2.2.2 (ix2 a 0) = acc.2.2.2 (ix2 a 0) + -I.cG 1 n a := by
  pointwise [k0_pay2]
  simp only [ds1 h hn]
  rfl
theorem trip_q (hn : n ≠ I.kb) (x : Vec Ideal S512x128 .f32) (b : Fin 512) (e : Fin 128) :
    k0_pay3 (k0_pay15 (k0_pay42 kb) (k0_pay44 vb) (k0_pay46 i fk) q g l0 d0)
      (k0_pay24 (k0_pay43 kb) (k0_pay45 vb) (fs1 i fk) q g l1 d1) x (ix2 b e) = x (ix2 b e) + I.cQ n b e := by
  pointwise [k0_pay3, k0_pay15, k0_pay24, k0_pay13, k0_pay22]
  simp only [ds0 h hn, ds1 h hn, pay42_at, pay43_at, h.k]
  unfold Pt.cQ
  rw [Fin.sum_univ_two]
theorem trip_l0 (hn : n ≠ I.kb) (x : Vec Ideal S1x1x1x512 .f32) (b : Fin 512) :
    k0_pay17 (k0_pay12 (k0_pay42 kb) (k0_pay44 vb) (k0_pay46 i fk) q g l0 d0) (k0_pay16 x) (ix4 0 0 0 b)
      = x (ix4 0 0 0 b) + I.cF 0 n b := by
  pointwise [k0_pay17, k0_pay16]
  simp only [ds0 h hn]
  rfl
theorem trip_l1 (hn : n ≠ I.kb) (x : Vec Ideal S1x1x1x512 .f32) (b : Fin 512) :
    k0_pay1 (k0_pay21 (k0_pay43 kb) (k0_pay45 vb) (fs1 i fk) q g l1 d1) x (ix4 0 0 0 b)
      = x (ix4 0 0 0 b) + I.cF 1 n b := by
  pointwise [k0_pay1]
  simp only [ds1 h hn]
  rfl

/-! ### On the diagonal -/

theorem dwt0 (hn : n = I.kb) (a b : Fin 512) : p0 i kb fk q l0 (ix2 a b) = I.wt 0 n a b := by
  pointwise [p0, k0_pay54]
  simp only [pay42_at, col0 h, h.k, h.q, h.l0, sle_iff, mask_bot]
  unfold Pt.wt Pt.score
  by_cases hab : a ≤ b <;> simp [hab, hn, Scalar.select]
theorem dsc1 (hn : n = I.kb) (a b : Fin 512) : s1 i kb fk q (ix2 a b) = (if n = I.kb ∧ ¬a ≤ b then ⊥ else I.score 1 n a b) := by
  pointwise [s1, k0_pay65]
  simp only [pay43_at, col1 h, h.k, h.q, sle_iff, mask_bot]
  unfold Pt.score
  by_cases hab : a ≤ b <;> simp [hab, hn, Scalar.select]
theorem dwt1 (hn : n = I.kb) (a b : Fin 512) : k0_pay66 (s1 i kb fk q) l1 (ix2 a b) = I.wt 1 n a b := by
  pointwise [k0_pay66]
  simp only [dsc1 h hn, h.l1]
  rfl
theorem dds0 (hn : n = I.kb) (a b : Fin 512) :
    k0_pay57 (k0_pay44 vb) g (p0 i kb fk q l0) d0 (ix2 a b) = I.ds 0 n a b := by
  pointwise [k0_pay57]
  simp only [dwt0 h hn, pay44_at, h.v, h.g, h.d0]
  rfl
theorem dds1 (hn : n = I.kb) (a b : Fin 512) :
    k0_pay68 (k0_pay45 vb) g (s1 i kb fk q) l1 d1 (ix2 a b) = I.ds 1 n a b := by
  pointwise [k0_pay68]
  simp only [dwt1 h hn, pay45_at, h.v, h.g, h.d1]
  rfl

theorem diag_k (hn : n = I.kb) (a : Fin 512) (e : Fin 128) :
    (diagAcc i kb vb fk q g l0 d0 l1 d1).1 (ix2 a e) = I.cK n a e := by
  pointwise [k0_pay70, k0_pay69, k0_pay63, k0_pay59, k0_pay58, k0_pay52, k0_pay50, k0_pay40, k0_pay41]
  simp only [dds0 h hn, dds1 h hn, mask0, mask1, select_half0, select_half1, half_mul, h.q]
  unfold Pt.cK
  rw [Fin.sum_univ_two]
theorem diag_v (hn : n = I.kb) (a : Fin 512) (e : Fin 128) :
    (diagAcc i kb vb fk q g l0 d0 l1 d1).2.1 (ix2 a e) = I.cV n a e := by
  pointwise [k0_pay67, k0_pay64, k0_pay56, k0_pay55, k0_pay53, k0_pay50, k0_pay40, k0_pay41]
  simp only [dwt0 h hn, dwt1 h hn, mask0, mask1, select_half0, select_half1, half_mul, h.g]
  unfold Pt.cV
  rw [Fin.sum_univ_two]
theorem diag_f0 (hn : n = I.kb) (a : Fin 512) :
    (diagAcc i kb vb fk q g l0 d0 l1 d1).2.2.1 (ix2 a 0) = -I.cG 0 n a := by
  pointwise [k0_pay62, k0_pay51]
  simp only [dds0 h hn]
  exact zero_sub _
theorem diag_f1 (hn : n = I.kb) (a : Fin 512) :
    (diagAcc i kb vb fk q g l0 d0 l1 d1).2.2.2 (ix2 a 0) = -I.cG 1 n a := by
  pointwise [k0_pay72, k0_pay51]
  simp only [dds1 h hn]
  exact zero_sub _
theorem diag_q (hn : n = I.kb) (x : Vec Ideal S512x128 .f32) (b : Fin 512) (e : Fin 128) :
    k0_pay73 (k0_pay43 kb) (k0_pay45 vb) g (k0_pay60 (k0_pay42 kb) (k0_pay44 vb) g (p0 i kb fk q l0) d0) (s1 i kb fk q) l1 d1 x
      (ix2 b e) = x (ix2 b e) + I.cQ n b e := by
  pointwise [k0_pay73, k0_pay60, k0_pay58, k0_pay69]
  simp only [dds0 h hn, dds1 h hn, pay42_at, pay43_at, h.k]
  unfold Pt.cQ
  rw [Fin.sum_univ_two]
theorem diag_l0 (hn : n = I.kb) (x : Vec Ideal S1x1x1x512 .f32) (b : Fin 512) :
    k0_pay61 (k0_pay44 vb) g (p0 i kb fk q l0) d0 x (ix4 0 0 0 b) = x (ix4 0 0 0 b) + I.cF 0 n b := by
  pointwise [k0_pay61]
  simp only [dds0 h hn]
  rfl
theorem diag_l1 (hn : n = I.kb) (x : Vec Ideal S1x1x1x512 .f32) (b : Fin 512) :
    k0_pay71 (k0_pay45 vb) g (s1 i kb fk q) l1 d1 x (ix4 0 0 0 b) = x (ix4 0 0 0 b) + I.cF 1 n b := by
  pointwise [k0_pay71]
  simp only [dds1 h hn]
  rfl
end

end Cert.KernelIdeal.Run
-- ==== Proof.Loop.lean ====
/-
  The kernel's loop over query blocks: what it has added, before each trip, to what it carries and to what it stores.
-/
module

public import proofs.«01_k».proof.Proof.Step
public import Idealize.ShloMosaic.Lib.Pointwise
public import Idealize.ShloMosaic.Lib.WritesUnit
public import Idealize.ShloMosaic.Lib.Pipeline.ValueKit.Tiles
public import Idealize.ShloMosaic.Lib.Tactic.WordOmega

@[expose] public section

set_option maxRecDepth 16384

noncomputable section

namespace Cert.KernelIdeal.Run

open Cert.KernelIdeal Cert.KernelIdeal.Gen
open Idealize.ShloMosaic Idealize.ShloMosaic.TcCoe

/-- A grid point's buffers hold its data. -/
structure Reads (I : Pt) (i : grid0.Coords) (arg2 : Memref sig .tc .vmem S4096x128 .bf16) (arg3 : Memref sig .tc .vmem S4096x128 .bf16) (arg4 : Memref sig .tc .vmem S512x128 .bf16) (arg5 : Memref sig .tc .vmem S512x128 .bf16) (arg6 : Memref sig .tc .vmem S512x128 .f32) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) : Prop where
  pair : I.pair.val = (i 0).val
  kb : I.kb.val = (i 1).val
  q : ∀ r e, arg2.view.read (Elt Ideal) X2 (ix2 r e) = I.q r e
  g : ∀ r e, arg3.view.read (Elt Ideal) X3 (ix2 r e) = I.g r e
  k : ∀ a e, arg4.view.read (Elt Ideal) X4 (ix2 a e) = I.k a e
  v : ∀ a e, arg5.view.read (Elt Ideal) X5 (ix2 a e) = I.v a e
  fk : ∀ a e, arg6.view.read (Elt Ideal) X6 (ix2 a e) = I.fk a e
  l : ∀ j n b, arg7.view.read (Elt Ideal) X7 (ix4 j n 0 b) = I.l j n b
  d : ∀ j n b, arg8.view.read (Elt Ideal) X8 (ix4 j n 0 b) = I.d j n b

/-! ### Reading a block -/

theorem read_rows {t : EltTy} (a : Memref sig .tc .vmem S4096x128 t) (X : BufTy.Contents (Elt Ideal) a.view.ty)
    {off : Fin 2 → ℕ} (inb : ∀ x, off x + S512x128.size x ≤ S4096x128.size x) (n : Fin 8) (h : off = ![512 * n.val, 0])
    (b : Fin 512) (e : Fin 128) :
    a.view.readAt (Elt Ideal) (Rect.unit (s := S4096x128) off S512x128.size inb).toLoadRect X (ix2 b e)
      = a.view.read (Elt Ideal) X (ix2 (row n b) e) := by
  subst h
  exact View.ld_unit_apply_of (a.view.read (Elt Ideal) X) _ _ inb (ix2 b e) (ix2 (row n b) e)
    (Fin.forall_fin_two.mpr ⟨rfl, (Nat.zero_add _).symm⟩)

theorem read_line {t : EltTy} (a : Memref sig .tc .vmem S2x8x1x512 t) (X : BufTy.Contents (Elt Ideal) a.view.ty)
    {off : Fin 4 → ℕ} (inb : ∀ x, off x + S1x1x1x512.size x ≤ S2x8x1x512.size x) (j : Fin 2) (n : Fin 8)
    (h : off = ![j.val, n.val, 0, 0]) (b : Fin 512) :
    a.view.readAt (Elt Ideal) (Rect.unit (s := S2x8x1x512) off S1x1x1x512.size inb).toLoadRect X (ix4 0 0 0 b)
      = a.view.read (Elt Ideal) X (ix4 j n 0 b) := by
  subst h
  refine View.ld_unit_apply_of (a.view.read (Elt Ideal) X) _ _ inb (ix4 0 0 0 b) (ix4 j n 0 b) fun x => ?_
  match x with
  | ⟨0, _⟩ => rfl
  | ⟨1, _⟩ => rfl
  | ⟨2, _⟩ => rfl
  | ⟨3, _⟩ => exact (Nat.zero_add _).symm

theorem read_block {t : EltTy} (a : Memref sig .tc .vmem S512x128 t) (X : BufTy.Contents (Elt Ideal) a.view.ty)
    (b : Fin 512) (e : Fin 128) :
    a.view.readAt (Elt Ideal) wholeR.toLoadRect X (ix2 b e) = a.view.read (Elt Ideal) X (ix2 b e) :=
  View.ld_unit_apply_of (a.view.read (Elt Ideal) X) _ _ _ (ix2 b e) (ix2 b e)
    (Fin.forall_fin_two.mpr ⟨(Nat.zero_add _).symm, (Nat.zero_add _).symm⟩)

/-! ### Reading what stores left -/

theorem read_rows_hit {t : EltTy} (a : Memref sig .tc .vmem S4096x128 t) (X : BufTy.Contents (Elt Ideal) a.view.ty)
    {off : Fin 2 → ℕ} (inb : ∀ x, off x + S512x128.size x ≤ S4096x128.size x) (n : Fin 8) (h : off = ![512 * n.val, 0])
    (w : S512x128.Idx → Elt Ideal t) (L : List (View.Piece (Elt Ideal) S4096x128 t)) (b : Fin 512) (e : Fin 128) :
    a.view.read (Elt Ideal) (a.view.writes (Elt Ideal) X (⟨Rect.unit (s := S4096x128) off S512x128.size inb, w⟩ :: L))
      (ix2 (row n b) e) = w (ix2 b e) :=
  View.read_writes_cons_rows_of_mem a.view X inb w L (ix2 (row n b) e) (ix2 b e) h rfl rfl

theorem read_rows_miss {t : EltTy} (a : Memref sig .tc .vmem S4096x128 t) (X : BufTy.Contents (Elt Ideal) a.view.ty)
    {off : Fin 2 → ℕ} (inb : ∀ x, off x + S512x128.size x ≤ S4096x128.size x) (n m : Fin 8) (hn : n ≠ m)
    (h : off = ![512 * m.val, 0])
    (w : S512x128.Idx → Elt Ideal t) (L : List (View.Piece (Elt Ideal) S4096x128 t)) (b : Fin 512) (e : Fin 128) :
    a.view.read (Elt Ideal) (a.view.writes (Elt Ideal) X (⟨Rect.unit (s := S4096x128) off S512x128.size inb, w⟩ :: L))
      (ix2 (row n b) e) = a.view.read (Elt Ideal) (a.view.writes (Elt Ideal) X L) (ix2 (row n b) e) :=
  View.read_writes_cons_rows_of_not_mem a.view X inb w L (ix2 (row n b) e) h (W := 512) rfl (by
    show 512 * n.val + b.val < _ ∨ _ ≤ 512 * n.val + b.val
    have := b.isLt
    have : n.val ≠ m.val := fun c => hn (Fin.ext c)
    omega)

theorem read_line_hit {t : EltTy} (a : Memref sig .tc .vmem S2x8x1x512 t) (X : BufTy.Contents (Elt Ideal) a.view.ty)
    {off : Fin 4 → ℕ} (inb : ∀ x, off x + S1x1x1x512.size x ≤ S2x8x1x512.size x) (j : Fin 2) (n : Fin 8)
    (h : off = ![j.val, n.val, 0, 0])
    (w : S1x1x1x512.Idx → Elt Ideal t) (L : List (View.Piece (Elt Ideal) S2x8x1x512 t)) (b : Fin 512) :
    a.view.read (Elt Ideal) (a.view.writes (Elt Ideal) X (⟨Rect.unit (s := S2x8x1x512) off S1x1x1x512.size inb, w⟩ :: L))
      (ix4 j n 0 b) = w (ix4 0 0 0 b) :=
  View.read_writes_cons_unit_of_mem a.view X inb w L (ix4 j n 0 b) (ix4 0 0 0 b) h fun x => by
    match x with
    | ⟨0, _⟩ => rfl
    | ⟨1, _⟩ => rfl
    | ⟨2, _⟩ => rfl
    | ⟨3, _⟩ => exact (Nat.zero_add _).symm

theorem read_line_miss {t : EltTy} (a : Memref sig .tc .vmem S2x8x1x512 t) (X : BufTy.Contents (Elt Ideal) a.view.ty)
    {off : Fin 4 → ℕ} (inb : ∀ x, off x + S1x1x1x512.size x ≤ S2x8x1x512.size x) (j j' : Fin 2) (n m : Fin 8)
    (hn : ¬(j = j' ∧ n = m)) (h : off = ![j'.val, m.val, 0, 0])
    (w : S1x1x1x512.Idx → Elt Ideal t) (L : List (View.Piece (Elt Ideal) S2x8x1x512 t)) (b : Fin 512) :
    a.view.read (Elt Ideal) (a.view.writes (Elt Ideal) X (⟨Rect.unit (s := S2x8x1x512) off S1x1x1x512.size inb, w⟩ :: L))
      (ix4 j n 0 b) = a.view.read (Elt Ideal) (a.view.writes (Elt Ideal) X L) (ix4 j n 0 b) := by
  by_cases hj : j = j'
  · have : n.val ≠ m.val := fun c => hn ⟨hj, Fin.ext c⟩
    exact View.read_writes_cons_unit_of_not_mem a.view X inb w L _ h 1 (by
      show n.val < m.val ∨ m.val + 1 ≤ n.val
      omega)
  · have : j.val ≠ j'.val := fun c => hj (Fin.ext c)
    exact View.read_writes_cons_unit_of_not_mem a.view X inb w L _ h 0 (by
      show j.val < j'.val ∨ j'.val + 1 ≤ j.val
      omega)

/-! ### The blocks a step reads -/

/-- The loop makes one trip per query block after the diagonal one. -/
theorem trips_eq : ∀ i : grid0.Coords, (k0_t1_loop i).trips = 7 - (i 1).val := by decide +kernel

variable {I : Pt} {i : grid0.Coords} {arg2 : Memref sig .tc .vmem S4096x128 .bf16} {arg3 : Memref sig .tc .vmem S4096x128 .bf16} {arg4 : Memref sig .tc .vmem S512x128 .bf16} {arg5 : Memref sig .tc .vmem S512x128 .bf16} {arg6 : Memref sig .tc .vmem S512x128 .f32} {arg7 : Memref sig .tc .vmem S2x8x1x512 .f32} {arg8 : Memref sig .tc .vmem S2x8x1x512 .f32} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
  (R : Reads I i arg2 arg3 arg4 arg5 arg6 arg7 arg8 X2 X3 X4 X5 X6 X7 X8)
include R

theorem loads_trip (k : Fin (k0_t1_loop i).trips) (m : Fin 8) (hm : m.val = (i 1).val + k.val + 1) :
    Loads I i m (rK arg4 X4) (rK arg5 X5) (rF arg6 X6) (arg2.view.readAt (Elt Ideal) (rowsR i k).toLoadRect X2) (arg3.view.readAt (Elt Ideal) (rowsR i k).toLoadRect X3)
      (arg7.view.readAt (Elt Ideal) (line0R i k).toLoadRect X7) (arg8.view.readAt (Elt Ideal) (line0R i k).toLoadRect X8) (arg7.view.readAt (Elt Ideal) (line1R i k).toLoadRect X7) (arg8.view.readAt (Elt Ideal) (line1R i k).toLoadRect X8) where
  pair := R.pair
  k a e := (read_block _ _ a e).trans (R.k a e)
  v a e := (read_block _ _ a e).trans (R.v a e)
  fk a e := (read_block _ _ a e).trans (R.fk a e)
  q b e := (read_rows _ _ _ m (by rw [k0_off4_eq, hm]; ring_nf) b e).trans (R.q _ e)
  g b e := (read_rows _ _ _ m (by rw [k0_off4_eq, hm]; ring_nf) b e).trans (R.g _ e)
  l0 b := (read_line _ _ _ 0 m (by rw [k0_off5_eq, hm]; rfl) b).trans (R.l 0 m b)
  d0 b := (read_line _ _ _ 0 m (by rw [k0_off5_eq, hm]; rfl) b).trans (R.d 0 m b)
  l1 b := (read_line _ _ _ 1 m (by rw [k0_off6_eq, hm]; rfl) b).trans (R.l 1 m b)
  d1 b := (read_line _ _ _ 1 m (by rw [k0_off6_eq, hm]; rfl) b).trans (R.d 1 m b)

theorem loads_diag :
    Loads I i I.kb (rK arg4 X4) (rK arg5 X5) (rF arg6 X6) (rQ i arg2 X2) (rQ i arg3 X3)
      (rL0 i arg7 X7) (rL0 i arg8 X8) (rL1 i arg7 X7) (rL1 i arg8 X8) where
  pair := R.pair
  k a e := (read_block _ _ a e).trans (R.k a e)
  v a e := (read_block _ _ a e).trans (R.v a e)
  fk a e := (read_block _ _ a e).trans (R.fk a e)
  q b e := (read_rows _ _ _ I.kb (by rw [k0_off1_eq, R.kb]) b e).trans (R.q _ e)
  g b e := (read_rows _ _ _ I.kb (by rw [k0_off1_eq, R.kb]) b e).trans (R.g _ e)
  l0 b := (read_line _ _ _ 0 I.kb (by rw [k0_off2_eq, R.kb]; rfl) b).trans (R.l 0 I.kb b)
  d0 b := (read_line _ _ _ 0 I.kb (by rw [k0_off2_eq, R.kb]; rfl) b).trans (R.d 0 I.kb b)
  l1 b := (read_line _ _ _ 1 I.kb (by rw [k0_off3_eq, R.kb]; rfl) b).trans (R.l 1 I.kb b)
  d1 b := (read_line _ _ _ 1 I.kb (by rw [k0_off3_eq, R.kb]; rfl) b).trans (R.d 1 I.kb b)

omit R
/-- One more query block in a range. -/
theorem sum_range_succ (c : Fin 8 → EReal) (lo hi : ℕ) (m : Fin 8) (hm : m.val = hi) (hlo : lo < hi) :
    (∑ n : Fin 8, if lo < n.val ∧ n.val < hi + 1 then c n else 0)
      = (∑ n : Fin 8, if lo < n.val ∧ n.val < hi then c n else 0) + c m := by
  have e : ∀ n : Fin 8, (if lo < n.val ∧ n.val < hi + 1 then c n else 0)
      = (if lo < n.val ∧ n.val < hi then c n else 0) + (if n = m then c n else 0) := fun n => by
    by_cases h : n = m
    · subst h
      rw [if_pos (by omega), if_neg (by omega), if_pos rfl, zero_add]
    · have : n.val ≠ hi := fun c => h (Fin.ext (c.trans hm.symm))
      rw [if_neg h, add_zero]
      exact if_congr (by omega) rfl rfl
  rw [Finset.sum_congr rfl fun n _ => e n, Finset.sum_add_distrib, Finset.sum_ite_eq' _ m c, if_pos (Finset.mem_univ m)]

variable (c : Dev nD) (harg2 : arg2.IsWhole) (harg3 : arg3.IsWhole) (harg4 : arg4.IsWhole) (harg5 : arg5.IsWhole) (harg6 : arg6.IsWhole) (harg7 : arg7.IsWhole) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)
  (G12 : BufTy.Contents (Elt Ideal) arg12.view.ty) (G13 : BufTy.Contents (Elt Ideal) arg13.view.ty) (init : Acc Ideal)

/-- The loop's state before trip `k`. -/
abbrev stI (i : grid0.Coords) (arg2 : Memref sig .tc .vmem S4096x128 .bf16) (arg3 : Memref sig .tc .vmem S4096x128 .bf16) (arg4 : Memref sig .tc .vmem S512x128 .bf16) (arg5 : Memref sig .tc .vmem S512x128 .bf16) (arg6 : Memref sig .tc .vmem S512x128 .f32) (arg7 : Memref sig .tc .vmem S2x8x1x512 .f32) (arg8 : Memref sig .tc .vmem S2x8x1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (c : Dev nD) (harg2 : arg2.IsWhole) (harg3 : arg3.IsWhole) (harg4 : arg4.IsWhole) (harg5 : arg5.IsWhole) (harg6 : arg6.IsWhole) (harg7 : arg7.IsWhole) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)
    (G12 : BufTy.Contents (Elt Ideal) arg12.view.ty) (G13 : BufTy.Contents (Elt Ideal) arg13.view.ty) (init : Acc Ideal) (k : ℕ) :
    (Acc Ideal) × List (View.Piece (Elt Ideal) S4096x128 .f32) × List (View.Piece (Elt Ideal) S2x8x1x512 .f32) :=
  st_k0_t1 (F := Ideal) Variants.none c none i arg2 harg2 arg3 harg3 arg4 harg4 arg5 harg5 arg6 harg6 arg7 harg7 arg8 harg8 (Memref.whole main_arg5) (Memref.isWhole_whole _) arg10 harg10 arg11 harg11 arg12 harg12 arg13 harg13 arg14 harg14 k0_pay40 k0_pay41 (k0_pay42 (rK arg4 X4)) (k0_pay43 (rK arg4 X4)) (k0_pay44 (rK arg5 X5)) (k0_pay45 (rK arg5 X5)) (k0_pay46 i (rF arg6 X6)) (fs1 i (rF arg6 X6)) (Scalar.addi (BitVec.ofNat 32 (i 1).val) 1#32) X2 X3 X7 X8 G12 G13 init k

/-- What the loop has done before trip `k`: `s` is its state. -/
structure Done (I : Pt) (arg12 : Memref sig .tc .vmem S4096x128 .f32) (arg13 : Memref sig .tc .vmem S2x8x1x512 .f32) (G12 : BufTy.Contents (Elt Ideal) arg12.view.ty)
    (G13 : BufTy.Contents (Elt Ideal) arg13.view.ty) (init : Acc Ideal) (t : ℕ)
    (s : (Acc Ideal) × List (View.Piece (Elt Ideal) S4096x128 .f32) × List (View.Piece (Elt Ideal) S2x8x1x512 .f32)) : Prop where
  k : ∀ a e, s.1.1 (ix2 a e) = init.1 (ix2 a e) + ∑ n : Fin 8, if I.kb.val < n.val ∧ n.val < I.kb.val + 1 + t then I.cK n a e else 0
  v : ∀ a e, s.1.2.1 (ix2 a e) = init.2.1 (ix2 a e) + ∑ n : Fin 8, if I.kb.val < n.val ∧ n.val < I.kb.val + 1 + t then I.cV n a e else 0
  f0 : ∀ a, s.1.2.2.1 (ix2 a 0) = init.2.2.1 (ix2 a 0) + ∑ n : Fin 8, if I.kb.val < n.val ∧ n.val < I.kb.val + 1 + t then -I.cG 0 n a else 0
  f1 : ∀ a, s.1.2.2.2 (ix2 a 0) = init.2.2.2 (ix2 a 0) + ∑ n : Fin 8, if I.kb.val < n.val ∧ n.val < I.kb.val + 1 + t then -I.cG 1 n a else 0
  q : ∀ n b e, arg12.view.read (Elt Ideal) (arg12.view.writes (Elt Ideal) G12 s.2.1) (ix2 (row n b) e)
    = arg12.view.read (Elt Ideal) G12 (ix2 (row n b) e) + if I.kb.val < n.val ∧ n.val < I.kb.val + 1 + t then I.cQ n b e else 0
  f : ∀ j n b, arg13.view.read (Elt Ideal) (arg13.view.writes (Elt Ideal) G13 s.2.2) (ix4 j n 0 b)
    = arg13.view.read (Elt Ideal) G13 (ix4 j n 0 b) + if I.kb.val < n.val ∧ n.val < I.kb.val + 1 + t then I.cF j n b else 0

include R in
/-- Every trip adds its query block's part. -/
theorem loop_done : ∀ k : ℕ, k ≤ (k0_t1_loop i).trips → Done I arg12 arg13 G12 G13 init k
    (stI i arg2 arg3 arg4 arg5 arg6 arg7 arg8 X2 X3 X4 X5 X6 X7 X8 c harg2 harg3 harg4 harg5 harg6 harg7 harg8 arg10 harg10 arg11 harg11 arg12 harg12 arg13 harg13 arg14 harg14 G12 G13 init k) := by
  intro k
  induction k with
  | zero =>
    intro _
    have z : ∀ n : Fin 8, ¬(I.kb.val < n.val ∧ n.val < I.kb.val + 1 + 0) := fun n => by omega
    constructor <;> intros <;> simp only [z, if_false, Finset.sum_const_zero, add_zero] <;> rfl
  | succ k ih =>
    intro hk
    have D := ih (by omega)
    have ht := trips_eq i
    have hkb := R.kb
    obtain ⟨m, hm⟩ : ∃ m : Fin 8, m.val = (i 1).val + k + 1 := ⟨⟨(i 1).val + k + 1, by omega⟩, rfl⟩
    have L := loads_trip R ⟨k, by omega⟩ m hm
    have hne : m ≠ I.kb := fun c => by rw [← c] at hkb; omega
    have e1 := st_k0_t1_succ (F := Ideal) Variants.none c none i arg2 harg2 arg3 harg3 arg4 harg4 arg5 harg5 arg6 harg6 arg7 harg7 arg8 harg8 (Memref.whole main_arg5) (Memref.isWhole_whole _) arg10 harg10 arg11 harg11 arg12 harg12 arg13 harg13 arg14 harg14 k0_pay40 k0_pay41 (k0_pay42 (rK arg4 X4)) (k0_pay43 (rK arg4 X4)) (k0_pay44 (rK arg5 X5)) (k0_pay45 (rK arg5 X5)) (k0_pay46 i (rF arg6 X6)) (fs1 i (rF arg6 X6)) (Scalar.addi (BitVec.ofNat 32 (i 1).val) 1#32) X2 X3 X7 X8 G12 G13 init ⟨k, by omega⟩
    rw [tripR_eq, tripL_eq] at e1
    rw [show stI i arg2 arg3 arg4 arg5 arg6 arg7 arg8 X2 X3 X4 X5 X6 X7 X8 c harg2 harg3 harg4 harg5 harg6 harg7 harg8 arg10 harg10 arg11 harg11 arg12 harg12 arg13 harg13 arg14 harg14 G12 G13 init (k + 1) = _ from e1]
    have hs : ∀ c : Fin 8 → EReal, (∑ n : Fin 8, if I.kb.val < n.val ∧ n.val < I.kb.val + 1 + (k + 1) then c n else 0)
        = (∑ n : Fin 8, if I.kb.val < n.val ∧ n.val < I.kb.val + 1 + k then c n else 0) + c m := fun c =>
      sum_range_succ c I.kb.val (I.kb.val + 1 + k) m (by omega) (by omega)
    have o4 : k0_off4 i ⟨k, by omega⟩ = ![512 * m.val, 0] := by rw [k0_off4_eq, hm]; ring_nf
    have o5 : k0_off5 i ⟨k, by omega⟩ = ![(0 : Fin 2).val, m.val, 0, 0] := by rw [k0_off5_eq, hm]; rfl
    have o6 : k0_off6 i ⟨k, by omega⟩ = ![(1 : Fin 2).val, m.val, 0, 0] := by rw [k0_off6_eq, hm]; rfl
    have hsame : ∀ n : Fin 8, n ≠ m → ((I.kb.val < n.val ∧ n.val < I.kb.val + 1 + (k + 1)) ↔ (I.kb.val < n.val ∧ n.val < I.kb.val + 1 + k)) := fun n hn => by
      have : n.val ≠ m.val := fun c => hn (Fin.ext c)
      omega
    have hnew : I.kb.val < m.val ∧ m.val < I.kb.val + 1 + (k + 1) := by omega
    have hold : ¬(I.kb.val < m.val ∧ m.val < I.kb.val + 1 + k) := by omega
    refine ⟨fun a e => ?_, fun a e => ?_, fun a => ?_, fun a => ?_, fun n b e => ?_, fun j n b => ?_⟩
    · exact (trip_k L hne _ a e).trans (by rw [hs, ← add_assoc]; exact congrArg (· + _) (D.k a e))
    · exact (trip_v L hne _ a e).trans (by rw [hs, ← add_assoc]; exact congrArg (· + _) (D.v a e))
    · exact (trip_f0 L hne _ a).trans (by rw [hs fun n => -I.cG 0 n a, ← add_assoc]; exact congrArg (· + _) (D.f0 a))
    · exact (trip_f1 L hne _ a).trans (by rw [hs fun n => -I.cG 1 n a, ← add_assoc]; exact congrArg (· + _) (D.f1 a))
    · by_cases h : n = m
      · subst h
        refine (read_rows_hit arg12 _ _ n o4 _ _ b e).trans ((trip_q L hne _ b e).trans ?_)
        rw [if_pos hnew, read_rows arg12 _ _ n o4, D.q, if_neg hold, add_zero]
      · refine (read_rows_miss arg12 _ _ n m h o4 _ _ b e).trans ?_
        rw [if_congr (hsame n h) rfl rfl]
        exact D.q n b e
    · by_cases h : n = m
      · subst h
        rw [if_pos hnew]
        match j with
        | ⟨0, _⟩ =>
          refine (read_line_miss arg13 _ _ 0 1 n n (by simp) o6 _ _ b).trans
            ((read_line_hit arg13 _ _ 0 n o5 _ _ b).trans ((trip_l0 L hne _ b).trans ?_))
          rw [read_line arg13 _ _ 0 n o5, D.f, if_neg hold, add_zero]
          rfl
        | ⟨1, _⟩ =>
          refine (read_line_hit arg13 _ _ 1 n o6 _ _ b).trans ((trip_l1 L hne _ b).trans ?_)
          rw [read_line arg13 _ _ 1 n o6, D.f, if_neg hold, add_zero]
          rfl
      · refine (read_line_miss arg13 _ _ j 1 n m (fun c => h c.2) o6 _ _ b).trans
          ((read_line_miss arg13 _ _ j 0 n m (fun c => h c.2) o5 _ _ b).trans ?_)
        rw [if_congr (hsame n h) rfl rfl]
        exact D.f j n b

end Cert.KernelIdeal.Run
-- ==== Proof.Point.lean ====
/-
  What one grid point leaves in each output, at an index: its key block's gradients, and its part of the queries' added
  to what was there.
-/
module

public import proofs.«01_k».proof.Proof.Loop
public import Idealize.ShloMosaic.Lib.Pointwise
public import Idealize.ShloMosaic.Lib.WritesUnit
public import Idealize.ShloMosaic.Lib.Pipeline.ValueKit.Tiles
public import Idealize.ShloMosaic.Lib.Tactic.WordOmega

@[expose] public section

set_option maxRecDepth 16384

noncomputable section

namespace Cert.KernelIdeal.Run

open Cert.KernelIdeal Cert.KernelIdeal.Gen
open Idealize.ShloMosaic Idealize.ShloMosaic.TcCoe

namespace Pt
variable (I : Pt)

/-- The key gradient of the grid point's block. -/
def dK (a : Fin 512) (e : Fin 128) : EReal := ∑ n : Fin 8, if I.kb.val ≤ n.val then I.cK n a e else 0
/-- The value gradient of the grid point's block. -/
def dV (a : Fin 512) (e : Fin 128) : EReal := ∑ n : Fin 8, if I.kb.val ≤ n.val then I.cV n a e else 0
/-- The key gate's gradient of the grid point's block. -/
def dF (j : Fin 2) (a : Fin 512) : EReal := ∑ n : Fin 8, if I.kb.val ≤ n.val then -I.cG j n a else 0
/-- The block's part of the query gradient. -/
def aQ (n : Fin 8) (b : Fin 512) (e : Fin 128) : EReal := if I.kb.val ≤ n.val then I.cQ n b e else 0
/-- The block's part of the query gate's gradient. -/
def aF (j : Fin 2) (n : Fin 8) (b : Fin 512) : EReal := if I.kb.val ≤ n.val then I.cF j n b else 0

end Pt

variable {I : Pt} {i : grid0.Coords} {arg2 : Memref sig .tc .vmem S4096x128 .bf16} {arg3 : Memref sig .tc .vmem S4096x128 .bf16} {arg4 : Memref sig .tc .vmem S512x128 .bf16} {arg5 : Memref sig .tc .vmem S512x128 .bf16} {arg6 : Memref sig .tc .vmem S512x128 .f32} {arg7 : Memref sig .tc .vmem S2x8x1x512 .f32} {arg8 : Memref sig .tc .vmem S2x8x1x512 .f32} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
  (R : Reads I i arg2 arg3 arg4 arg5 arg6 arg7 arg8 X2 X3 X4 X5 X6 X7 X8)

/-- The diagonal block and the blocks after it are all the blocks from the diagonal on. -/
theorem sum_from (c : Fin 8 → EReal) (m : Fin 8) :
    c m + (∑ n : Fin 8, if m.val < n.val ∧ n.val < m.val + 1 + (7 - m.val) then c n else 0) = ∑ n : Fin 8, if m.val ≤ n.val then c n else 0 := by
  have e : ∀ n : Fin 8, (if m.val ≤ n.val then c n else 0)
      = (if n = m then c n else 0) + (if m.val < n.val ∧ n.val < m.val + 1 + (7 - m.val) then c n else 0) := fun n => by
    have := n.isLt
    by_cases h : n = m
    · subst h
      rw [if_pos le_rfl, if_pos rfl, if_neg (by omega), add_zero]
    · have : n.val ≠ m.val := fun c => h (Fin.ext c)
      rw [if_neg h, zero_add]
      exact if_congr (by omega) rfl rfl
  rw [Finset.sum_congr rfl fun n _ => e n, Finset.sum_add_distrib, Finset.sum_ite_eq' _ m c, if_pos (Finset.mem_univ m)]

section
variable {arg12 : Memref sig .tc .vmem S4096x128 .f32} {arg13 : Memref sig .tc .vmem S2x8x1x512 .f32}
  (b12 : BufTy.Contents (Elt Ideal) arg12.view.ty) (b13 : BufTy.Contents (Elt Ideal) arg13.view.ty) (o : Vec Ideal S1x1x1x512 .f32)
include R

theorem diag12_at (n : Fin 8) (b : Fin 512) (e : Fin 128) :
    arg12.view.read (Elt Ideal) (diag12 i arg2 arg3 arg4 arg5 arg6 arg7 arg8 arg12 X2 X3 X4 X5 X6 X7 X8 b12) (ix2 (row n b) e)
      = arg12.view.read (Elt Ideal) b12 (ix2 (row n b) e) + if n = I.kb then I.cQ n b e else 0 := by
  have o1 : k0_off1 i = ![512 * I.kb.val, 0] := by rw [k0_off1_eq, R.kb]
  by_cases h : n = I.kb
  · rw [if_pos h, h]
    refine (read_rows_hit arg12 _ _ I.kb o1 _ _ b e).trans ((diag_q (loads_diag R) rfl _ b e).trans ?_)
    rw [read_rows arg12 _ _ I.kb o1]
  · rw [if_neg h, add_zero]
    exact read_rows_miss arg12 _ _ n I.kb h o1 _ _ b e

theorem diag13_at (ho : ∀ b, o (ix4 0 0 0 b) = arg13.view.read (Elt Ideal) b13 (ix4 1 I.kb 0 b)) (j : Fin 2) (n : Fin 8) (b : Fin 512) :
    arg13.view.read (Elt Ideal) (diag13 i arg2 arg3 arg4 arg5 arg6 arg7 arg8 arg13 X2 X3 X4 X5 X6 X7 X8 b13 o) (ix4 j n 0 b)
      = arg13.view.read (Elt Ideal) b13 (ix4 j n 0 b) + if n = I.kb then I.cF j n b else 0 := by
  have o2 : k0_off2 i = ![(0 : Fin 2).val, I.kb.val, 0, 0] := by rw [k0_off2_eq, R.kb]; rfl
  have o3 : k0_off3 i = ![(1 : Fin 2).val, I.kb.val, 0, 0] := by rw [k0_off3_eq, R.kb]; rfl
  by_cases h : n = I.kb
  · rw [if_pos h, h]
    match j with
    | ⟨0, _⟩ =>
      refine (read_line_miss arg13 _ _ 0 1 I.kb I.kb (by simp) o3 _ _ b).trans
        ((read_line_hit arg13 _ _ 0 I.kb o2 _ _ b).trans ((diag_l0 (loads_diag R) rfl _ b).trans ?_))
      rw [read_line arg13 _ _ 0 I.kb o2]
      rfl
    | ⟨1, _⟩ =>
      refine (read_line_hit arg13 _ _ 1 I.kb o3 _ _ b).trans ((diag_l1 (loads_diag R) rfl _ b).trans ?_)
      rw [ho]
      rfl
  · rw [if_neg h, add_zero]
    exact (read_line_miss arg13 _ _ j 1 n I.kb (fun c => h c.2) o3 _ _ b).trans
      (read_line_miss arg13 _ _ j 0 n I.kb (fun c => h c.2) o2 _ _ b)

end

variable (c : Dev nD) (harg2 : arg2.IsWhole) (harg3 : arg3.IsWhole) (harg4 : arg4.IsWhole) (harg5 : arg5.IsWhole) (harg6 : arg6.IsWhole) (harg7 : arg7.IsWhole) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole)

section
variable (b12 : BufTy.Contents (Elt Ideal) arg12.view.ty) (b13 : BufTy.Contents (Elt Ideal) arg13.view.ty) (o : Vec Ideal S1x1x1x512 .f32)

/-- What a grid point's work comes to: `s` is the loop's last state. -/
structure Ends (I : Pt) (b12 : BufTy.Contents (Elt Ideal) arg12.view.ty) (b13 : BufTy.Contents (Elt Ideal) arg13.view.ty)
    (d12 : BufTy.Contents (Elt Ideal) arg12.view.ty) (d13 : BufTy.Contents (Elt Ideal) arg13.view.ty)
    (s : (Acc Ideal) × List (View.Piece (Elt Ideal) S4096x128 .f32) × List (View.Piece (Elt Ideal) S2x8x1x512 .f32)) : Prop where
  k : ∀ a e, s.1.1 (ix2 a e) = I.dK a e
  v : ∀ a e, s.1.2.1 (ix2 a e) = I.dV a e
  f0 : ∀ a, s.1.2.2.1 (ix2 a 0) = I.dF 0 a
  f1 : ∀ a, s.1.2.2.2 (ix2 a 0) = I.dF 1 a
  q : ∀ n b e, arg12.view.read (Elt Ideal) (arg12.view.writes (Elt Ideal) d12 s.2.1) (ix2 (row n b) e)
    = arg12.view.read (Elt Ideal) b12 (ix2 (row n b) e) + I.aQ n b e
  f : ∀ j n b, arg13.view.read (Elt Ideal) (arg13.view.writes (Elt Ideal) d13 s.2.2) (ix4 j n 0 b)
    = arg13.view.read (Elt Ideal) b13 (ix4 j n 0 b) + I.aF j n b

include R in
set_option maxHeartbeats 2000000 in
theorem ends (ho : ∀ b, o (ix4 0 0 0 b) = arg13.view.read (Elt Ideal) b13 (ix4 1 I.kb 0 b)) :
    Ends arg12 arg13 I b12 b13 (diag12 i arg2 arg3 arg4 arg5 arg6 arg7 arg8 arg12 X2 X3 X4 X5 X6 X7 X8 b12) (diag13 i arg2 arg3 arg4 arg5 arg6 arg7 arg8 arg13 X2 X3 X4 X5 X6 X7 X8 b13 o) (endSt c i arg2 harg2 arg3 harg3 arg4 harg4 arg5 harg5 arg6 harg6 arg7 harg7 arg8 harg8 arg10 harg10 arg11 harg11 arg12 harg12 arg13 harg13 arg14 harg14 X2 X3 X4 X5 X6 X7 X8 b12 b13 o) := by
  have D := loop_done R c harg2 harg3 harg4 harg5 harg6 harg7 harg8 arg10 harg10 arg11 harg11 arg12 harg12 arg13 harg13 arg14 harg14 (diag12 i arg2 arg3 arg4 arg5 arg6 arg7 arg8 arg12 X2 X3 X4 X5 X6 X7 X8 b12) (diag13 i arg2 arg3 arg4 arg5 arg6 arg7 arg8 arg13 X2 X3 X4 X5 X6 X7 X8 b13 o)
    (diagAcc i (rK arg4 X4) (rK arg5 X5) (rF arg6 X6) (rQ i arg2 X2) (rQ i arg3 X3) (rL0 i arg7 X7) (rL0 i arg8 X8)
      (rL1 i arg7 X7) (rL1 i arg8 X8)) (k0_t1_loop i).trips le_rfl
  have L := loads_diag R
  have ht : (k0_t1_loop i).trips = 7 - I.kb.val := by rw [trips_eq, R.kb]
  have part : ∀ (n : Fin 8) (x y : EReal), x + (if n = I.kb then y else 0)
      + (if I.kb.val < n.val ∧ n.val < I.kb.val + 1 + (k0_t1_loop i).trips then y else 0) = x + if I.kb.val ≤ n.val then y else 0 := fun n x y => by
    rw [ht]
    have := n.isLt
    by_cases h : n = I.kb
    · subst h
      rw [if_pos rfl, if_neg (by omega), if_pos le_rfl, add_zero]
    · have : n.val ≠ I.kb.val := fun c => h (Fin.ext c)
      rw [if_neg h, add_zero]
      exact congrArg _ (if_congr (by omega) rfl rfl)
  refine ⟨fun a e => (D.k a e).trans ?_, fun a e => (D.v a e).trans ?_, fun a => (D.f0 a).trans ?_, fun a => (D.f1 a).trans ?_,
    fun n b e => (D.q n b e).trans ?_, fun j n b => (D.f j n b).trans ?_⟩
  · rw [diag_k L rfl, ht]; exact sum_from (fun n => I.cK n a e) I.kb
  · rw [diag_v L rfl, ht]; exact sum_from (fun n => I.cV n a e) I.kb
  · rw [diag_f0 L rfl, ht]; exact sum_from (fun n => -I.cG 0 n a) I.kb
  · rw [diag_f1 L rfl, ht]; exact sum_from (fun n => -I.cG 1 n a) I.kb
  · rw [diag12_at R]; exact part _ _ _
  · rw [diag13_at R _ _ ho]; exact part _ _ _

end

/-! ### The five outputs -/

theorem whole_hit {t : EltTy} (a : Memref sig .tc .vmem S512x128 t) (X : BufTy.Contents (Elt Ideal) a.view.ty)
    (w : S512x128.Idx → Elt Ideal t) (b : Fin 512) (e : Fin 128) :
    a.view.read (Elt Ideal) (a.view.writes (Elt Ideal) X [⟨wholeR, w⟩]) (ix2 b e) = w (ix2 b e) :=
  View.read_writes_cons_rows_of_mem a.view X _ w [] (ix2 b e) (ix2 b e) (o := 0) rfl (Nat.zero_add _).symm rfl

theorem pay7_at (x : FVec Ideal S512x128 .f32) (j : S512x128.Idx) : k0_pay7 x j = x j := rfl
theorem pay8_at (x : FVec Ideal S512x128 .f32) (j : S512x128.Idx) : k0_pay8 x j = x j := rfl
theorem pay9_at (x y : FVec Ideal S512x1 .f32) (a : Fin 512) (e : Fin 128) :
    k0_pay9 (iota .tc S512x128 32 [1] iota_S512x128_d1_w32) x y (ix2 a e) = if e.val / 64 = 0 then x (ix2 a 0) else y (ix2 a 0) := by
  pointwise [k0_pay9]
  rw [mask2]
  by_cases h : e.val / 64 = 0 <;> simp [h, Scalar.select]

/-- The five outputs after a grid point, over what the queries' two held before it. -/
structure Outs (I : Pt) (arg10 : Memref sig .tc .vmem S512x128 .bf16) (arg11 : Memref sig .tc .vmem S512x128 .bf16) (arg12 : Memref sig .tc .vmem S4096x128 .f32) (arg13 : Memref sig .tc .vmem S2x8x1x512 .f32) (arg14 : Memref sig .tc .vmem S512x128 .f32)
    (z12 : Fin 8 → Fin 512 → Fin 128 → EReal) (z13 : Fin 2 → Fin 8 → Fin 512 → EReal)
    (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) : Prop where
  k : ∀ a e, arg10.view.read (Elt Ideal) g10 (ix2 a e) = I.dK a e
  v : ∀ a e, arg11.view.read (Elt Ideal) g11 (ix2 a e) = I.dV a e
  q : ∀ n b e, arg12.view.read (Elt Ideal) g12 (ix2 (row n b) e) = z12 n b e + I.aQ n b e
  f : ∀ j n b, arg13.view.read (Elt Ideal) g13 (ix4 j n 0 b) = z13 j n b + I.aF j n b
  fk : ∀ a e, arg14.view.read (Elt Ideal) g14 (ix2 a e) = if e.val / 64 = 0 then I.dF 0 a else I.dF 1 a

variable (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)

include R in
theorem outsB (hc : ¬Starts i) : Outs I arg10 arg11 arg12 arg13 arg14 (fun n b e => arg12.view.read (Elt Ideal) f12 (ix2 (row n b) e)) (fun j n b => arg13.view.read (Elt Ideal) f13 (ix4 j n 0 b))
    (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).1 (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.1 (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.1 (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.1 (runB c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.2.1 := by
  have T := ends R c harg2 harg3 harg4 harg5 harg6 harg7 harg8 arg10 harg10 arg11 harg11 arg12 harg12 arg13 harg13 arg14 harg14 f12 f13 (arg13.view.readAt (Elt Ideal) (diag1R i).toLoadRect f13) (fun b => read_line arg13 _ _ 1 I.kb (by rw [k0_off3_eq, R.kb]; rfl) b)
  refine ⟨fun a e => ?_, fun a e => ?_, fun n b e => ?_, fun j n b => ?_, fun a e => ?_⟩
  · rw [runB_10 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (whole_hit arg10 _ _ a e).trans (T.k a e)
  · rw [runB_11 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (whole_hit arg11 _ _ a e).trans (T.v a e)
  · rw [runB_12 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (T.q n b e).trans (rfl)
  · rw [runB_13 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (T.f j n b).trans (rfl)
  · rw [runB_14 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    refine (whole_hit arg14 _ _ a e).trans ((pay9_at _ _ a e).trans ?_)
    rw [T.f0, T.f1]

theorem zero12_at (a : Memref sig .tc .vmem S4096x128 .f32) (r : Fin 4096) (e : Fin 128) :
    a.view.read (Elt Ideal) (zero12 a) (ix2 r e) = 0 := by
  refine (View.read_writes_cons_rows_of_mem a.view _ _ _ [] (ix2 r e) (ix2 r e) (o := 0) rfl (Nat.zero_add _).symm rfl).trans ?_
  pointwise [k0_pay49]
theorem zero13_at (a : Memref sig .tc .vmem S2x8x1x512 .f32) (j : Fin 2) (n : Fin 8) (b : Fin 512) :
    a.view.read (Elt Ideal) (zero13 a) (ix4 j n 0 b) = 0 := by
  refine (View.read_writes_cons_unit_of_mem a.view _ _ _ [] (ix4 j n 0 b) (ix4 j n 0 b) rfl fun x => ?_).trans ?_
  · match x with
    | ⟨0, _⟩ => exact (Nat.zero_add _).symm
    | ⟨1, _⟩ => exact (Nat.zero_add _).symm
    | ⟨2, _⟩ => exact (Nat.zero_add _).symm
    | ⟨3, _⟩ => exact (Nat.zero_add _).symm
  · pointwise [k0_pay48]

include R in
theorem outsA (hc : Starts i) : Outs I arg10 arg11 arg12 arg13 arg14 (fun _ _ _ => 0) (fun _ _ _ => 0)
    (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).1 (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.1 (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.1 (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.1 (runA c i arg2 harg2 arg3 harg3 arg4 harg4 arg5 harg5 arg6 harg6 arg7 harg7 arg8 harg8 arg10 harg10 arg11 harg11 arg12 harg12 arg13 harg13 arg14 harg14 hc X2 X3 X4 X5 X6 X7 X8 f10 f11 f12 f13 f14).2.2.2.2.1 := by
  have T := ends R c harg2 harg3 harg4 harg5 harg6 harg7 harg8 arg10 harg10 arg11 harg11 arg12 harg12 arg13 harg13 arg14 harg14 (zero12 arg12) (zero13 arg13) (arg13.view.readAt (Elt Ideal) (diag1R i).toLoadRect (arg13.view.writes (Elt Ideal) (zero13 arg13) [diagPiece0 i arg2 arg3 arg4 arg5 arg6 arg7 arg8 arg13 X2 X3 X4 X5 X6 X7 X8 (zero13 arg13)])) (fun b => (read_line arg13 _ _ 1 I.kb (by rw [k0_off3_eq, R.kb]; rfl) b).trans
    (read_line_miss arg13 _ _ 1 0 I.kb I.kb (by simp) (by rw [k0_off2_eq, R.kb]; rfl) _ _ b))
  refine ⟨fun a e => ?_, fun a e => ?_, fun n b e => ?_, fun j n b => ?_, fun a e => ?_⟩
  · rw [runA_10 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (whole_hit arg10 _ _ a e).trans (T.k a e)
  · rw [runA_11 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (whole_hit arg11 _ _ a e).trans (T.v a e)
  · rw [runA_12 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (T.q n b e).trans (by rw [zero12_at])
  · rw [runA_13 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    exact (T.f j n b).trans (by rw [zero13_at])
  · rw [runA_14 c i arg2 harg2 arg3 harg3 arg4 harg4 arg5 harg5 arg6 harg6 arg7 harg7 arg8 harg8 arg10 harg10 arg11 harg11 arg12 harg12 arg13 harg13 arg14 harg14 X2 X3 X4 X5 X6 X7 X8 f10 f11 f12 f13 f14 hc]
    refine (whole_hit arg14 _ _ a e).trans ((pay9_at _ _ a e).trans ?_)
    rw [T.f0, T.f1]

end Cert.KernelIdeal.Run
-- ==== Proof.Blocks.lean ====
/-
  The kernel's windows: which part of each array a grid point's block is.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.WritesUnit
public import Idealize.ShloMosaic.Lib.Pipeline.Value
public import Idealize.ShloMosaic.Lib.Quiescent
public import proofs.«01_k».proof.Proof.Point

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Lane `e` of head pair `h`, as a column. -/
def col (h : Fin 8) (e : Fin 128) : Fin 1024 := ⟨128 * h.val + e.val, by have := h.isLt; have := e.isLt; omega⟩
/-- The same lane's column in the wide gradient buffer. -/
def dcol (h : Fin 8) (e : Fin 128) : Fin 7680 := ⟨6144 + (128 * h.val + e.val), by have := h.isLt; have := e.isLt; omega⟩
/-- Head `j` of pair `h`. -/
def hd (h : Fin 8) (j : Fin 2) : Fin 16 := ⟨2 * h.val + j.val, by have := h.isLt; have := j.isLt; omega⟩

theorem pt_lt (t : Fin cfg0.N) : t.val < 64 := lt_of_lt_of_eq t.isLt (show cfg0.N = 64 from N_0)
/-- A point's head pair. -/
def ph (t : Fin cfg0.N) : Fin 8 := ⟨t.val / 8, by have := pt_lt t; omega⟩
/-- A point's key block. -/
def pk (t : Fin cfg0.N) : Fin 8 := ⟨t.val % 8, by omega⟩

theorem coords0 (t : Fin cfg0.N) : (grid0.coords t 0).val = (ph t).val := by
  have e : (grid0.coords t 0).val = t.val / 8 % 8 := Pipeline.Grid.coords_val t 0 (by decide) rfl
  have := pt_lt t
  rw [e]; show _ = t.val / 8; omega
theorem coords1 (t : Fin cfg0.N) : (grid0.coords t 1).val = (pk t).val := by
  have e : (grid0.coords t 1).val = t.val / 1 % 8 := Pipeline.Grid.coords_val t 1 (by decide) rfl
  rw [e]; show _ = t.val % 8; omega

/-! ### Each window's block -/

variable (c : Dev nD)

theorem idx0 : ∀ t : Fin grid0.N, win0_0.index t 0 = 0 ∧ win0_0.index t 1 = t.val / 8 := by decide +kernel
theorem blk0_at (t : Fin cfg0.N) (G : Buf (Elt Ideal) ((c : Thread nD τ).loc main_arg0)) (r : Fin 4096) (e : Fin 128) :
    (((cfg0.win 0).blk t).view.read (Elt Ideal) G : S4096x128.Idx → EReal) (ix2 r e) = (G : S4096x1024.Idx → EReal) (ix2 r (col (ph t) e)) := by
  rw [View.read_apply]
  refine congrArg (G : S4096x1024.Idx → EReal) (funext fun x => Fin.ext ?_)
  have hi := idx0 t
  match x with
  | ⟨0, _⟩ => show win0_0.index t 0 * 4096 + 1 * _ = _; rw [hi.1]; show 0 * 4096 + 1 * r.val = r.val; omega
  | ⟨1, _⟩ => show win0_0.index t 1 * 128 + 1 * e.val = _; rw [hi.2]; show _ = 128 * (t.val / 8) + e.val; omega

theorem idx1 : ∀ t : Fin grid0.N, win0_1.index t 0 = 0 ∧ win0_1.index t 1 = t.val / 8 := by decide +kernel
theorem blk1_at (t : Fin cfg0.N) (G : Buf (Elt Ideal) ((c : Thread nD τ).loc main_arg3)) (r : Fin 4096) (e : Fin 128) :
    (((cfg0.win 1).blk t).view.read (Elt Ideal) G : S4096x128.Idx → EReal) (ix2 r e) = (G : S4096x1024.Idx → EReal) (ix2 r (col (ph t) e)) := by
  rw [View.read_apply]
  refine congrArg (G : S4096x1024.Idx → EReal) (funext fun x => Fin.ext ?_)
  have hi := idx1 t
  match x with
  | ⟨0, _⟩ => show win0_1.index t 0 * 4096 + 1 * _ = _; rw [hi.1]; show 0 * 4096 + 1 * r.val = r.val; omega
  | ⟨1, _⟩ => show win0_1.index t 1 * 128 + 1 * e.val = _; rw [hi.2]; show _ = 128 * (t.val / 8) + e.val; omega

theorem idx2 : ∀ t : Fin grid0.N, win0_2.index t 0 = t.val % 8 ∧ win0_2.index t 1 = t.val / 8 := by decide +kernel
theorem blk2_at (t : Fin cfg0.N) (G : Buf (Elt Ideal) ((c : Thread nD τ).loc main_arg1)) (a : Fin 512) (e : Fin 128) :
    (((cfg0.win 2).blk t).view.read (Elt Ideal) G : S512x128.Idx → EReal) (ix2 a e) = (G : S4096x1024.Idx → EReal) (ix2 (row (pk t) a) (col (ph t) e)) := by
  rw [View.read_apply]
  refine congrArg (G : S4096x1024.Idx → EReal) (funext fun x => Fin.ext ?_)
  have hi := idx2 t
  match x with
  | ⟨0, _⟩ => show win0_2.index t 0 * 512 + 1 * _ = _; rw [hi.1]; show _ = 512 * (t.val % 8) + a.val; show _ * 512 + 1 * a.val = _; omega
  | ⟨1, _⟩ => show win0_2.index t 1 * 128 + 1 * e.val = _; rw [hi.2]; show _ = 128 * (t.val / 8) + e.val; omega

theorem idx3 : ∀ t : Fin grid0.N, win0_3.index t 0 = t.val % 8 ∧ win0_3.index t 1 = t.val / 8 := by decide +kernel
theorem blk3_at (t : Fin cfg0.N) (G : Buf (Elt Ideal) ((c : Thread nD τ).loc main_arg2)) (a : Fin 512) (e : Fin 128) :
    (((cfg0.win 3).blk t).view.read (Elt Ideal) G : S512x128.Idx → EReal) (ix2 a e) = (G : S4096x1024.Idx → EReal) (ix2 (row (pk t) a) (col (ph t) e)) := by
  rw [View.read_apply]
  refine congrArg (G : S4096x1024.Idx → EReal) (funext fun x => Fin.ext ?_)
  have hi := idx3 t
  match x with
  | ⟨0, _⟩ => show win0_3.index t 0 * 512 + 1 * _ = _; rw [hi.1]; show _ = 512 * (t.val % 8) + a.val; show _ * 512 + 1 * a.val = _; omega
  | ⟨1, _⟩ => show win0_3.index t 1 * 128 + 1 * e.val = _; rw [hi.2]; show _ = 128 * (t.val / 8) + e.val; omega

theorem idx4 : ∀ t : Fin grid0.N, win0_4.index t 0 = t.val % 8 ∧ win0_4.index t 1 = 0 := by decide +kernel
theorem blk4_at (t : Fin cfg0.N) (G : Buf (Elt Ideal) ((c : Thread nD τ).loc main_arg4)) (a : Fin 512) (e : Fin 128) :
    (((cfg0.win 4).blk t).view.read (Elt Ideal) G : S512x128.Idx → EReal) (ix2 a e) = (G : S4096x128.Idx → EReal) (ix2 (row (pk t) a) (e)) := by
  rw [View.read_apply]
  refine congrArg (G : S4096x128.Idx → EReal) (funext fun x => Fin.ext ?_)
  have hi := idx4 t
  match x with
  | ⟨0, _⟩ => show win0_4.index t 0 * 512 + 1 * _ = _; rw [hi.1]; show _ = 512 * (t.val % 8) + a.val; show _ * 512 + 1 * a.val = _; omega
  | ⟨1, _⟩ => show win0_4.index t 1 * 128 + 1 * e.val = _; rw [hi.2]; show 0 * 128 + 1 * e.val = e.val; omega

theorem idx5 : ∀ t : Fin grid0.N, win0_5.index t 0 = t.val / 8 ∧ win0_5.index t 1 = 0 ∧ win0_5.index t 2 = 0 ∧ win0_5.index t 3 = 0 := by decide +kernel
theorem blk5_at (t : Fin cfg0.N) (G : Buf (Elt Ideal) ((c : Thread nD τ).loc main_v39)) (j : Fin 2) (n : Fin 8) (b : Fin 512) :
    (((cfg0.win 5).blk t).view.read (Elt Ideal) G : S2x8x1x512.Idx → EReal) (ix4 j n 0 b) = (G : S16x8x1x512.Idx → EReal) (ix4 (hd (ph t) j) n 0 b) := by
  rw [View.read_apply]
  refine congrArg (G : S16x8x1x512.Idx → EReal) (funext fun x => Fin.ext ?_)
  have hi := idx5 t
  match x with
  | ⟨0, _⟩ => show win0_5.index t 0 * 2 + 1 * j.val = 2 * (t.val / 8) + j.val; rw [hi.1]; omega
  | ⟨1, _⟩ => show win0_5.index t 1 * 8 + 1 * n.val = n.val; rw [hi.2.1]; omega
  | ⟨2, _⟩ => show win0_5.index t 2 * 1 + 1 * 0 = 0; rw [hi.2.2.1]
  | ⟨3, _⟩ => show win0_5.index t 3 * 512 + 1 * b.val = b.val; rw [hi.2.2.2]; omega

theorem idx6 : ∀ t : Fin grid0.N, win0_6.index t 0 = t.val / 8 ∧ win0_6.index t 1 = 0 ∧ win0_6.index t 2 = 0 ∧ win0_6.index t 3 = 0 := by decide +kernel
theorem blk6_at (t : Fin cfg0.N) (G : Buf (Elt Ideal) ((c : Thread nD τ).loc main_v45)) (j : Fin 2) (n : Fin 8) (b : Fin 512) :
    (((cfg0.win 6).blk t).view.read (Elt Ideal) G : S2x8x1x512.Idx → EReal) (ix4 j n 0 b) = (G : S16x8x1x512.Idx → EReal) (ix4 (hd (ph t) j) n 0 b) := by
  rw [View.read_apply]
  refine congrArg (G : S16x8x1x512.Idx → EReal) (funext fun x => Fin.ext ?_)
  have hi := idx6 t
  match x with
  | ⟨0, _⟩ => show win0_6.index t 0 * 2 + 1 * j.val = 2 * (t.val / 8) + j.val; rw [hi.1]; omega
  | ⟨1, _⟩ => show win0_6.index t 1 * 8 + 1 * n.val = n.val; rw [hi.2.1]; omega
  | ⟨2, _⟩ => show win0_6.index t 2 * 1 + 1 * 0 = 0; rw [hi.2.2.1]
  | ⟨3, _⟩ => show win0_6.index t 3 * 512 + 1 * b.val = b.val; rw [hi.2.2.2]; omega

theorem idx7 : ∀ t : Fin grid0.N, win0_7.index t 0 = t.val % 8 ∧ win0_7.index t 1 = t.val / 8 := by decide +kernel
theorem blk7_at (t : Fin cfg0.N) (G : Buf (Elt Ideal) ((c : Thread nD τ).loc main_v46_0)) (a : Fin 512) (e : Fin 128) :
    (((cfg0.win 7).blk t).view.read (Elt Ideal) G : S512x128.Idx → EReal) (ix2 a e) = (G : S4096x1024.Idx → EReal) (ix2 (row (pk t) a) (col (ph t) e)) := by
  rw [View.read_apply]
  refine congrArg (G : S4096x1024.Idx → EReal) (funext fun x => Fin.ext ?_)
  have hi := idx7 t
  match x with
  | ⟨0, _⟩ => show win0_7.index t 0 * 512 + 1 * _ = _; rw [hi.1]; show _ = 512 * (t.val % 8) + a.val; show _ * 512 + 1 * a.val = _; omega
  | ⟨1, _⟩ => show win0_7.index t 1 * 128 + 1 * e.val = _; rw [hi.2]; show _ = 128 * (t.val / 8) + e.val; omega

theorem idx8 : ∀ t : Fin grid0.N, win0_8.index t 0 = t.val % 8 ∧ win0_8.index t 1 = 48 + t.val / 8 := by decide +kernel
theorem blk8_at (t : Fin cfg0.N) (G : Buf (Elt Ideal) ((c : Thread nD τ).loc main_v46_1)) (a : Fin 512) (e : Fin 128) :
    (((cfg0.win 8).blk t).view.read (Elt Ideal) G : S512x128.Idx → EReal) (ix2 a e) = (G : S4096x7680.Idx → EReal) (ix2 (row (pk t) a) (dcol (ph t) e)) := by
  rw [View.read_apply]
  refine congrArg (G : S4096x7680.Idx → EReal) (funext fun x => Fin.ext ?_)
  have hi := idx8 t
  match x with
  | ⟨0, _⟩ => show win0_8.index t 0 * 512 + 1 * _ = _; rw [hi.1]; show _ = 512 * (t.val % 8) + a.val; show _ * 512 + 1 * a.val = _; omega
  | ⟨1, _⟩ => show win0_8.index t 1 * 128 + 1 * e.val = _; rw [hi.2]; show _ = 6144 + (128 * (t.val / 8) + e.val); omega

theorem idx9 : ∀ t : Fin grid0.N, win0_9.index t 0 = 0 ∧ win0_9.index t 1 = t.val / 8 := by decide +kernel
theorem blk9_at (t : Fin cfg0.N) (G : Buf (Elt Ideal) ((c : Thread nD τ).loc main_v46_2)) (r : Fin 4096) (e : Fin 128) :
    (((cfg0.win 9).blk t).view.read (Elt Ideal) G : S4096x128.Idx → EReal) (ix2 r e) = (G : S4096x1024.Idx → EReal) (ix2 r (col (ph t) e)) := by
  rw [View.read_apply]
  refine congrArg (G : S4096x1024.Idx → EReal) (funext fun x => Fin.ext ?_)
  have hi := idx9 t
  match x with
  | ⟨0, _⟩ => show win0_9.index t 0 * 4096 + 1 * _ = _; rw [hi.1]; show 0 * 4096 + 1 * r.val = r.val; omega
  | ⟨1, _⟩ => show win0_9.index t 1 * 128 + 1 * e.val = _; rw [hi.2]; show _ = 128 * (t.val / 8) + e.val; omega

theorem idx10 : ∀ t : Fin grid0.N, win0_10.index t 0 = t.val / 8 ∧ win0_10.index t 1 = 0 ∧ win0_10.index t 2 = 0 ∧ win0_10.index t 3 = 0 := by decide +kernel
theorem blk10_at (t : Fin cfg0.N) (G : Buf (Elt Ideal) ((c : Thread nD τ).loc main_v46_3)) (j : Fin 2) (n : Fin 8) (b : Fin 512) :
    (((cfg0.win 10).blk t).view.read (Elt Ideal) G : S2x8x1x512.Idx → EReal) (ix4 j n 0 b) = (G : S16x8x1x512.Idx → EReal) (ix4 (hd (ph t) j) n 0 b) := by
  rw [View.read_apply]
  refine congrArg (G : S16x8x1x512.Idx → EReal) (funext fun x => Fin.ext ?_)
  have hi := idx10 t
  match x with
  | ⟨0, _⟩ => show win0_10.index t 0 * 2 + 1 * j.val = 2 * (t.val / 8) + j.val; rw [hi.1]; omega
  | ⟨1, _⟩ => show win0_10.index t 1 * 8 + 1 * n.val = n.val; rw [hi.2.1]; omega
  | ⟨2, _⟩ => show win0_10.index t 2 * 1 + 1 * 0 = 0; rw [hi.2.2.1]
  | ⟨3, _⟩ => show win0_10.index t 3 * 512 + 1 * b.val = b.val; rw [hi.2.2.2]; omega

theorem idx11 : ∀ t : Fin grid0.N, win0_11.index t 0 = t.val % 8 ∧ win0_11.index t 1 = t.val / 8 := by decide +kernel
theorem blk11_at (t : Fin cfg0.N) (G : Buf (Elt Ideal) ((c : Thread nD τ).loc main_v46_4)) (a : Fin 512) (e : Fin 128) :
    (((cfg0.win 11).blk t).view.read (Elt Ideal) G : S512x128.Idx → EReal) (ix2 a e) = (G : S4096x1024.Idx → EReal) (ix2 (row (pk t) a) (col (ph t) e)) := by
  rw [View.read_apply]
  refine congrArg (G : S4096x1024.Idx → EReal) (funext fun x => Fin.ext ?_)
  have hi := idx11 t
  match x with
  | ⟨0, _⟩ => show win0_11.index t 0 * 512 + 1 * _ = _; rw [hi.1]; show _ = 512 * (t.val % 8) + a.val; show _ * 512 + 1 * a.val = _; omega
  | ⟨1, _⟩ => show win0_11.index t 1 * 128 + 1 * e.val = _; rw [hi.2]; show _ = 128 * (t.val / 8) + e.val; omega

end Cert.KernelIdeal.Run
-- ==== Proof.Launch.lean ====
/-
  The kernel's run: what each grid point finds and leaves in every window, so that the program ends with the arrays its
  points have written.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.WritesUnit
public import Idealize.ShloMosaic.Lib.Pipeline.Value
public import Idealize.ShloMosaic.Lib.Quiescent
public import proofs.«01_k».proof.Proof.Point
public import proofs.«01_k».proof.Proof.Blocks

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The arrays the kernel reads: queries, their cotangents, keys, values, gates, and each head's log-sums and deltas. -/
structure Arr where
  q : Fin 4096 → Fin 1024 → EReal
  g : Fin 4096 → Fin 1024 → EReal
  k : Fin 4096 → Fin 1024 → EReal
  v : Fin 4096 → Fin 1024 → EReal
  f : Fin 4096 → Fin 128 → EReal
  l : Fin 16 → Fin 8 → Fin 512 → EReal
  d : Fin 16 → Fin 8 → Fin 512 → EReal

/-- The block of query position `r`. -/
def blkOf (r : Fin 4096) : Fin 8 := ⟨r.val / 512, by have := r.isLt; omega⟩
/-- Its place in the block. -/
def posOf (r : Fin 4096) : Fin 512 := ⟨r.val % 512, by omega⟩
theorem blkOf_row (n : Fin 8) (b : Fin 512) : blkOf (row n b) = n := Fin.ext (by
  show (512 * n.val + b.val) / 512 = n.val
  have := b.isLt
  omega)
theorem posOf_row (n : Fin 8) (b : Fin 512) : posOf (row n b) = b := Fin.ext (by
  show (512 * n.val + b.val) % 512 = b.val
  have := b.isLt
  omega)
theorem row_blkOf (r : Fin 4096) : row (blkOf r) (posOf r) = r := Fin.ext (by
  show 512 * (r.val / 512) + r.val % 512 = r.val
  omega)

namespace Arr
variable (A : Arr)

/-- What the grid point at head pair `h` and key block `kb` reads. -/
def pt (h kb : Fin 8) : Pt where
  pair := h
  kb := kb
  q r e := A.q r (col h e)
  g r e := A.g r (col h e)
  k a e := A.k (row kb a) (col h e)
  v a e := A.v (row kb a) (col h e)
  fk a e := A.f (row kb a) e
  l j n b := A.l (hd h j) n b
  d j n b := A.d (hd h j) n b

/-- The query gradient of head pair `h` after the first `k + 1` key blocks. -/
def sumQ (h : Fin 8) (k : ℕ) (r : Fin 4096) (e : Fin 128) : EReal :=
  ∑ kb : Fin 8, if kb.val ≤ k then (A.pt h kb).aQ (blkOf r) (posOf r) e else 0
/-- The query gate's gradient of head pair `h` after the first `k + 1` key blocks. -/
def sumF (h : Fin 8) (k : ℕ) (j : Fin 2) (n : Fin 8) (b : Fin 512) : EReal :=
  ∑ kb : Fin 8, if kb.val ≤ k then (A.pt h kb).aF j n b else 0

omit A in
theorem sum_le_zero (f : Fin 8 → EReal) : (∑ kb : Fin 8, if kb.val ≤ 0 then f kb else 0) = f 0 := by
  rw [Finset.sum_eq_single (0 : Fin 8)]
  · rfl
  · intro b _ hb
    rw [if_neg]
    have : b.val ≠ 0 := fun c => hb (Fin.ext c)
    omega
  · intro h; exact absurd (Finset.mem_univ _) h
omit A in
theorem sum_le_succ (f : Fin 8 → EReal) (k : ℕ) (m : Fin 8) (hm : m.val = k + 1) :
    (∑ kb : Fin 8, if kb.val ≤ m.val then f kb else 0) = (∑ kb : Fin 8, if kb.val ≤ k then f kb else 0) + f m := by
  have e : ∀ n : Fin 8, (if n.val ≤ m.val then f n else 0) = (if n.val ≤ k then f n else 0) + (if n = m then f n else 0) := fun n => by
    by_cases h : n = m
    · subst h
      rw [if_pos le_rfl, if_neg (by omega), if_pos rfl, zero_add]
    · have : n.val ≠ m.val := fun c => h (Fin.ext c)
      rw [if_neg h, add_zero]
      exact if_congr (by omega) rfl rfl
  rw [Finset.sum_congr rfl fun n _ => e n, Finset.sum_add_distrib, Finset.sum_ite_eq' _ m f, if_pos (Finset.mem_univ m)]

end Arr

variable (m : (ℓ : Loc nD τ sig) → Buf (Elt Ideal) ℓ) (ρ : Dev nD → PrngReg)

/-- The arrays as the kernel finds them. -/
def arr (c : Dev nD) : Arr where
  q r x := (V m c main_arg0 : S4096x1024.Idx → EReal) (ix2 r x)
  g r x := (V m c main_arg3 : S4096x1024.Idx → EReal) (ix2 r x)
  k r x := (V m c main_arg1 : S4096x1024.Idx → EReal) (ix2 r x)
  v r x := (V m c main_arg2 : S4096x1024.Idx → EReal) (ix2 r x)
  f r x := (V m c main_arg4 : S4096x128.Idx → EReal) (ix2 r x)
  l h n b := (V m c main_v39 : S16x8x1x512.Idx → EReal) (ix4 h n 0 b)
  d h n b := (V m c main_v45 : S16x8x1x512.Idx → EReal) (ix4 h n 0 b)

/-- What point `t` reads. -/
abbrev ptAt (c : Dev nD) (t : Fin cfg0.N) : Pt := (arr m c).pt (ph t) (pk t)

/-- The outputs' blocks after point `t`. -/
def aft7 (c : Dev nD) (t : Fin cfg0.N) : S512x128.Idx → EReal := fun y => (ptAt m c t).dK (y 0) (y 1)
def aft8 (c : Dev nD) (t : Fin cfg0.N) : S512x128.Idx → EReal := fun y => (ptAt m c t).dV (y 0) (y 1)
def aft9 (c : Dev nD) (t : Fin cfg0.N) : S4096x128.Idx → EReal := fun y => (arr m c).sumQ (ph t) (pk t).val (y 0) (y 1)
def aft10 (c : Dev nD) (t : Fin cfg0.N) : S2x8x1x512.Idx → EReal := fun y => (arr m c).sumF (ph t) (pk t).val (y 0) (y 1) (y 3)
def aft11 (c : Dev nD) (t : Fin cfg0.N) : S512x128.Idx → EReal := fun y =>
  if (y 1).val / 64 = 0 then (ptAt m c t).dF 0 (y 0) else (ptAt m c t).dF 1 (y 0)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => aft7 m c t
    | ⟨8, _⟩ => aft8 m c t
    | ⟨9, _⟩ => aft9 m c t
    | ⟨10, _⟩ => aft10 m c t
    | ⟨11, _⟩ => aft11 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = aft7 m c t := by dsimp only [dats]
theorem after0_8 (c : Dev nD) (t : Fin cfg0.N) : (dats m 0 c).after 8 t = aft8 m c t := by dsimp only [dats]
theorem after0_9 (c : Dev nD) (t : Fin cfg0.N) : (dats m 0 c).after 9 t = aft9 m c t := by dsimp only [dats]
theorem after0_10 (c : Dev nD) (t : Fin cfg0.N) : (dats m 0 c).after 10 t = aft10 m c t := by dsimp only [dats]
theorem after0_11 (c : Dev nD) (t : Fin cfg0.N) : (dats m 0 c).after 11 t = aft11 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Away from a head pair's first point, window 9 holds what the point before left. -/
theorem before0_9 (c : Dev nD) (t : Fin cfg0.N) (h : t.val % 8 ≠ 0) (d) :
    (dats m 0 c).before 9 t d = aft9 m c ⟨t.val - 1, Nat.lt_of_le_of_lt (Nat.sub_le _ _) t.isLt⟩ :=
  ((dats m 0 c).before_out_kept 9 rfl t (fun e => h (by rw [e])) (by
    rw [Bool.eq_false_iff]
    intro hf
    have := (flush0_9 _).mp hf
    dsimp only at this
    omega) (fun _ => rfl) (fun _ _ => rfl) d).trans (after0_9 m c _)

/-- Away from a head pair's first point, window 10 holds what the point before left. -/
theorem before0_10 (c : Dev nD) (t : Fin cfg0.N) (h : t.val % 8 ≠ 0) (d) :
    (dats m 0 c).before 10 t d = aft10 m c ⟨t.val - 1, Nat.lt_of_le_of_lt (Nat.sub_le _ _) t.isLt⟩ :=
  ((dats m 0 c).before_out_kept 10 rfl t (fun e => h (by rw [e])) (by
    rw [Bool.eq_false_iff]
    intro hf
    have := (flush0_10 _).mp hf
    dsimp only at this
    omega) (fun _ => rfl) (fun _ _ => rfl) d).trans (after0_10 m c _)

set_option maxHeartbeats 2000000 in
/-- The buffers at a point hold what the point reads. -/
theorem reads (c : Dev nD) (t : Fin cfg0.N)
    (f0 : BufTy.Contents (Elt Ideal) (st0_0 t).view.ty) (f1 : BufTy.Contents (Elt Ideal) (st0_1 t).view.ty) (f2 : BufTy.Contents (Elt Ideal) (st0_2 t).view.ty) (f3 : BufTy.Contents (Elt Ideal) (st0_3 t).view.ty) (f4 : BufTy.Contents (Elt Ideal) (st0_4 t).view.ty) (f5 : BufTy.Contents (Elt Ideal) (st0_5 t).view.ty) (f6 : BufTy.Contents (Elt Ideal) (st0_6 t).view.ty)
    (hf0 : (st0_0 t).view.read (Elt Ideal) f0 = iblk m c 0 t) (hf1 : (st0_1 t).view.read (Elt Ideal) f1 = iblk m c 1 t) (hf2 : (st0_2 t).view.read (Elt Ideal) f2 = iblk m c 2 t) (hf3 : (st0_3 t).view.read (Elt Ideal) f3 = iblk m c 3 t) (hf4 : (st0_4 t).view.read (Elt Ideal) f4 = iblk m c 4 t) (hf5 : (st0_5 t).view.read (Elt Ideal) f5 = iblk m c 5 t) (hf6 : (st0_6 t).view.read (Elt Ideal) f6 = iblk m c 6 t) :
    Reads (ptAt m c t) (grid0.coords t) (st0_0 t) (st0_1 t) (st0_2 t) (st0_3 t) (st0_4 t) (st0_5 t) (st0_6 t) f0 f1 f2 f3 f4 f5 f6 where
  pair := (coords0 t).symm
  kb := (coords1 t).symm
  q r e := (congrFun hf0 (ix2 r e)).trans (blk0_at c t _ r e)
  g r e := (congrFun hf1 (ix2 r e)).trans (blk1_at c t _ r e)
  k a e := (congrFun hf2 (ix2 a e)).trans (blk2_at c t _ a e)
  v a e := (congrFun hf3 (ix2 a e)).trans (blk3_at c t _ a e)
  fk a e := (congrFun hf4 (ix2 a e)).trans (blk4_at c t _ a e)
  l j n b := (congrFun hf5 (ix4 j n 0 b)).trans (blk5_at c t _ j n b)
  d j n b := (congrFun hf6 (ix4 j n 0 b)).trans (blk6_at c t _ j n b)

section
variable {c : Dev nD} {t : Fin cfg0.N} {z12 : Fin 8 → Fin 512 → Fin 128 → EReal} {z13 : Fin 2 → Fin 8 → Fin 512 → EReal}
  {g7 : BufTy.Contents (Elt Ideal) (st0_7 t).view.ty} {g8 : BufTy.Contents (Elt Ideal) (st0_8 t).view.ty} {g9 : BufTy.Contents (Elt Ideal) (st0_9 t).view.ty} {g10 : BufTy.Contents (Elt Ideal) (st0_10 t).view.ty} {g11 : BufTy.Contents (Elt Ideal) (st0_11 t).view.ty}
  (O : Outs (ptAt m c t) (st0_7 t) (st0_8 t) (st0_9 t) (st0_10 t) (st0_11 t) z12 z13 g7 g8 g9 g10 g11)
include O

theorem outs_k : (st0_7 t).view.read (Elt Ideal) g7 = (dats m 0 c).after 7 t := by
  rw [after0_7]
  funext y
  rw [eq_ix2 y]
  exact O.k _ _
theorem outs_v : (st0_8 t).view.read (Elt Ideal) g8 = (dats m 0 c).after 8 t := by
  rw [after0_8]
  funext y
  rw [eq_ix2 y]
  exact O.v _ _
theorem outs_fk : (st0_11 t).view.read (Elt Ideal) g11 = (dats m 0 c).after 11 t := by
  rw [after0_11]
  funext y
  rw [eq_ix2 y]
  exact O.fk _ _
theorem outs_q_A (h : t.val % 8 = 0) (hz : ∀ n b e, z12 n b e = 0) : (st0_9 t).view.read (Elt Ideal) g9 = (dats m 0 c).after 9 t := by
  rw [after0_9]
  funext y
  obtain ⟨r, e, rfl⟩ : ∃ (r : Fin 4096) (e : Fin 128), y = ix2 r e := ⟨_, _, eq_ix2 y⟩
  rw [← row_blkOf r, O.q, hz, zero_add]
  show _ = (arr m c).sumQ (ph t) (t.val % 8) (row (blkOf r) (posOf r)) e
  unfold Arr.sumQ
  rw [h, Arr.sum_le_zero, blkOf_row, posOf_row]
  have : pk t = 0 := Fin.ext h
  rw [ptAt, this]
theorem outs_f_A (h : t.val % 8 = 0) (hz : ∀ j n b, z13 j n b = 0) : (st0_10 t).view.read (Elt Ideal) g10 = (dats m 0 c).after 10 t := by
  rw [after0_10]
  funext y
  obtain ⟨j, n, u, b, rfl⟩ : ∃ (j : Fin 2) (n : Fin 8) (u : Fin 1) (b : Fin 512), y = ix4 j n u b := ⟨_, _, _, _, eq_ix4 y⟩
  obtain rfl : u = 0 := Subsingleton.elim _ _
  rw [O.f, hz, zero_add]
  show _ = (arr m c).sumF (ph t) (t.val % 8) j n b
  unfold Arr.sumF
  rw [h, Arr.sum_le_zero]
  have : pk t = 0 := Fin.ext h
  rw [ptAt, this]
theorem outs_q_B (h : t.val % 8 ≠ 0)
    (hz : ∀ n b e, z12 n b e = aft9 m c ⟨t.val - 1, Nat.lt_of_le_of_lt (Nat.sub_le _ _) t.isLt⟩ (ix2 (row n b) e)) :
    (st0_9 t).view.read (Elt Ideal) g9 = (dats m 0 c).after 9 t := by
  rw [after0_9]
  funext y
  obtain ⟨r, e, rfl⟩ : ∃ (r : Fin 4096) (e : Fin 128), y = ix2 r e := ⟨_, _, eq_ix2 y⟩
  rw [← row_blkOf r, O.q, hz]
  have h1 : ph ⟨t.val - 1, Nat.lt_of_le_of_lt (Nat.sub_le _ _) t.isLt⟩ = ph t := Fin.ext (by
    show (t.val - 1) / 8 = t.val / 8
    omega)
  have h2 : (pk t).val = (t.val - 1) % 8 + 1 := by
    show t.val % 8 = _
    omega
  show (arr m c).sumQ (ph ⟨t.val - 1, _⟩) ((t.val - 1) % 8) (row (blkOf r) (posOf r)) e + _ = (arr m c).sumQ (ph t) (pk t).val (row (blkOf r) (posOf r)) e
  rw [h1]
  unfold Arr.sumQ
  rw [Arr.sum_le_succ _ _ (pk t) h2, blkOf_row, posOf_row]
theorem outs_f_B (h : t.val % 8 ≠ 0)
    (hz : ∀ j n b, z13 j n b = aft10 m c ⟨t.val - 1, Nat.lt_of_le_of_lt (Nat.sub_le _ _) t.isLt⟩ (ix4 j n 0 b)) :
    (st0_10 t).view.read (Elt Ideal) g10 = (dats m 0 c).after 10 t := by
  rw [after0_10]
  funext y
  obtain ⟨j, n, u, b, rfl⟩ : ∃ (j : Fin 2) (n : Fin 8) (u : Fin 1) (b : Fin 512), y = ix4 j n u b := ⟨_, _, _, _, eq_ix4 y⟩
  obtain rfl : u = 0 := Subsingleton.elim _ _
  rw [O.f, hz]
  have h1 : ph ⟨t.val - 1, Nat.lt_of_le_of_lt (Nat.sub_le _ _) t.isLt⟩ = ph t := Fin.ext (by
    show (t.val - 1) / 8 = t.val / 8
    omega)
  have h2 : (pk t).val = (t.val - 1) % 8 + 1 := by
    show t.val % 8 = _
    omega
  show (arr m c).sumF (ph ⟨t.val - 1, _⟩) ((t.val - 1) % 8) j n b + _ = (arr m c).sumF (ph t) (pk t).val j n b
  rw [h1]
  unfold Arr.sumF
  rw [Arr.sum_le_succ _ _ (pk t) h2]

end

/-! ### The body at a point, and the launch -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  have R := reads m c t f0 f1 f2 f3 f4 f5 f6 hf0 hf1 hf2 hf3 hf4 hf5 hf6
  by_cases h : t.val % 8 = 0
  · have O := outsA R c (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (f10 := f7) (f11 := f8) (f12 := f9) (f13 := f10) (f14 := f11) ((starts_iff t).mpr h)
    generalize hr : runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) ((starts_iff t).mpr h) f0 f1 f2 f3 f4 f5 f6 f7 f8 f9 f10 f11 = r at O
    iapply (r.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact outs_k m O
      iexact H7
    isplitl [H8]
    · iexists _; isplitr; · ipureintro; exact outs_v m O
      iexact H8
    isplitl [H9]
    · iexists _; isplitr; · ipureintro; exact outs_q_A m O h (fun _ _ _ => rfl)
      iexact H9
    isplitl [H10]
    · iexists _; isplitr; · ipureintro; exact outs_f_A m O h (fun _ _ _ => rfl)
      iexact H10
    iexists _; isplitr; · ipureintro; exact outs_fk m O
    iexact H11

  · rw [before0_9 m c t h] at hf9
    rw [before0_10 m c t h] at hf10
    have O := outsB R c (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (f10 := f7) (f11 := f8) (f12 := f9) (f13 := f10) (f14 := f11) (fun s => h ((starts_iff t).mp s))
    generalize hr : runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (fun s => h ((starts_iff t).mp s)) f0 f1 f2 f3 f4 f5 f6 f7 f8 f9 f10 f11 = r at O
    iapply (r.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact outs_k m O
      iexact H7
    isplitl [H8]
    · iexists _; isplitr; · ipureintro; exact outs_v m O
      iexact H8
    isplitl [H9]
    · iexists _; isplitr; · ipureintro; exact outs_q_B m O h (fun n b e => congrFun hf9 (ix2 (row n b) e))
      iexact H9
    isplitl [H10]
    · iexists _; isplitr; · ipureintro; exact outs_f_B m O h (fun j n b => congrFun hf10 (ix4 j n 0 b))
      iexact H10
    iexists _; isplitr; · ipureintro; exact outs_fk m O
    iexact H11

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The program ends with every window's array as its points wrote it and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Run
-- ==== Proof.Attn.lean ====
/-
  Causal attention with gates over the real numbers: the weights, the scores' gradients and the five results, and the
  extended-real arithmetic on real numbers that both programs do.
-/
module

public import Idealize.ShloMosaic.PureOps.Ideal
public import Idealize.ShloMosaic.PureOps.Ideal.Laws

@[expose] public section

noncomputable section

namespace Cert.Attention

open Idealize.ShloMosaic

/-! ### Extended reals that are real numbers -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = (Real.exp r : EReal) := rfl
theorem exp_bot : Ideal.exp ⊥ = 0 := rfl

theorem div_coe (a b : ℝ) (h : b ≠ 0) : Ideal.div (a : EReal) (b : EReal) = ((a / b : ℝ) : EReal) := by
  unfold Ideal.div
  rw [if_neg (fun e => h (EReal.coe_eq_zero.mp e)), div_eq_mul_inv, EReal.coe_mul, EReal.coe_inv]

theorem log_coe (r : ℝ) (h : 0 < r) : Ideal.log (r : EReal) = (Real.log r : EReal) := by
  show (if r ≤ 0 then (⊥ : EReal) else (Real.log r : EReal)) = _
  rw [if_neg (not_le.mpr h)]

theorem bot_sub_coe (r : ℝ) : (⊥ : EReal) - (r : EReal) = ⊥ := rfl

/-- The largest of real numbers and of minus infinities, one of them a real number, is a real number. -/
theorem fold_max_real {n : ℕ} (f : Fin n → EReal) (hf : ∀ s, f s = ⊥ ∨ ∃ r : ℝ, f s = (r : EReal)) (s₀ : Fin n) (r₀ : ℝ)
    (h₀ : f s₀ = (r₀ : EReal)) : ∃ M : ℝ, Finset.univ.fold max ⊥ f = (M : EReal) := by
  classical
  have key : ∀ s : Finset (Fin n), (s.fold max ⊥ f = ⊥ ∨ ∃ r : ℝ, s.fold max ⊥ f = (r : EReal)) := fun s => by
    induction s using Finset.induction_on with
    | empty => exact Or.inl rfl
    | insert a s ha ih =>
      rw [Finset.fold_insert ha]
      rcases max_choice (f a) (s.fold max ⊥ f) with e | e
      · rw [e]; exact hf a
      · rw [e]; exact ih
  rcases key Finset.univ with e | e
  · exfalso
    have : f s₀ ≤ Finset.univ.fold max ⊥ f := (Finset.le_fold_max _).mpr (Or.inr ⟨s₀, Finset.mem_univ _, le_rfl⟩)
    rw [e, h₀] at this
    exact absurd (le_bot_iff.mp this) (EReal.coe_ne_bot r₀)
  · exact e

/-! ### Attention -/

/-- The arguments: queries, their cotangents, keys and values by position and channel, gates by position and head. -/
structure Attn where
  q : Fin 4096 → Fin 1024 → ℝ
  g : Fin 4096 → Fin 1024 → ℝ
  k : Fin 4096 → Fin 1024 → ℝ
  v : Fin 4096 → Fin 1024 → ℝ
  f : Fin 4096 → Fin 16 → ℝ

/-- Channel `d` of head `h`. -/
def ch (h : Fin 16) (d : Fin 64) : Fin 1024 := ⟨64 * h.val + d.val, by have := h.isLt; have := d.isLt; omega⟩
/-- The head of a channel. -/
def hof (c : Fin 1024) : Fin 16 := ⟨c.val / 64, by have := c.isLt; omega⟩

namespace Attn
variable (A : Attn)

/-- The score of key `s` for query `t`. -/
def sc (h : Fin 16) (t s : Fin 4096) : ℝ := (∑ d, A.q t (ch h d) * A.k s (ch h d)) + A.f t h - A.f s h
/-- Its exponential, zero for the keys after the query. -/
def w (h : Fin 16) (t s : Fin 4096) : ℝ := if s ≤ t then Real.exp (A.sc h t s) else 0
/-- The sum of the exponentials. -/
def Z (h : Fin 16) (t : Fin 4096) : ℝ := ∑ s, A.w h t s
/-- The weight of key `s` for query `t`. -/
def P (h : Fin 16) (t s : Fin 4096) : ℝ := A.w h t s / A.Z h t
/-- The weight's cotangent. -/
def dP (h : Fin 16) (t s : Fin 4096) : ℝ := ∑ d, A.g t (ch h d) * A.v s (ch h d)
/-- The weights' sum of cotangents. -/
def D (h : Fin 16) (t : Fin 4096) : ℝ := ∑ s, A.P h t s * A.dP h t s
/-- The score's cotangent. -/
def dS (h : Fin 16) (t s : Fin 4096) : ℝ := A.P h t s * (A.dP h t s - A.D h t)
/-- The gradient of the keys, -/
def dk (s : Fin 4096) (c : Fin 1024) : ℝ := ∑ t, A.dS (hof c) t s * A.q t c
/-- of the values, -/
def dv (s : Fin 4096) (c : Fin 1024) : ℝ := ∑ t, A.P (hof c) t s * A.g t c
/-- of the queries, -/
def dq (t : Fin 4096) (c : Fin 1024) : ℝ := ∑ s, A.dS (hof c) t s * A.k s c
/-- of the queries' gates, -/
def dfq (h : Fin 16) (t : Fin 4096) : ℝ := ∑ s, A.dS h t s
/-- and of the keys' gates. -/
def dfk (h : Fin 16) (s : Fin 4096) : ℝ := ∑ t, -A.dS h t s

theorem w_nonneg (h : Fin 16) (t s : Fin 4096) : 0 ≤ A.w h t s := by
  unfold w
  split
  · exact (Real.exp_pos _).le
  · exact le_rfl

theorem Z_pos (h : Fin 16) (t : Fin 4096) : 0 < A.Z h t := by
  refine lt_of_lt_of_le ?_ (Finset.single_le_sum (fun s _ => A.w_nonneg h t s) (Finset.mem_univ t))
  rw [w, if_pos le_rfl]
  exact Real.exp_pos _

theorem P_masked {h : Fin 16} {t s : Fin 4096} (hs : ¬s ≤ t) : A.P h t s = 0 := by
  rw [P, w, if_neg hs, zero_div]
theorem dS_masked {h : Fin 16} {t s : Fin 4096} (hs : ¬s ≤ t) : A.dS h t s = 0 := by
  rw [dS, A.P_masked hs, zero_mul]

/-- The exponential of the masked score less any number. -/
def e (M : ℝ) (h : Fin 16) (t s : Fin 4096) : ℝ := A.w h t s * Real.exp (-M)

/-- The masked score as an extended real. -/
def ms (h : Fin 16) (t s : Fin 4096) : EReal := if s ≤ t then (A.sc h t s : EReal) else ⊥

theorem ms_real (h : Fin 16) (t s : Fin 4096) : A.ms h t s = ⊥ ∨ ∃ r : ℝ, A.ms h t s = (r : EReal) := by
  unfold ms
  split
  · exact Or.inr ⟨_, rfl⟩
  · exact Or.inl rfl
theorem ms_self (h : Fin 16) (t : Fin 4096) : A.ms h t t = (A.sc h t t : EReal) := if_pos le_rfl

/-- The largest masked score is a real number. -/
theorem max_real (h : Fin 16) (t : Fin 4096) : ∃ M : ℝ, Finset.univ.fold max ⊥ (fun s => A.ms h t s) = (M : EReal) :=
  fold_max_real _ (A.ms_real h t) t _ (A.ms_self h t)

theorem exp_ms (M : ℝ) (h : Fin 16) (t s : Fin 4096) : Ideal.exp (A.ms h t s - (M : EReal)) = (A.e M h t s : EReal) := by
  unfold ms e w
  split
  · rw [← EReal.coe_sub, exp_coe, sub_eq_add_neg, Real.exp_add]
  · rw [bot_sub_coe, exp_bot, zero_mul, EReal.coe_zero]

theorem sum_e (M : ℝ) (h : Fin 16) (t : Fin 4096) : ∑ s, A.e M h t s = A.Z h t * Real.exp (-M) := by
  unfold e Z
  rw [Finset.sum_mul]

theorem L_pos (M : ℝ) (h : Fin 16) (t : Fin 4096) : 0 < A.Z h t * Real.exp (-M) := mul_pos (A.Z_pos h t) (Real.exp_pos _)

/-- The softmax does not depend on the number subtracted. -/
theorem e_div (M : ℝ) (h : Fin 16) (t s : Fin 4096) : A.e M h t s / (A.Z h t * Real.exp (-M)) = A.P h t s := by
  unfold e P
  rw [mul_div_mul_right _ _ (Real.exp_pos _).ne']

/-- The log-sum without the query's gate. -/
theorem log_L (M : ℝ) (h : Fin 16) (t : Fin 4096) : M + Real.log (A.Z h t * Real.exp (-M)) = Real.log (A.Z h t) := by
  rw [Real.log_mul (A.Z_pos h t).ne' (Real.exp_pos _).ne', Real.log_exp]
  ring

/-- The scores' cotangent as the reference's derivative writes it. -/
theorem dS_eq (M : ℝ) (h : Fin 16) (t s : Fin 4096) :
    (A.dP h t s / (A.Z h t * Real.exp (-M))
      + -(∑ s', A.dP h t s' * (1 / ((A.Z h t * Real.exp (-M)) * (A.Z h t * Real.exp (-M)))) * A.e M h t s')) * A.e M h t s
      = A.dS h t s := by
  have hL := (A.L_pos M h t).ne'
  have h1 : (∑ s', A.dP h t s' * (1 / ((A.Z h t * Real.exp (-M)) * (A.Z h t * Real.exp (-M)))) * A.e M h t s')
      = A.D h t / (A.Z h t * Real.exp (-M)) := by
    unfold D
    rw [Finset.sum_div]
    refine Finset.sum_congr rfl fun s' _ => ?_
    rw [← A.e_div M h t s']
    field_simp
  rw [h1, dS, ← A.e_div M h t s]
  field_simp
  ring

/-- The weights' sum of cotangents is the output against its cotangent. -/
theorem D_eq (h : Fin 16) (t : Fin 4096) :
    ∑ d, A.g t (ch h d) * ∑ s, A.v s (ch h d) * A.P h t s = A.D h t := by
  unfold D dP
  simp only [Finset.mul_sum]
  rw [Finset.sum_comm]
  refine Finset.sum_congr rfl fun s _ => Finset.sum_congr rfl fun d _ => ?_
  ring

/-- The weight from the log-sum, for a key not after the query. -/
theorem exp_lse {h : Fin 16} {t s : Fin 4096} (hs : s ≤ t) :
    Real.exp ((∑ d, A.q t (ch h d) * A.k s (ch h d)) - A.f s h - (Real.log (A.Z h t) - A.f t h)) = A.P h t s := by
  have : (∑ d, A.q t (ch h d) * A.k s (ch h d)) - A.f s h - (Real.log (A.Z h t) - A.f t h) = A.sc h t s - Real.log (A.Z h t) := by
    unfold sc
    ring
  rw [this, Real.exp_sub, Real.exp_log (A.Z_pos h t), P, w, if_pos hs]

end Attn

end Cert.Attention
-- ==== Proof.Ref.lean ====
/-
  The reference read at an index, on arguments that are real numbers: its scores, weights and results are the attention's.
-/
module

public import proofs.«01_k».proof.Proof.Gen.ReferenceIdeal.Read
public import proofs.«01_k».proof.Proof.Attn
public import Idealize.ShloMosaic.Lib.Pointwise

@[expose] public section

set_option maxRecDepth 16384

noncomputable section

namespace Cert.Attention

open Cert.ReferenceIdeal Cert.ReferenceIdeal.Gen Cert.ReferenceIdeal.Read
open Idealize.ShloMosaic Idealize.ShloMosaic.TcCoe

/-- An index by its coordinates. -/
theorem idx2 {n m : ℕ} (i : (⟨2, ![n, m]⟩ : Shape).Idx) (a : Fin n) (b : Fin m) (h0 : (i 0).val = a.val) (h1 : (i 1).val = b.val) :
    i = ix2 a b := by
  rw [eq_ix2 i]
  congr 1 <;> exact Fin.ext ‹_›
theorem idx3 {n m l : ℕ} (i : (⟨3, ![n, m, l]⟩ : Shape).Idx) (a : Fin n) (b : Fin m) (c : Fin l) (h0 : (i 0).val = a.val)
    (h1 : (i 1).val = b.val) (h2 : (i 2).val = c.val) : i = ix3 a b c := by
  rw [eq_ix3 i]
  congr 1 <;> exact Fin.ext ‹_›

/-- Lane `h` of the gates' array. -/
def ln (h : Fin 16) : Fin 128 := ⟨h.val, by have := h.isLt; omega⟩

/-- The arguments are the attention's real numbers. -/
structure Args (A : Attn) (x0 x1 x2 x3 : S4096x1024.Idx → EReal) (x4 : S4096x128.Idx → EReal) : Prop where
  q : ∀ r c, x0 (ix2 r c) = (A.q r c : EReal)
  k : ∀ r c, x1 (ix2 r c) = (A.k r c : EReal)
  v : ∀ r c, x2 (ix2 r c) = (A.v r c : EReal)
  g : ∀ r c, x3 (ix2 r c) = (A.g r c : EReal)
  f : ∀ r h, x4 (ix2 r (ln h)) = (A.f r h : EReal)

theorem sle_iff (a b : Fin 4096) : IntOp.cmpi .sle (BitVec.ofNat 32 a.val) (BitVec.ofNat 32 b.val) = BitVec.ofBool (decide (a ≤ b)) := by
  have ha := a.isLt
  have hb := b.isLt
  have e : ∀ n : ℕ, n < 4096 → (BitVec.ofNat 32 n).toInt = n := fun n h => by
    have h2 : (BitVec.ofNat 32 n).toNat = n := by rw [BitVec.toNat_ofNat]; exact Nat.mod_eq_of_lt (by omega)
    rw [BitVec.toInt_eq_toNat_of_lt (by rw [h2]; omega), h2]
  have : BitVec.sle (BitVec.ofNat 32 a.val) (BitVec.ofNat 32 b.val) = decide (a ≤ b) := by
    rw [BitVec.sle, e _ ha, e _ hb]
    exact decide_eq_decide.mpr (by rw [Fin.le_def]; exact Int.ofNat_le)
  exact congrArg BitVec.ofBool this

theorem select_of (p : Prop) [Decidable p] (x y : EReal) : Scalar.select (BitVec.ofBool (decide p)) x y = if p then x else y := by
  by_cases h : p <;> simp [h, Scalar.select]

theorem ninf : Ideal.ofBits .f32 0xFF800000#32 = ⊥ := by simp [Ideal.ofBits, Ideal.ieee]
theorem one : Ideal.ofBits .f32 0x3F800000#32 = ((1 : ℝ) : EReal) := by
  simp [Ideal.ofBits, Ideal.ieee, -EReal.coe_mul]
  norm_num
theorem zero : Ideal.ofBits .f32 0x00000000#32 = 0 := by simp [Ideal.ofBits, Ideal.ieee]

section
variable {A : Attn} {x0 x1 x2 x3 : S4096x1024.Idx → EReal} {x4 : S4096x128.Idx → EReal} (R : Args A x0 x1 x2 x3 x4)

theorem head_row (t : Fin 4096) (h : Fin 16) (d : Fin 64) : ((t.val * 16 + h.val) * 64 + d.val) / 1024 = t.val := by
  have := h.isLt; have := d.isLt; omega
theorem head_col (t : Fin 4096) (h : Fin 16) (d : Fin 64) : ((t.val * 16 + h.val) * 64 + d.val) % 1024 = 64 * h.val + d.val := by
  have := h.isLt; have := d.isLt; omega

include R

theorem v2_at (t : Fin 4096) (h : Fin 16) (d : Fin 64) : val_main_v2 (F := Ideal) x0 (ix3 t h d) = (A.q t (ch h d) : EReal) := by
  rw [val_main_v2_apply, val_main_v1_apply]
  exact (congrArg x0 (idx2 _ t (ch h d) (head_row t h d) (head_col t h d))).trans (R.q _ _)
theorem v4_at (t : Fin 4096) (h : Fin 16) (d : Fin 64) : val_main_v4 (F := Ideal) x1 (ix3 t h d) = (A.k t (ch h d) : EReal) := by
  rw [val_main_v4_apply, val_main_v3_apply]
  exact (congrArg x1 (idx2 _ t (ch h d) (head_row t h d) (head_col t h d))).trans (R.k _ _)
theorem v6_at (t : Fin 4096) (h : Fin 16) (d : Fin 64) : val_main_v6 (F := Ideal) x2 (ix3 t h d) = (A.v t (ch h d) : EReal) := by
  rw [val_main_v6_apply, val_main_v5_apply]
  exact (congrArg x2 (idx2 _ t (ch h d) (head_row t h d) (head_col t h d))).trans (R.v _ _)
theorem v55_at (t : Fin 4096) (h : Fin 16) (d : Fin 64) : val_main_v55 (F := Ideal) x3 (ix3 t h d) = (A.g t (ch h d) : EReal) := by
  rw [val_main_v55_apply, val_main_v54_apply]
  exact (congrArg x3 (idx2 _ t (ch h d) (head_row t h d) (head_col t h d))).trans (R.g _ _)
theorem v56_at (h : Fin 16) (d : Fin 64) (t : Fin 4096) : val_main_v56 (F := Ideal) x3 (ix3 h d t) = (A.g t (ch h d) : EReal) := by
  rw [val_main_v56_apply]
  exact (congrArg (val_main_v55 (F := Ideal) x3) (idx3 _ t h d rfl rfl rfl)).trans (v55_at R t h d)
theorem v0_at (t : Fin 4096) (h : Fin 16) : val_main_v0 (F := Ideal) x4 (ix2 t h) = (A.f t h : EReal) := by
  rw [val_main_v0_apply]
  exact (congrArg x4 (idx2 _ t (ln h) rfl rfl)).trans (R.f _ _)

theorem v7_at (h : Fin 16) (t s : Fin 4096) :
    val_main_v7 (F := Ideal) x0 x1 (ix3 h t s) = ((∑ d, A.q t (ch h d) * A.k s (ch h d) : ℝ) : EReal) := by
  rw [val_main_v7_apply, coe_sum]
  refine Finset.sum_congr rfl fun d _ => ?_
  rw [idx3 (lidx_main_v7 (ix3 h t s) d) t h d rfl rfl rfl, idx3 (ridx_main_v7 (ix3 h t s) d) s h d rfl rfl rfl, v2_at R, v4_at R,
    EReal.coe_mul]
theorem v10_at (h : Fin 16) (t s : Fin 4096) : val_main_v10 (F := Ideal) x4 (ix3 h t s) = (A.f t h : EReal) := by
  rw [val_main_v10_apply, val_main_v9_apply, val_main_v8_apply]
  exact (congrArg (val_main_v0 (F := Ideal) x4) (idx2 _ t h rfl rfl)).trans (v0_at R t h)
theorem v14_at (h : Fin 16) (t s : Fin 4096) : val_main_v14 (F := Ideal) x4 (ix3 h t s) = (A.f s h : EReal) := by
  rw [val_main_v14_apply, val_main_v13_apply, val_main_v12_apply]
  exact (congrArg (val_main_v0 (F := Ideal) x4) (idx2 _ s h rfl rfl)).trans (v0_at R s h)
theorem v15_at (h : Fin 16) (t s : Fin 4096) : val_main_v15 (F := Ideal) x0 x1 x4 (ix3 h t s) = (A.sc h t s : EReal) := by
  show val_main_v7 (F := Ideal) x0 x1 (ix3 h t s) + val_main_v10 (F := Ideal) x4 (ix3 h t s) - val_main_v14 (F := Ideal) x4 (ix3 h t s) = _
  rw [v7_at R, v10_at R, v14_at R, ← EReal.coe_add, ← EReal.coe_sub]
  rfl
omit R in
theorem v23_1_at (h : Fin 16) (t s : Fin 4096) : val_main_v23_1 (F := Ideal) (ix3 h t s) = BitVec.ofBool (decide (s ≤ t)) := by
  rw [val_main_v23_1_apply, val_main_v22_apply, val_main_v21_apply, val_main_v19_apply, val_main_v20_apply, val_main_v17_apply,
    val_main_v18_apply, val_main_v16_apply, val_main_v16_apply]
  exact sle_iff s t
/-- The masked scores. -/
theorem v23_at (h : Fin 16) (t s : Fin 4096) : val_main_v23_0 (F := Ideal) x0 x1 x4 (ix3 h t s) = A.ms h t s := by
  rw [val_main_v23_0_apply, v23_1_at, v15_at R, val_main_call0_v2_apply]
  exact (select_of _ _ _).trans (by rw [show val_main_call0_v0 (F := Ideal) (idx_main_call0_v2 (ix3 h t s)) = ⊥ from ninf]; rfl)
/-- Their largest, a real number. -/
theorem v24_at (h : Fin 16) (t : Fin 4096) : ∃ M : ℝ, val_main_v24 (F := Ideal) x0 x1 x4 (ix2 h t) = (M : EReal) := by
  obtain ⟨M, hM⟩ := A.max_real h t
  refine ⟨M, ?_⟩
  rw [← hM]
  have e : val_main_v24 (F := Ideal) x0 x1 x4 (ix2 h t)
      = Finset.univ.fold max (Ideal.ofBits .f32 0xFF800000#32) (fun s : Fin 4096 => val_main_v23_0 (F := Ideal) x0 x1 x4 (ix3 h t s)) := by
    generalize hy : val_main_v23_0 (F := Ideal) x0 x1 x4 = y
    pointwise [val_main_v24, val_main_cst_0, hy]
  rw [e, ninf]
  exact congrArg (fun F : Fin 4096 → EReal => Finset.univ.fold max ⊥ F) (funext fun s => v23_at R h t s)
theorem v31_at (h : Fin 16) (t : Fin 4096) : val_main_v31 (F := Ideal) x0 x1 x4 (ix2 h t) = val_main_v24 (F := Ideal) x0 x1 x4 (ix2 h t) := by
  rw [val_main_v31_apply, val_main_v30_apply]
  show max (Ideal.ofBits .f32 0xFF800000#32) _ = _
  rw [ninf]
  exact bot_sup_eq _

section
variable {h : Fin 16} {t : Fin 4096} {M : ℝ} (hM : val_main_v24 (F := Ideal) x0 x1 x4 (ix2 h t) = (M : EReal))
include hM

theorem v44_at (s : Fin 4096) : val_main_v44 (F := Ideal) x0 x1 x4 (ix3 h t s) = (A.e M h t s : EReal) := by
  rw [val_main_v44_apply, val_main_v43_apply, val_main_v42_apply, val_main_v41_apply, v23_at R,
    idx2 (idx_main_v41 (idx_main_v42 (ix3 h t s))) h t rfl rfl, v31_at R, hM]
  exact A.exp_ms M h t s
theorem v45_at : val_main_v45 (F := Ideal) x0 x1 x4 (ix2 h t) = ((A.Z h t * Real.exp (-M) : ℝ) : EReal) := by
  rw [val_main_v45_apply, ← A.sum_e, coe_sum]
  rw [show val_main_cst_8 (F := Ideal) (Shape.Idx.first h_S_) = 0 from zero, zero_add]
  refine Finset.sum_congr rfl fun s _ => ?_
  rw [idx3 (idx_main_v45 (ix2 h t) s) h t s rfl rfl rfl]
  exact v44_at R hM s
theorem v48_M (s : Fin 4096) : val_main_v48 (F := Ideal) x0 x1 x4 (ix3 h t s) = (A.P h t s : EReal) := by
  rw [val_main_v48_apply, v44_at R hM, val_main_v47_apply, val_main_v46_apply, idx2 (idx_main_v46 (idx_main_v47 (ix3 h t s))) h t rfl rfl,
    v45_at R hM]
  exact (div_coe _ _ (A.L_pos M h t).ne').trans (congrArg _ (A.e_div M h t s))
theorem v46_at (u : Fin 1) : val_main_v46 (F := Ideal) x0 x1 x4 (ix3 h t u) = ((A.Z h t * Real.exp (-M) : ℝ) : EReal) := by
  rw [val_main_v46_apply, idx2 (idx_main_v46 (ix3 h t u)) h t rfl rfl, v45_at R hM]
theorem v60_at (s : Fin 4096) : val_main_v60 (F := Ideal) x0 x1 x4 (ix3 h t s)
    = ((1 / ((A.Z h t * Real.exp (-M)) * (A.Z h t * Real.exp (-M))) : ℝ) : EReal) := by
  rw [val_main_v60_apply, idx3 (idx_main_v60 (ix3 h t s)) h t 0 rfl rfl rfl, val_main_v51_apply, val_main_v49_apply, v46_at R hM,
    val_main_v50_apply, show val_main_cst_9 (F := Ideal) (idx_main_v50 (ix3 h t 0)) = ((1 : ℝ) : EReal) from one]
  show Ideal.div _ (_ * _) = _
  rw [← EReal.coe_mul]
  exact div_coe _ _ (mul_pos (A.L_pos M h t) (A.L_pos M h t)).ne'
omit hM in
theorem v57_at (h : Fin 16) (t s : Fin 4096) : val_main_v57 (F := Ideal) x2 x3 (ix3 h t s) = (A.dP h t s : EReal) := by
  unfold Attn.dP
  rw [val_main_v57_apply, coe_sum]
  refine Finset.sum_congr rfl fun d _ => ?_
  rw [idx3 (lidx_main_v57 (ix3 h t s) d) h d t rfl rfl rfl, idx3 (ridx_main_v57 (ix3 h t s) d) s h d rfl rfl rfl, v56_at R, v6_at R,
    EReal.coe_mul]
theorem v62_at (s : Fin 4096) : val_main_v62 (F := Ideal) x0 x1 x2 x3 x4 (ix3 h t s)
    = ((A.dP h t s * (1 / ((A.Z h t * Real.exp (-M)) * (A.Z h t * Real.exp (-M)))) * A.e M h t s : ℝ) : EReal) := by
  rw [val_main_v62_apply, val_main_v61_apply, v44_at R hM, v60_at R hM, v57_at R]
  show _ * _ * _ = _
  rw [← EReal.coe_mul, ← EReal.coe_mul]
theorem v63_at : val_main_v63 (F := Ideal) x0 x1 x2 x3 x4 (ix2 h t)
    = ((∑ s, A.dP h t s * (1 / ((A.Z h t * Real.exp (-M)) * (A.Z h t * Real.exp (-M)))) * A.e M h t s : ℝ) : EReal) := by
  rw [val_main_v63_apply, coe_sum, show val_main_cst_10 (F := Ideal) (Shape.Idx.first h_S_) = 0 from zero, zero_add]
  refine Finset.sum_congr rfl fun s _ => ?_
  rw [idx3 (idx_main_v63 (ix2 h t) s) h t s rfl rfl rfl]
  exact v62_at R hM s
theorem v68_at : val_main_v68 (F := Ideal) x0 x1 x2 x3 x4 (ix2 h t)
    = ((-(∑ s, A.dP h t s * (1 / ((A.Z h t * Real.exp (-M)) * (A.Z h t * Real.exp (-M)))) * A.e M h t s) : ℝ) : EReal) := by
  rw [val_main_v68_apply, show val_main_cst_11 (F := Ideal) (Shape.Idx.first h_S_) = 0 from zero, zero_add, Fin.sum_univ_one,
    val_main_v65_apply, val_main_v64_apply, idx2 (idx_main_v64 (idx_main_v68 (ix2 h t) 0)) h t
      (by show ((h.val * 4096 + t.val) * 1 + 0) / 4096 = h.val; have := t.isLt; omega)
      (by show ((h.val * 4096 + t.val) * 1 + 0) % 4096 = t.val; have := t.isLt; omega), v63_at R hM]
  exact (EReal.coe_neg _).symm
theorem v72_M (s : Fin 4096) : val_main_v72 (F := Ideal) x0 x1 x2 x3 x4 (ix3 h t s) = (A.dS h t s : EReal) := by
  rw [val_main_v72_apply, v23_1_at]
  refine (select_of _ _ _).trans ?_
  by_cases hs : s ≤ t
  · rw [if_pos hs, val_main_v71_apply, val_main_v70_apply, val_main_v67_apply, v44_at R hM, v57_at R, val_main_v66_apply,
      idx3 (idx_main_v66 (ix3 h t s)) h t 0 rfl rfl rfl, v46_at R hM, val_main_v69_apply,
      idx2 (idx_main_v69 (ix3 h t s)) h t rfl rfl, v68_at R hM, ← A.dS_eq M h t s]
    show (Ideal.div _ _ + _) * _ = _
    rw [div_coe _ _ (A.L_pos M h t).ne', ← EReal.coe_add, ← EReal.coe_mul]
  · rw [if_neg hs, A.dS_masked hs]
    exact zero
end

/-- The weights. -/
theorem v48_at (h : Fin 16) (t s : Fin 4096) : val_main_v48 (F := Ideal) x0 x1 x4 (ix3 h t s) = (A.P h t s : EReal) := by
  obtain ⟨M, hM⟩ := v24_at R h t
  exact v48_M R hM s
/-- The scores' cotangent. -/
theorem v72_at (h : Fin 16) (t s : Fin 4096) : val_main_v72 (F := Ideal) x0 x1 x2 x3 x4 (ix3 h t s) = (A.dS h t s : EReal) := by
  obtain ⟨M, hM⟩ := v24_at R h t
  exact v72_M R hM s

end

/-! ### The results -/

theorem col_head (r : Fin 4096) (c : Fin 1024) : (r.val * 1024 + c.val) / 64 % 16 = (hof c).val := by
  show _ = c.val / 64
  have := c.isLt; omega
theorem col_row (r : Fin 4096) (c : Fin 1024) : (r.val * 1024 + c.val) / 1024 = r.val := by
  have := c.isLt; omega
/-- A channel's place in its head. -/
def dof (c : Fin 1024) : Fin 64 := ⟨c.val % 64, by omega⟩
theorem col_chan (r : Fin 4096) (c : Fin 1024) : (r.val * 1024 + c.val) % 64 = (dof c).val := by
  show _ = c.val % 64
  omega
theorem ch_hof (c : Fin 1024) : ch (hof c) (dof c) = c := Fin.ext (by
  show 64 * (c.val / 64) + c.val % 64 = c.val
  omega)

section
variable {A : Attn} {x0 x1 x2 x3 : S4096x1024.Idx → EReal} {x4 : S4096x128.Idx → EReal} (R : Args A x0 x1 x2 x3 x4)
include R

theorem ref_dk (s : Fin 4096) (c : Fin 1024) : val_main_v92 (F := Ideal) x0 x1 x2 x3 x4 (ix2 s c) = (A.dk s c : EReal) := by
  rw [val_main_v92_apply, val_main_v91_apply, val_main_v83_apply,
    idx3 (idx_main_v83 (idx_main_v91 (ix2 s c))) (hof c) s (dof c) (col_head s c) (col_row s c) (col_chan s c), val_main_v82_apply]
  unfold Attn.dk
  rw [coe_sum]
  refine Finset.sum_congr rfl fun t _ => ?_
  rw [idx3 (lidx_main_v82 (ix3 (hof c) s (dof c)) t) (hof c) t s rfl rfl rfl,
    idx3 (ridx_main_v82 (ix3 (hof c) s (dof c)) t) t (hof c) (dof c) rfl rfl rfl, v72_at R, v2_at R, ch_hof, EReal.coe_mul]
theorem ref_dq (t : Fin 4096) (c : Fin 1024) : val_main_v93 (F := Ideal) x0 x1 x2 x3 x4 (ix2 t c) = (A.dq t c : EReal) := by
  rw [val_main_v93_apply, val_main_v85_apply,
    idx3 (idx_main_v85 (idx_main_v93 (ix2 t c))) (hof c) t (dof c) (col_head t c) (col_row t c) (col_chan t c), val_main_v84_apply]
  unfold Attn.dq
  rw [coe_sum]
  refine Finset.sum_congr rfl fun s _ => ?_
  rw [idx3 (lidx_main_v84 (ix3 (hof c) t (dof c)) s) (hof c) t s rfl rfl rfl,
    idx3 (ridx_main_v84 (ix3 (hof c) t (dof c)) s) s (hof c) (dof c) rfl rfl rfl, v72_at R, v4_at R, ch_hof, EReal.coe_mul]
theorem ref_dv (s : Fin 4096) (c : Fin 1024) : val_main_v88 (F := Ideal) x0 x1 x3 x4 (ix2 s c) = (A.dv s c : EReal) := by
  rw [val_main_v88_apply, val_main_v87_apply, val_main_v59_apply,
    idx3 (idx_main_v59 (idx_main_v87 (ix2 s c))) (hof c) (dof c) s (col_head s c) (col_chan s c) (col_row s c)]
  refine (val_main_v58_apply x0 x1 x3 x4 _).trans ?_
  unfold Attn.dv
  rw [coe_sum]
  refine Finset.sum_congr rfl fun t _ => ?_
  rw [idx3 (lidx_main_v58 (ix3 (hof c) (dof c) s) t) (hof c) (dof c) t rfl rfl rfl,
    idx3 (ridx_main_v58 (ix3 (hof c) (dof c) s) t) (hof c) t s rfl rfl rfl, v56_at R, v48_at R, ch_hof, EReal.coe_mul, mul_comm]
theorem ref_dfq (h : Fin 16) (n : Fin 8) (b : Fin 512) (t : Fin 4096) (ht : t.val = 512 * n.val + b.val) :
    val_main_v95 (F := Ideal) x0 x1 x2 x3 x4 (ix4 h n 0 b) = (A.dfq h t : EReal) := by
  have hn := n.isLt
  have hb := b.isLt
  have hh := h.isLt
  rw [val_main_v95_apply, idx2 (idx_main_v95 (ix4 h n 0 b)) h t
      (by show (((h.val * 8 + n.val) * 1 + 0) * 512 + b.val) / 4096 = h.val; omega)
      (by show (((h.val * 8 + n.val) * 1 + 0) * 512 + b.val) % 4096 = t.val; omega), val_main_v94_apply, val_main_v81_apply,
    val_main_v80_apply, show val_main_cst_15 (F := Ideal) (Shape.Idx.first h_S_) = 0 from zero, zero_add, Fin.sum_univ_one, val_main_v79_apply]
  have ht := t.isLt
  rw [idx2 (idx_main_v79 _) h t (by show ((h.val * 4096 + t.val) * 1 + 0) / 4096 = h.val; omega)
      (by show ((h.val * 4096 + t.val) * 1 + 0) % 4096 = t.val; omega),
    val_main_v78_apply, show val_main_cst_14 (F := Ideal) (Shape.Idx.first h_S_) = 0 from zero, zero_add]
  unfold Attn.dfq
  rw [coe_sum]
  refine Finset.sum_congr rfl fun s _ => ?_
  rw [idx3 (idx_main_v78 (ix2 h t) s) h t s rfl rfl rfl, v72_at R]
theorem ref_dfk (s : Fin 4096) (c : Fin 1024) : val_main_v97 (F := Ideal) x0 x1 x2 x3 x4 (ix2 s c) = (A.dfk (hof c) s : EReal) := by
  rw [val_main_v97_apply, val_main_v96_apply, idx2 (idx_main_v96 (idx_main_v97 (ix2 s c))) s (hof c) (col_row s c) (col_head s c),
    val_main_v77_apply, val_main_v76_apply, show val_main_cst_13 (F := Ideal) (Shape.Idx.first h_S_) = 0 from zero, zero_add,
    Fin.sum_univ_one, val_main_v75_apply]
  have hs := s.isLt
  rw [idx2 (idx_main_v75 _) (hof c) s (by show (((hof c).val * 1 + 0) * 4096 + s.val) / 4096 = (hof c).val; omega)
      (by show (((hof c).val * 1 + 0) * 4096 + s.val) % 4096 = s.val; omega),
    val_main_v74_apply, show val_main_cst_12 (F := Ideal) (Shape.Idx.first h_S_) = 0 from zero, zero_add]
  unfold Attn.dfk
  rw [coe_sum]
  refine Finset.sum_congr rfl fun t _ => ?_
  rw [idx3 (idx_main_v74 (ix2 (hof c) s) t) (hof c) t s rfl rfl rfl, val_main_v73_apply, v72_at R]
  exact (EReal.coe_neg _).symm

end

/-! ### The joined array: the value gradient between the buffer's other columns -/

section
variable (x0 x1 x3 : S4096x1024.Idx → EReal) (x4 : S4096x128.Idx → EReal) (x5 : S4096x7680.Idx → EReal)

theorem ref_proj (r : Fin 4096) (c : Fin 7680) : val_main_v90 (F := Ideal) x0 x1 x3 x4 x5 (ix2 r c)
    = if h : 6144 ≤ c.val ∧ c.val < 7168 then val_main_v88 (F := Ideal) x0 x1 x3 x4 (ix2 r ⟨c.val - 6144, by omega⟩) else x5 (ix2 r c) := by
  have hc := c.isLt
  generalize hy : val_main_v88 (F := Ideal) x0 x1 x3 x4 = y
  have piece : ∀ (k : ℕ) (hk : k < 3) (n pre : ℕ) (z : (⟨2, ![4096, n]⟩ : Shape).Idx → EReal) (u : Fin n)
      (_ : ([(⟨S4096x6144, val_main_v86 (F := Ideal) x5⟩ : (s : Shape) × (s.Idx → EReal)), ⟨S4096x1024, y⟩, ⟨S4096x512, val_main_v89 (F := Ideal) x5⟩])[k]'hk
        = ⟨⟨2, ![4096, n]⟩, z⟩)
      (_ : (([6144, 1024, 512] : List ℕ).take k).sum = pre) (_ : pre + u.val = c.val), val_main_v90 (F := Ideal) x0 x1 x3 x4 x5 (ix2 r c) = z (ix2 r u) := by
    intro k hk n pre z u hz hpre hu
    unfold val_main_v90
    rw [hy]
    refine concatenate_apply_piece (t := S4096x7680) 1 [(⟨S4096x6144, val_main_v86 (F := Ideal) x5⟩ : (s : Shape) × (s.Idx → EReal)), ⟨S4096x1024, y⟩, ⟨S4096x512, val_main_v89 (F := Ideal) x5⟩]
      _ (ix2 r c) k hk ⟨2, ![4096, n]⟩ z hz rfl pre ?_ (ix2 r u) ?_ hu
    · rw [← hpre]
      match k, hk with
      | 0, _ => rfl
      | 1, _ => rfl
      | 2, _ => rfl
    · intro b hb
      match b with
      | ⟨0, _⟩ => rfl
      | ⟨1, _⟩ => exact absurd rfl hb
  by_cases h1 : c.val < 6144
  · rw [dif_neg (by omega), piece 0 (by omega) 6144 0 _ ⟨c.val, h1⟩ rfl rfl (by show 0 + c.val = c.val; omega), val_main_v86_apply]
    exact congrArg x5 (idx2 _ r c rfl rfl)
  by_cases h2 : c.val < 7168
  · rw [dif_pos ⟨by omega, h2⟩]
    exact piece 1 (by omega) 1024 6144 _ ⟨c.val - 6144, by omega⟩ rfl rfl (by show 6144 + (c.val - 6144) = c.val; omega)
  · rw [dif_neg (by omega), piece 2 (by omega) 512 7168 _ ⟨c.val - 7168, by omega⟩ rfl rfl (by show 7168 + (c.val - 7168) = c.val; omega),
      val_main_v89_apply]
    exact congrArg x5 (idx2 _ r c rfl (by show 7168 + (c.val - 7168) = c.val; omega))
end

end Cert.Attention
-- ==== Proof.Host.lean ====
/-
  What the kernel's host lines hand to the call: each head's log-sums and deltas, read at an index.
-/
module

public import proofs.«01_k».proof.Proof.Launch
public import proofs.«01_k».proof.Proof.Ref
public import Idealize.ShloMosaic.Lib.StableHlo
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attention

section
variable (x0 x1 x2 x3 : S4096x1024.Idx → EReal) (x4 : S4096x128.Idx → EReal)

/-- The host's exponentials, -/
def hexp : S16x4096x4096.Idx → EReal :=
  Host.exp (F := Ideal) (φ := .f32) (subf (Cert.ReferenceIdeal.Read.val_main_v23_0 (F := Ideal) x0 x1 x4)
    (broadcastInDim S16x4096x4096 ![0, 1, 2] bcast_S16x4096x1_S16x4096x4096_0_1_2
      (broadcastInDim S16x4096x1 ![0, 1] bcast_S16x4096_S16x4096x1_0_1 (Cert.ReferenceIdeal.Read.val_main_v24 (F := Ideal) x0 x1 x4))))
/-- their sums, -/
def hsum : S16x4096.Idx → EReal :=
  Host.reduceAdd (F := Ideal) (φ := .f32) (hexp x0 x1 x4) (constant S_ .f32 0x00000000#32) reducesTo_S16x4096x4096_S16x4096_d2 h_S_
/-- the log-sums without the queries' gates, -/
def hlse : S16x8x1x512.Idx → EReal :=
  shapeCast S16x8x1x512 (subf (F := Ideal) (φ := .f32) (addf (Cert.ReferenceIdeal.Read.val_main_v24 (F := Ideal) x0 x1 x4) (Host.log (hsum x0 x1 x4)))
    (transpose S16x4096 [1, 0] (extractStridedSlice S4096x16 ![0, 0] x4 slices_S4096x128_S4096x16_0_0) transposes_S4096x16_S16x4096_1_0))
    shapeCasts_S16x4096_S16x8x1x512
/-- the weights, -/
def hwt : S16x4096x4096.Idx → EReal :=
  Host.divf (F := Ideal) (φ := .f32) (hexp x0 x1 x4) (broadcastInDim S16x4096x4096 ![0, 1, 2] bcast_S16x4096x1_S16x4096x4096_0_1_2
      (broadcastInDim S16x4096x1 ![0, 1] bcast_S16x4096_S16x4096x1_0_1 (hsum x0 x1 x4)))
/-- and the outputs against their cotangents. -/
def hdel : S16x8x1x512.Idx → EReal :=
  shapeCast S16x8x1x512 (transpose S16x4096 [1, 0] (Host.reduceAdd (F := Ideal) (φ := .f32)
    (mulf (Cert.ReferenceIdeal.Read.val_main_v55 (F := Ideal) x3)
      (transpose S4096x16x64 [2, 0, 1] (Host.dotGeneral (F := Ideal) (φ₁ := .f32) (φ₂ := .f32) dot_S4096x16x64_S16x4096x4096_S16x64x4096_0_2_2_1_1_0 none
        (Cert.ReferenceIdeal.Read.val_main_v6 (F := Ideal) x2) (hwt x0 x1 x4)) transposes_S16x64x4096_S4096x16x64_2_0_1))
    (constant S_ .f32 0x00000000#32) reducesTo_S4096x16x64_S4096x16_d2 h_S_) transposes_S4096x16_S16x4096_1_0) shapeCasts_S16x4096_S16x8x1x512
end

variable (m : (ℓ : Loc nD τ sig) → Buf (Elt Ideal) ℓ) (ρ : Dev nD → PrngReg)

set_option maxHeartbeats 4000000 in
/-- The call's log-sums. -/
theorem V_lse (c : Dev nD) : V m c main_v39 = hlse (m ((c : Thread nD τ).loc main_arg0)) (m ((c : Thread nD τ).loc main_arg1)) (m ((c : Thread nD τ).loc main_arg4)) := by
  simp only [V, hostOps0, hostOps0_1, hostOps0_2, List.flatten_cons, List.flatten_nil, List.append_nil, List.cons_append,
      List.nil_append, StableHlo.TRef.nullary, StableHlo.TRef.ternary, StableHlo.TRef.unary, StableHlo.TRef.toBuf, StableHlo.TRef.ofBuf, cast_eq]
  after_results_simp
  rfl
set_option maxHeartbeats 4000000 in
/-- The call's deltas. -/
theorem V_del (c : Dev nD) : V m c main_v45 = hdel (m ((c : Thread nD τ).loc main_arg0)) (m ((c : Thread nD τ).loc main_arg1)) (m ((c : Thread nD τ).loc main_arg2)) (m ((c : Thread nD τ).loc main_arg3)) (m ((c : Thread nD τ).loc main_arg4)) := by
  simp only [V, hostOps0, hostOps0_1, hostOps0_2, List.flatten_cons, List.flatten_nil, List.append_nil, List.cons_append,
      List.nil_append, StableHlo.TRef.nullary, StableHlo.TRef.ternary, StableHlo.TRef.unary, StableHlo.TRef.toBuf, StableHlo.TRef.ofBuf, cast_eq]
  after_results_simp
  rfl
set_option maxHeartbeats 4000000 in
/-- The buffer that receives the value gradient starts as the last argument. -/
theorem V_proj (c : Dev nD) : V m c main_v46_1 = m ((c : Thread nD τ).loc main_arg5) := by
  simp only [V, hostOps0, hostOps0_1, hostOps0_2, List.flatten_cons, List.flatten_nil, List.append_nil, List.cons_append,
      List.nil_append, StableHlo.TRef.nullary, StableHlo.TRef.ternary, StableHlo.TRef.unary, StableHlo.TRef.toBuf, StableHlo.TRef.ofBuf, cast_eq]
  after_results_simp
  try rfl

section
variable {A : Attn} {x0 x1 x2 x3 : S4096x1024.Idx → EReal} {x4 : S4096x128.Idx → EReal} (R : Args A x0 x1 x2 x3 x4)
include R

section
variable {h : Fin 16} {t : Fin 4096} {M : ℝ} (hM : Cert.ReferenceIdeal.Read.val_main_v24 (F := Ideal) x0 x1 x4 (ix2 h t) = (M : EReal))
include hM

theorem hexp_at (s : Fin 4096) : hexp x0 x1 x4 (ix3 h t s) = (A.e M h t s : EReal) := by
  have e : hexp x0 x1 x4 (ix3 h t s) = Ideal.exp (Cert.ReferenceIdeal.Read.val_main_v23_0 (F := Ideal) x0 x1 x4 (ix3 h t s)
      - Cert.ReferenceIdeal.Read.val_main_v24 (F := Ideal) x0 x1 x4 (ix2 h t)) := by
    unfold hexp
    generalize Cert.ReferenceIdeal.Read.val_main_v23_0 (F := Ideal) x0 x1 x4 = y
    generalize Cert.ReferenceIdeal.Read.val_main_v24 (F := Ideal) x0 x1 x4 = z
    pointwise []
  rw [e, hM, v23_at R]
  exact A.exp_ms M h t s
theorem hsum_at : hsum x0 x1 x4 (ix2 h t) = ((A.Z h t * Real.exp (-M) : ℝ) : EReal) := by
  have e : hsum x0 x1 x4 (ix2 h t) = ∑ s : Fin 4096, hexp x0 x1 x4 (ix3 h t s) := by
    unfold hsum
    generalize hexp x0 x1 x4 = y
    pointwise []
  rw [e, ← A.sum_e, coe_sum]
  exact Finset.sum_congr rfl fun s _ => hexp_at R hM s
theorem hwt_M (s : Fin 4096) : hwt x0 x1 x4 (ix3 h t s) = (A.P h t s : EReal) := by
  have e : hwt x0 x1 x4 (ix3 h t s) = Ideal.div (hexp x0 x1 x4 (ix3 h t s)) (hsum x0 x1 x4 (ix2 h t)) := by
    unfold hwt
    generalize hexp x0 x1 x4 = y
    generalize hsum x0 x1 x4 = z
    pointwise []
  rw [e, hexp_at R hM, hsum_at R hM, div_coe _ _ (A.L_pos M h t).ne', A.e_div]
end

theorem hwt_at (h : Fin 16) (t s : Fin 4096) : hwt x0 x1 x4 (ix3 h t s) = (A.P h t s : EReal) := by
  obtain ⟨M, hM⟩ := v24_at R h t
  exact hwt_M R hM s

omit R in
theorem block_at (y : S16x4096.Idx → EReal) (h : Fin 16) (n : Fin 8) (b : Fin 512) :
    shapeCast S16x8x1x512 y shapeCasts_S16x4096_S16x8x1x512 (ix4 h n 0 b) = y (ix2 h (row n b)) :=
  shapeCast_apply y shapeCasts_S16x4096_S16x8x1x512 (ix4 h n 0 b) (ix2 h (row n b)) (by
    rewrite [Shape.rowMajor_val_two, Shape.rowMajor_val_four]
    show h.val * 4096 + (512 * n.val + b.val) = ((h.val * 8 + n.val) * 1 + 0) * 512 + b.val
    omega)

omit R in
theorem lse_form (y z : S16x4096.Idx → EReal) (x4 : S4096x128.Idx → EReal) (h : Fin 16) (n : Fin 8) (b : Fin 512) :
    shapeCast S16x8x1x512 (subf (F := Ideal) (φ := .f32) (addf y (Host.log z))
      (transpose S16x4096 [1, 0] (extractStridedSlice S4096x16 ![0, 0] x4 slices_S4096x128_S4096x16_0_0) transposes_S4096x16_S16x4096_1_0))
      shapeCasts_S16x4096_S16x8x1x512 (ix4 h n 0 b) = y (ix2 h (row n b)) + Ideal.log (z (ix2 h (row n b))) - x4 (ix2 (row n b) (ln h)) := by
  rw [block_at]
  generalize row n b = t
  unfold ln
  pointwise []

/-- The log-sum of head `h` at a query, without the query's gate. -/
theorem hlse_at (h : Fin 16) (n : Fin 8) (b : Fin 512) :
    hlse x0 x1 x4 (ix4 h n 0 b) = ((Real.log (A.Z h (row n b)) - A.f (row n b) h : ℝ) : EReal) := by
  obtain ⟨M, hM⟩ := v24_at R h (row n b)
  have e : hlse x0 x1 x4 (ix4 h n 0 b) = Cert.ReferenceIdeal.Read.val_main_v24 (F := Ideal) x0 x1 x4 (ix2 h (row n b))
      + Ideal.log (hsum x0 x1 x4 (ix2 h (row n b))) - x4 (ix2 (row n b) (ln h)) := by
    unfold hlse
    exact lse_form _ _ _ h n b
  rw [e, hM, hsum_at R hM, R.f, log_coe _ (A.L_pos M h _), ← EReal.coe_add, ← EReal.coe_sub, A.log_L]

/-- Its delta. -/
theorem hdel_at (h : Fin 16) (n : Fin 8) (b : Fin 512) : hdel x0 x1 x2 x3 x4 (ix4 h n 0 b) = (A.D h (row n b) : EReal) := by
  have e : hdel x0 x1 x2 x3 x4 (ix4 h n 0 b) = ∑ d : Fin 64, Cert.ReferenceIdeal.Read.val_main_v55 (F := Ideal) x3 (ix3 (row n b) h d)
      * ∑ s : Fin 4096, Cert.ReferenceIdeal.Read.val_main_v6 (F := Ideal) x2 (ix3 s h d) * hwt x0 x1 x4 (ix3 h (row n b) s) := by
    unfold hdel
    rw [block_at]
    generalize Cert.ReferenceIdeal.Read.val_main_v55 (F := Ideal) x3 = y
    generalize Cert.ReferenceIdeal.Read.val_main_v6 (F := Ideal) x2 = z
    generalize hwt x0 x1 x4 = u
    pointwise []
  rw [e, ← A.D_eq, coe_sum]
  refine Finset.sum_congr rfl fun d _ => ?_
  rw [v55_at R, EReal.coe_mul, coe_sum]
  refine congrArg (fun z : EReal => (A.g (row n b) (ch h d) : EReal) * z) ?_
  refine Finset.sum_congr rfl fun s _ => ?_
  rw [v6_at R, hwt_at R, EReal.coe_mul]
end

end Cert.KernelIdeal.Run
-- ==== Proof.Grad.lean ====
/-
  The kernel's sums, on arguments that are real numbers, are the attention's gradients.
-/
module

public import proofs.«01_k».proof.Proof.Host
public import Idealize.ShloMosaic.Lib.StableHlo
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attention

/-- The arrays the kernel finds are those of the attention, with its log-sums and deltas. -/
structure Holds (A : Attn) (X : Arr) : Prop where
  q : ∀ r c, X.q r c = (A.q r c : EReal)
  g : ∀ r c, X.g r c = (A.g r c : EReal)
  k : ∀ r c, X.k r c = (A.k r c : EReal)
  v : ∀ r c, X.v r c = (A.v r c : EReal)
  f : ∀ r h, X.f r (ln h) = (A.f r h : EReal)
  l : ∀ h n b, X.l h n b = ((Real.log (A.Z h (row n b)) - A.f (row n b) h : ℝ) : EReal)
  d : ∀ h n b, X.d h n b = (A.D h (row n b) : EReal)

/-! ### Sums over a head's lanes and over the blocks -/

/-- A lane's head in its pair, -/
def jof (e : Fin 128) : Fin 2 := ⟨e.val / 64, by have := e.isLt; omega⟩
/-- and its place in the head. -/
def lof (j : Fin 2) (d : Fin 64) : Fin 128 := ⟨64 * j.val + d.val, by have := j.isLt; have := d.isLt; omega⟩

theorem col_lof (h : Fin 8) (j : Fin 2) (d : Fin 64) : col h (lof j d) = ch (hd h j) d := Fin.ext (by
  show 128 * h.val + (64 * j.val + d.val) = 64 * (2 * h.val + j.val) + d.val
  omega)
theorem hof_col (h : Fin 8) (e : Fin 128) : hof (col h e) = hd h (jof e) := Fin.ext (by
  show (128 * h.val + e.val) / 64 = 2 * h.val + e.val / 64
  omega)

theorem sum_half (j : Fin 2) (x : Fin 128 → EReal) : ∑ e, half j (x e) e = ∑ d : Fin 64, x (lof j d) := by
  have e1 : ∑ e : Fin 128, half j (x e) e = ∑ d : Fin 64, half j (x (lof 0 d)) (lof 0 d) + ∑ d : Fin 64, half j (x (lof 1 d)) (lof 1 d) := by
    refine (Fin.sum_univ_add (a := 64) (b := 64) fun e : Fin 128 => half j (x e) e).trans (congrArg₂ (· + ·) ?_ ?_)
    · refine Finset.sum_congr rfl fun d _ => ?_
      have : (Fin.castAdd 64 d : Fin 128) = lof 0 d := Fin.ext (by show d.val = 64 * 0 + d.val; omega)
      rw [this]
    · refine Finset.sum_congr rfl fun d _ => ?_
      have : (Fin.natAdd 64 d : Fin 128) = lof 1 d := Fin.ext (by show 64 + d.val = 64 * 1 + d.val; omega)
      rw [this]
  have e2 : ∀ i : Fin 2, ∑ d : Fin 64, half j (x (lof i d)) (lof i d) = if i = j then ∑ d : Fin 64, x (lof j d) else 0 := fun i => by
    by_cases h : i = j
    · subst h
      rw [if_pos rfl]
      refine Finset.sum_congr rfl fun d _ => if_pos ?_
      show (64 * i.val + d.val) / 64 = i.val
      have := d.isLt
      omega
    · rw [if_neg h]
      refine Finset.sum_eq_zero fun d _ => if_neg ?_
      show ¬(64 * i.val + d.val) / 64 = j.val
      have := d.isLt
      have : i.val ≠ j.val := fun c => h (Fin.ext c)
      omega
  rw [e1, e2, e2]
  match j with
  | 0 => rw [if_pos rfl, if_neg (by decide), add_zero]
  | 1 => rw [if_neg (by decide), if_pos rfl, zero_add]

theorem half_left (j : Fin 2) (x y : EReal) (e : Fin 128) : half j x e * y = half j (x * y) e := by
  unfold half
  split
  · rfl
  · exact zero_mul y

/-- Of the pair's two terms at a lane only the lane's head's counts. -/
theorem sum_pair (e : Fin 128) (x : Fin 2 → EReal) (y : EReal) : ∑ j, x j * half j y e = x (jof e) * y := by
  rw [Finset.sum_eq_single (jof e)]
  · exact congrArg _ (if_pos rfl)
  · intro j _ hj
    have : half j y e = 0 := if_neg fun c => hj (Fin.ext c.symm)
    rw [this, mul_zero]
  · intro h; exact absurd (Finset.mem_univ _) h

/-- The positions, block by block. -/
theorem sum_rows (x : Fin 4096 → EReal) : ∑ n : Fin 8, ∑ b : Fin 512, x (row n b) = ∑ t, x t := by
  rw [← Finset.sum_product']
  refine Finset.sum_bij' (fun p _ => row p.1 p.2) (fun t _ => (blkOf t, posOf t)) (fun _ _ => Finset.mem_univ _)
    (fun _ _ => Finset.mem_univ _) (fun p _ => ?_) (fun t _ => row_blkOf t) (fun _ _ => rfl)
  rw [blkOf_row, posOf_row]

section
variable {A : Attn} {X : Arr} (H : Holds A X) (h kb : Fin 8)
include H

theorem dot_at (x y : Fin 4096 → Fin 1024 → EReal) (x' y' : Fin 4096 → Fin 1024 → ℝ) (hx : ∀ r c, x r c = (x' r c : EReal))
    (hy : ∀ r c, y r c = (y' r c : EReal)) (j : Fin 2) (t s : Fin 4096) :
    ∑ e, half j (x s (col h e)) e * y t (col h e) = ((∑ d, y' t (ch (hd h j) d) * x' s (ch (hd h j) d) : ℝ) : EReal) := by
  rw [Finset.sum_congr rfl fun e _ => half_left j _ _ e, sum_half j fun e => x s (col h e) * y t (col h e), coe_sum]
  refine Finset.sum_congr rfl fun d _ => ?_
  rw [col_lof, hx, hy, EReal.coe_mul, mul_comm]

theorem mask_iff {n : Fin 8} (hn : kb.val ≤ n.val) (a b : Fin 512) : (n = kb ∧ ¬a ≤ b) ↔ ¬row kb a ≤ row n b := by
  rw [Fin.le_def, Fin.le_def, Fin.ext_iff]
  show _ ↔ ¬512 * kb.val + a.val ≤ 512 * n.val + b.val
  have := a.isLt
  have := b.isLt
  omega

theorem wt_at {n : Fin 8} (hn : kb.val ≤ n.val) (j : Fin 2) (a b : Fin 512) :
    (X.pt h kb).wt j n a b = (A.P (hd h j) (row n b) (row kb a) : EReal) := by
  have hs : (X.pt h kb).score j n a b
      = (((∑ d, A.q (row n b) (ch (hd h j) d) * A.k (row kb a) (ch (hd h j) d)) - A.f (row kb a) (hd h j) : ℝ) : EReal) := by
    show (∑ e, half j (X.k (row kb a) (col h e)) e * X.q (row n b) (col h e)) - X.f (row kb a) ((X.pt h kb).lane j) = _
    rw [dot_at H h X.k X.q A.k A.q H.k H.q, show (X.pt h kb).lane j = ln (hd h j) from Fin.ext rfl, H.f, ← EReal.coe_sub]
  unfold Pt.wt
  rw [hs, show (X.pt h kb).l j n b = X.l (hd h j) n b from rfl, H.l, show (X.pt h kb).kb = kb from rfl,
    if_congr (mask_iff H kb hn a b) rfl rfl]
  by_cases hm : row kb a ≤ row n b
  · rw [if_neg (not_not.mpr hm), ← EReal.coe_sub, exp_coe, A.exp_lse hm]
  · rw [if_pos hm, bot_sub_coe, exp_bot, A.P_masked hm, EReal.coe_zero]

theorem ds_at {n : Fin 8} (hn : kb.val ≤ n.val) (j : Fin 2) (a b : Fin 512) :
    (X.pt h kb).ds j n a b = (A.dS (hd h j) (row n b) (row kb a) : EReal) := by
  unfold Pt.ds
  rw [wt_at H h kb hn]
  show _ * ((∑ e, half j (X.v (row kb a) (col h e)) e * X.g (row n b) (col h e)) - X.d (hd h j) n b) = _
  rw [dot_at H h X.v X.g A.v A.g H.v H.g, H.d, ← EReal.coe_sub, ← EReal.coe_mul]
  rfl

omit H in
/-- Below the key block every position masks the keys. -/
theorem later {n : Fin 8} (hn : ¬kb.val ≤ n.val) (a b : Fin 512) : ¬row kb a ≤ row n b := by
  rw [Fin.le_def]
  show ¬512 * kb.val + a.val ≤ 512 * n.val + b.val
  have := a.isLt
  have := b.isLt
  omega

theorem dK_at (a : Fin 512) (e : Fin 128) : (X.pt h kb).dK a e = (A.dk (row kb a) (col h e) : EReal) := by
  unfold Pt.dK Attn.dk
  rw [coe_sum, ← sum_rows, hof_col]
  refine Finset.sum_congr rfl fun n _ => ?_
  by_cases hn : kb.val ≤ n.val
  · rw [if_pos (show (X.pt h kb).kb.val ≤ n.val from hn)]
    unfold Pt.cK
    rw [Finset.sum_comm]
    refine Finset.sum_congr rfl fun b _ => ?_
    rw [sum_pair, ds_at H h kb hn, show (X.pt h kb).q (row n b) e = X.q (row n b) (col h e) from rfl, H.q, EReal.coe_mul]
  · rw [if_neg (show ¬(X.pt h kb).kb.val ≤ n.val from hn)]
    refine (Finset.sum_eq_zero fun b _ => ?_).symm
    rw [A.dS_masked (later kb hn a b), zero_mul, EReal.coe_zero]

theorem dV_at (a : Fin 512) (e : Fin 128) : (X.pt h kb).dV a e = (A.dv (row kb a) (col h e) : EReal) := by
  unfold Pt.dV Attn.dv
  rw [coe_sum, ← sum_rows, hof_col]
  refine Finset.sum_congr rfl fun n _ => ?_
  by_cases hn : kb.val ≤ n.val
  · rw [if_pos (show (X.pt h kb).kb.val ≤ n.val from hn)]
    unfold Pt.cV
    rw [Finset.sum_comm]
    refine Finset.sum_congr rfl fun b _ => ?_
    rw [sum_pair, wt_at H h kb hn, show (X.pt h kb).g (row n b) e = X.g (row n b) (col h e) from rfl, H.g, EReal.coe_mul]
  · rw [if_neg (show ¬(X.pt h kb).kb.val ≤ n.val from hn)]
    refine (Finset.sum_eq_zero fun b _ => ?_).symm
    rw [A.P_masked (later kb hn a b), zero_mul, EReal.coe_zero]

theorem dF_at (j : Fin 2) (a : Fin 512) : (X.pt h kb).dF j a = (A.dfk (hd h j) (row kb a) : EReal) := by
  unfold Pt.dF Attn.dfk
  rw [coe_sum, ← sum_rows]
  refine Finset.sum_congr rfl fun n _ => ?_
  by_cases hn : kb.val ≤ n.val
  · rw [if_pos (show (X.pt h kb).kb.val ≤ n.val from hn)]
    unfold Pt.cG
    rw [Finset.sum_congr rfl fun b _ => ds_at H h kb hn j a b, ← coe_sum, ← EReal.coe_neg, ← Finset.sum_neg_distrib, coe_sum]
  · rw [if_neg (show ¬(X.pt h kb).kb.val ≤ n.val from hn)]
    refine (Finset.sum_eq_zero fun b _ => ?_).symm
    rw [A.dS_masked (later kb hn a b), neg_zero, EReal.coe_zero]

theorem sumQ_at (r : Fin 4096) (e : Fin 128) (k : ℕ) (hk : k = 7) : X.sumQ h k r e = (A.dq r (col h e) : EReal) := by
  unfold Arr.sumQ Attn.dq
  rw [coe_sum, ← sum_rows, hof_col]
  refine Finset.sum_congr rfl fun kb _ => ?_
  rw [if_pos (by have := kb.isLt; omega)]
  unfold Pt.aQ
  by_cases hn : kb.val ≤ (blkOf r).val
  · rw [if_pos (show (X.pt h kb).kb.val ≤ (blkOf r).val from hn)]
    unfold Pt.cQ
    rw [Finset.sum_comm]
    refine Finset.sum_congr rfl fun a _ => ?_
    rw [sum_pair, ds_at H h kb hn, show (X.pt h kb).k a e = X.k (row kb a) (col h e) from rfl, H.k, EReal.coe_mul, row_blkOf]
  · rw [if_neg (show ¬(X.pt h kb).kb.val ≤ (blkOf r).val from hn)]
    refine (Finset.sum_eq_zero fun a _ => ?_).symm
    have := later kb hn a (posOf r)
    rw [row_blkOf] at this
    rw [A.dS_masked this, zero_mul, EReal.coe_zero]

theorem sumF_at (j : Fin 2) (n : Fin 8) (b : Fin 512) (k : ℕ) (hk : k = 7) :
    X.sumF h k j n b = (A.dfq (hd h j) (row n b) : EReal) := by
  unfold Arr.sumF Attn.dfq
  rw [coe_sum, ← sum_rows]
  refine Finset.sum_congr rfl fun kb _ => ?_
  rw [if_pos (by have := kb.isLt; omega)]
  unfold Pt.aF
  by_cases hn : kb.val ≤ n.val
  · rw [if_pos (show (X.pt h kb).kb.val ≤ n.val from hn)]
    unfold Pt.cF
    exact Finset.sum_congr rfl fun a _ => ds_at H h kb hn j a b
  · rw [if_neg (show ¬(X.pt h kb).kb.val ≤ n.val from hn)]
    refine (Finset.sum_eq_zero fun a _ => ?_).symm
    rw [A.dS_masked (later kb hn a b), EReal.coe_zero]

end

end Cert.KernelIdeal.Run
-- ==== Proof.Final.lean ====
/-
  The kernel's five results: each window's blocks make up a whole array, but for the values' gradient,
  which goes into its columns of a wider one.
-/
module

public import proofs.«01_k».proof.Proof.Grad
public import Idealize.ShloMosaic.Lib.StableHlo
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attention

variable (m : (ℓ : Loc nD τ sig) → Buf (Elt Ideal) ℓ) (c : Dev nD)

/-- The point that works on a head pair and a key block, -/
def ptOf (h kb : Fin 8) : Fin cfg0.N := ⟨8 * h.val + kb.val, by have := h.isLt; have := kb.isLt; rw [show cfg0.N = 64 from N_0]; omega⟩
theorem ph_ptOf (h kb : Fin 8) : ph (ptOf h kb) = h := Fin.ext (by show (8 * h.val + kb.val) / 8 = h.val; have := kb.isLt; omega)
theorem pk_ptOf (h kb : Fin 8) : pk (ptOf h kb) = kb := Fin.ext (by show (8 * h.val + kb.val) % 8 = kb.val; have := kb.isLt; omega)

/-- A column's head pair -/
def pairOf (x : Fin 1024) : Fin 8 := ⟨x.val / 128, by have := x.isLt; omega⟩
/-- and its lane in it. -/
def laneOf (x : Fin 1024) : Fin 128 := ⟨x.val % 128, Nat.mod_lt _ (by decide)⟩
theorem col_pairOf (x : Fin 1024) : col (pairOf x) (laneOf x) = x := Fin.ext (by show 128 * (x.val / 128) + x.val % 128 = x.val; omega)

theorem ix2_eta {n0 n1 : Nat} (y : (⟨2, ![n0, n1]⟩ : Shape).Idx) : y = ix2 (y 0) (y 1) :=
  funext fun a => match a with | ⟨0, _⟩ => rfl | ⟨1, _⟩ => rfl

theorem ix4_eta {n0 n1 n3 : Nat} (y : (⟨4, ![n0, n1, 1, n3]⟩ : Shape).Idx) : y = ix4 (y 0) (y 1) 0 (y 3) :=
  funext fun a => match a with
    | ⟨0, _⟩ => rfl | ⟨1, _⟩ => rfl | ⟨3, _⟩ => rfl
    | ⟨2, _⟩ => Fin.ext (Nat.lt_one_iff.mp (y 2).isLt)

/-! ### Where a block's elements lie in its array -/

theorem emb7 (t : Fin cfg0.N) (a : Fin 512) (e : Fin 128) :
    (((cfg0.win 7).blk t).view.emb (ix2 a e : S512x128.Idx) : S4096x1024.Idx) = ix2 (row (pk t) a) (col (ph t) e) := by
  have hi := idx7 t
  refine funext fun x => Fin.ext ?_
  match x with
  | ⟨0, _⟩ => show win0_7.index t 0 * 512 + 1 * _ = _; rw [hi.1]; show _ = 512 * (t.val % 8) + a.val; show _ * 512 + 1 * a.val = _; omega
  | ⟨1, _⟩ => show win0_7.index t 1 * 128 + 1 * e.val = _; rw [hi.2]; show _ = 128 * (t.val / 8) + e.val; omega

theorem emb8 (t : Fin cfg0.N) (a : Fin 512) (e : Fin 128) :
    (((cfg0.win 8).blk t).view.emb (ix2 a e : S512x128.Idx) : S4096x7680.Idx) = ix2 (row (pk t) a) (dcol (ph t) e) := by
  have hi := idx8 t
  refine funext fun x => Fin.ext ?_
  match x with
  | ⟨0, _⟩ => show win0_8.index t 0 * 512 + 1 * _ = _; rw [hi.1]; show _ = 512 * (t.val % 8) + a.val; show _ * 512 + 1 * a.val = _; omega
  | ⟨1, _⟩ => show win0_8.index t 1 * 128 + 1 * e.val = _; rw [hi.2]; show _ = 6144 + (128 * (t.val / 8) + e.val); omega

theorem emb9 (t : Fin cfg0.N) (r : Fin 4096) (e : Fin 128) :
    (((cfg0.win 9).blk t).view.emb (ix2 r e : S4096x128.Idx) : S4096x1024.Idx) = ix2 r (col (ph t) e) := by
  have hi := idx9 t
  refine funext fun x => Fin.ext ?_
  match x with
  | ⟨0, _⟩ => show win0_9.index t 0 * 4096 + 1 * _ = _; rw [hi.1]; show 0 * 4096 + 1 * r.val = r.val; omega
  | ⟨1, _⟩ => show win0_9.index t 1 * 128 + 1 * e.val = _; rw [hi.2]; show _ = 128 * (t.val / 8) + e.val; omega

theorem emb10 (t : Fin cfg0.N) (j : Fin 2) (n : Fin 8) (b : Fin 512) :
    (((cfg0.win 10).blk t).view.emb (ix4 j n 0 b : S2x8x1x512.Idx) : S16x8x1x512.Idx) = ix4 (hd (ph t) j) n 0 b := by
  have hi := idx10 t
  refine funext fun x => Fin.ext ?_
  match x with
  | ⟨0, _⟩ => show win0_10.index t 0 * 2 + 1 * j.val = 2 * (t.val / 8) + j.val; rw [hi.1]; omega
  | ⟨1, _⟩ => show win0_10.index t 1 * 8 + 1 * n.val = n.val; rw [hi.2.1]; omega
  | ⟨2, _⟩ => show win0_10.index t 2 * 1 + 1 * 0 = 0; rw [hi.2.2.1]
  | ⟨3, _⟩ => show win0_10.index t 3 * 512 + 1 * b.val = b.val; rw [hi.2.2.2]; omega

theorem emb11 (t : Fin cfg0.N) (a : Fin 512) (e : Fin 128) :
    (((cfg0.win 11).blk t).view.emb (ix2 a e : S512x128.Idx) : S4096x1024.Idx) = ix2 (row (pk t) a) (col (ph t) e) := by
  have hi := idx11 t
  refine funext fun x => Fin.ext ?_
  match x with
  | ⟨0, _⟩ => show win0_11.index t 0 * 512 + 1 * _ = _; rw [hi.1]; show _ = 512 * (t.val % 8) + a.val; show _ * 512 + 1 * a.val = _; omega
  | ⟨1, _⟩ => show win0_11.index t 1 * 128 + 1 * e.val = _; rw [hi.2]; show _ = 128 * (t.val / 8) + e.val; omega

/-- A head's pair -/
def hpair (x : Fin 16) : Fin 8 := ⟨x.val / 2, by have := x.isLt; omega⟩
/-- and its place in it. -/
def hsel (x : Fin 16) : Fin 2 := ⟨x.val % 2, Nat.mod_lt _ (by decide)⟩
theorem hd_hpair (x : Fin 16) : hd (hpair x) (hsel x) = x := Fin.ext (by show 2 * (x.val / 2) + x.val % 2 = x.val; omega)

/-- The wide gradient's column for a column of the values'. -/
def wcol (x : Fin 1024) : Fin 7680 := ⟨6144 + x.val, by have := x.isLt; omega⟩
theorem dcol_pairOf (x : Fin 1024) : dcol (pairOf x) (laneOf x) = wcol x := Fin.ext (by
  show 6144 + (col (pairOf x) (laneOf x)).val = 6144 + x.val
  rw [col_pairOf])

/-! ### What a block covers -/

theorem mem7 (r : Fin 4096) (x : Fin 1024) : (ix2 r x : S4096x1024.Idx) ∈ ((cfg0.win 7).blk (ptOf (pairOf x) (blkOf r))).view.set := by
  have h := ((cfg0.win 7).blk (ptOf (pairOf x) (blkOf r))).view.emb_mem_set (ix2 (posOf r) (laneOf x) : S512x128.Idx)
  have e : ((cfg0.win 7).blk (ptOf (pairOf x) (blkOf r))).view.emb (ix2 (posOf r) (laneOf x) : S512x128.Idx) = (ix2 r x : S4096x1024.Idx) := by
    refine (emb7 _ _ _).trans ?_
    rw [ph_ptOf, pk_ptOf, row_blkOf, col_pairOf]
  exact e ▸ h

theorem mem8 (r : Fin 4096) (x : Fin 1024) : (ix2 r (wcol x) : S4096x7680.Idx) ∈ ((cfg0.win 8).blk (ptOf (pairOf x) (blkOf r))).view.set := by
  have h := ((cfg0.win 8).blk (ptOf (pairOf x) (blkOf r))).view.emb_mem_set (ix2 (posOf r) (laneOf x) : S512x128.Idx)
  have e : ((cfg0.win 8).blk (ptOf (pairOf x) (blkOf r))).view.emb (ix2 (posOf r) (laneOf x) : S512x128.Idx) = (ix2 r (wcol x) : S4096x7680.Idx) := by
    refine (emb8 _ _ _).trans ?_
    rw [ph_ptOf, pk_ptOf, row_blkOf, dcol_pairOf]
  exact e ▸ h

theorem mem9 (r : Fin 4096) (x : Fin 1024) : (ix2 r x : S4096x1024.Idx) ∈ ((cfg0.win 9).blk (ptOf (pairOf x) 7)).view.set := by
  have h := ((cfg0.win 9).blk (ptOf (pairOf x) 7)).view.emb_mem_set (ix2 r (laneOf x) : S4096x128.Idx)
  have e : ((cfg0.win 9).blk (ptOf (pairOf x) 7)).view.emb (ix2 r (laneOf x) : S4096x128.Idx) = (ix2 r x : S4096x1024.Idx) := by
    refine (emb9 _ _ _).trans ?_
    rw [ph_ptOf, col_pairOf]
  exact e ▸ h

theorem mem10 (j : Fin 16) (n : Fin 8) (b : Fin 512) : (ix4 j n 0 b : S16x8x1x512.Idx) ∈ ((cfg0.win 10).blk (ptOf (hpair j) 7)).view.set := by
  have h := ((cfg0.win 10).blk (ptOf (hpair j) 7)).view.emb_mem_set (ix4 (hsel j) n 0 b : S2x8x1x512.Idx)
  have e : ((cfg0.win 10).blk (ptOf (hpair j) 7)).view.emb (ix4 (hsel j) n 0 b : S2x8x1x512.Idx) = (ix4 j n 0 b : S16x8x1x512.Idx) := by
    refine (emb10 _ _ _ _).trans ?_
    rw [ph_ptOf, hd_hpair]
  exact e ▸ h

theorem mem11 (r : Fin 4096) (x : Fin 1024) : (ix2 r x : S4096x1024.Idx) ∈ ((cfg0.win 11).blk (ptOf (pairOf x) (blkOf r))).view.set := by
  have h := ((cfg0.win 11).blk (ptOf (pairOf x) (blkOf r))).view.emb_mem_set (ix2 (posOf r) (laneOf x) : S512x128.Idx)
  have e : ((cfg0.win 11).blk (ptOf (pairOf x) (blkOf r))).view.emb (ix2 (posOf r) (laneOf x) : S512x128.Idx) = (ix2 r x : S4096x1024.Idx) := by
    refine (emb11 _ _ _).trans ?_
    rw [ph_ptOf, pk_ptOf, row_blkOf, col_pairOf]
  exact e ▸ h

/-! ### The results -/

/-- The keys' gradient, -/
def gK (A : Attn) (i : S4096x1024.Idx) : EReal := (A.dk (i 0) (i 1) : EReal)
/-- the queries', -/
def gQ (A : Attn) (i : S4096x1024.Idx) : EReal := (A.dq (i 0) (i 1) : EReal)
/-- the queries' bias', -/
def gF (A : Attn) (i : S16x8x1x512.Idx) : EReal := (A.dfq (i 0) (row (i 1) (i 3)) : EReal)
/-- the keys' bias', at every lane of its head, -/
def gG (A : Attn) (i : S4096x1024.Idx) : EReal := (A.dfk (hof (i 1)) (i 0) : EReal)
/-- and the wide one: the values' in its columns, what it held elsewhere. -/
def gW (A : Attn) (x : S4096x7680.Idx → EReal) (i : S4096x7680.Idx) : EReal :=
  if h : 6144 ≤ (i 1).val ∧ (i 1).val < 7168 then (A.dv (i 0) ⟨(i 1).val - 6144, by omega⟩ : EReal) else x i

theorem gW_in (A : Attn) (x : S4096x7680.Idx → EReal) (r : Fin 4096) (h : Fin 8) (e : Fin 128) :
    gW A x (ix2 r (dcol h e)) = (A.dv r (col h e) : EReal) := by
  have h1 : (dcol h e).val = 6144 + (col h e).val := rfl
  have h2 := (col h e).isLt
  have h3 : 6144 ≤ (dcol h e).val ∧ (dcol h e).val < 7168 := by omega
  exact (dif_pos h3).trans (congrArg (fun x => ((A.dv r x : ℝ) : EReal)) (Fin.ext (by show (dcol h e).val - 6144 = (col h e).val; omega)))

section
variable {A : Attn} (H : Holds A (arr m c))
include H

theorem out7_blk (t : Fin cfg0.N) : aft7 m c t = (((cfg0.win 7).blk t).view.read (Elt Ideal) (gK A) : S512x128.Idx → EReal) := by
  refine funext fun y => ?_
  obtain ⟨a, e, rfl⟩ : ∃ a e, y = ix2 a e := ⟨y 0, y 1, ix2_eta y⟩
  exact (dK_at H (ph t) (pk t) a e).trans (blk7_at c t (gK A) a e).symm

theorem out8_blk (x : S4096x7680.Idx → EReal) (t : Fin cfg0.N) : aft8 m c t = (((cfg0.win 8).blk t).view.read (Elt Ideal) (gW A x) : S512x128.Idx → EReal) := by
  refine funext fun y => ?_
  obtain ⟨a, e, rfl⟩ : ∃ a e, y = ix2 a e := ⟨y 0, y 1, ix2_eta y⟩
  exact (dV_at H (ph t) (pk t) a e).trans ((gW_in A x _ (ph t) e).symm.trans (blk8_at c t (gW A x) a e).symm)

theorem out9_blk (t : Fin cfg0.N) (ht : t.val % 8 = 7) : aft9 m c t = (((cfg0.win 9).blk t).view.read (Elt Ideal) (gQ A) : S4096x128.Idx → EReal) := by
  refine funext fun y => ?_
  obtain ⟨a, e, rfl⟩ : ∃ a e, y = ix2 a e := ⟨y 0, y 1, ix2_eta y⟩
  exact (sumQ_at H (ph t) a e _ ht).trans (blk9_at c t (gQ A) a e).symm

theorem out10_blk (t : Fin cfg0.N) (ht : t.val % 8 = 7) : aft10 m c t = (((cfg0.win 10).blk t).view.read (Elt Ideal) (gF A) : S2x8x1x512.Idx → EReal) := by
  refine funext fun y => ?_
  obtain ⟨j, n, b, rfl⟩ : ∃ j n b, y = ix4 j n 0 b := ⟨y 0, y 1, y 3, ix4_eta y⟩
  exact (sumF_at H (ph t) j n b _ ht).trans (blk10_at c t (gF A) j n b).symm

theorem out11_blk (t : Fin cfg0.N) : aft11 m c t = (((cfg0.win 11).blk t).view.read (Elt Ideal) (gG A) : S512x128.Idx → EReal) := by
  refine funext fun y => ?_
  obtain ⟨a, e, rfl⟩ : ∃ a e, y = ix2 a e := ⟨y 0, y 1, ix2_eta y⟩
  refine Eq.trans ?_ (blk11_at c t (gG A) a e).symm
  show (if e.val / 64 = 0 then (ptAt m c t).dF 0 a else (ptAt m c t).dF 1 a) = (A.dfk (hof (col (ph t) e)) (row (pk t) a) : EReal)
  rw [hof_col]
  by_cases h : e.val / 64 = 0
  · rw [if_pos h, dF_at H, show jof e = 0 from Fin.ext h]
  · rw [if_neg h, dF_at H, show jof e = 1 from Fin.ext (by show e.val / 64 = 1; have := e.isLt; omega)]

/-- The keys' gradient comes out whole. -/
theorem out7 : (dats m 0 c).arrAt 7 cfg0.N = gK A := by
  refine (dats m 0 c).arrAt_eq_of_cover 7 (gK A) (fun t _ => ?_) fun i => ?_
  · show (cfg0.win 7).cut (grid0.coords t) ((dats m 0 c).after 7 t) = _
    rw [after0_7]
    exact out7_blk m c H t
  · obtain ⟨r, x, hi⟩ : ∃ (r : Fin 4096) (x : Fin 1024), (i : S4096x1024.Idx) = ix2 r x := ⟨(i : S4096x1024.Idx) 0, (i : S4096x1024.Idx) 1, ix2_eta i⟩
    exact ⟨ptOf (pairOf x) (blkOf r), flush0_7 _, hi ▸ mem7 r x⟩

/-- The gradient of the keys' bias comes out whole. -/
theorem out11 : (dats m 0 c).arrAt 11 cfg0.N = gG A := by
  refine (dats m 0 c).arrAt_eq_of_cover 11 (gG A) (fun t _ => ?_) fun i => ?_
  · show (cfg0.win 11).cut (grid0.coords t) ((dats m 0 c).after 11 t) = _
    rw [after0_11]
    exact out11_blk m c H t
  · obtain ⟨r, x, hi⟩ : ∃ (r : Fin 4096) (x : Fin 1024), (i : S4096x1024.Idx) = ix2 r x := ⟨(i : S4096x1024.Idx) 0, (i : S4096x1024.Idx) 1, ix2_eta i⟩
    exact ⟨ptOf (pairOf x) (blkOf r), flush0_11 _, hi ▸ mem11 r x⟩

/-- The queries' gradient comes out whole. -/
theorem out9 : (dats m 0 c).arrAt 9 cfg0.N = gQ A := by
  refine (dats m 0 c).arrAt_eq_of_cover 9 (gQ A) (fun t ht => ?_) fun i => ?_
  · show (cfg0.win 9).cut (grid0.coords t) ((dats m 0 c).after 9 t) = _
    rw [after0_9]
    exact out9_blk m c H t ((flush0_9 t).mp ht)
  · obtain ⟨r, x, hi⟩ : ∃ (r : Fin 4096) (x : Fin 1024), (i : S4096x1024.Idx) = ix2 r x := ⟨(i : S4096x1024.Idx) 0, (i : S4096x1024.Idx) 1, ix2_eta i⟩
    exact ⟨ptOf (pairOf x) 7, (flush0_9 _).mpr (congrArg Fin.val (pk_ptOf _ 7)), hi ▸ mem9 r x⟩

/-- The gradient of the queries' bias comes out whole. -/
theorem out10 : (dats m 0 c).arrAt 10 cfg0.N = gF A := by
  refine (dats m 0 c).arrAt_eq_of_cover 10 (gF A) (fun t ht => ?_) fun i => ?_
  · show (cfg0.win 10).cut (grid0.coords t) ((dats m 0 c).after 10 t) = _
    rw [after0_10]
    exact out10_blk m c H t ((flush0_10 t).mp ht)
  · obtain ⟨j, n, b, hi⟩ : ∃ (j : Fin 16) (n : Fin 8) (b : Fin 512), (i : S16x8x1x512.Idx) = ix4 j n 0 b :=
      ⟨(i : S16x8x1x512.Idx) 0, (i : S16x8x1x512.Idx) 1, (i : S16x8x1x512.Idx) 3, ix4_eta i⟩
    exact ⟨ptOf (hpair j) 7, (flush0_10 _).mpr (congrArg Fin.val (pk_ptOf _ 7)), hi ▸ mem10 j n b⟩

/-- The wide gradient comes out with the values' gradient in its columns. -/
theorem out8 : (dats m 0 c).arrAt 8 cfg0.N = gW A (m ((c : Thread nD τ).loc main_arg5)) := by
  refine funext fun i => ?_
  have hG : ∀ t, (cfg0.win 8).flush t = true → (dats m 0 c).flushed 8 t
      = ((cfg0.win 8).blk t).view.read (Elt Ideal) (gW A (m ((c : Thread nD τ).loc main_arg5))) := fun t _ => by
    show (cfg0.win 8).cut (grid0.coords t) ((dats m 0 c).after 8 t) = _
    rw [after0_8]
    exact out8_blk m c H _ t
  refine ((dats m 0 c).arrAt_eq_piecewise 8 (gW A (m ((c : Thread nD τ).loc main_arg5))) hG i).trans ?_
  have e' : (dats m 0 c).A 8 i = (m ((c : Thread nD τ).loc main_arg5) : S4096x7680.Idx → EReal) i := by
    rw [A_eq]
    exact congrFun (V_proj m c) i
  obtain ⟨r, y, hi⟩ : ∃ (r : Fin 4096) (y : Fin 7680), (i : S4096x7680.Idx) = ix2 r y := ⟨(i : S4096x7680.Idx) 0, (i : S4096x7680.Idx) 1, ix2_eta i⟩
  by_cases h : 6144 ≤ y.val ∧ y.val < 7168
  · obtain ⟨x, rfl⟩ : ∃ x : Fin 1024, y = wcol x := ⟨⟨y.val - 6144, by omega⟩, Fin.ext (by show y.val = 6144 + (y.val - 6144); omega)⟩
    exact if_pos ⟨ptOf (pairOf x) (blkOf r), flush0_8 _, hi ▸ mem8 r x⟩
  · have e : gW A (m ((c : Thread nD τ).loc main_arg5)) i = (m ((c : Thread nD τ).loc main_arg5) : S4096x7680.Idx → EReal) i := by
      have hi' : i = (ix2 r y : S4096x7680.Idx) := hi
      rw [hi']
      exact dif_neg h
    split
    · exact rfl
    · exact e'.trans e.symm
end

set_option maxHeartbeats 4000000 in
/-- What the kernel finds in its arrays, on arguments that are an attention's. -/
theorem holds_of {A : Attn} (R : Args A (m ((c : Thread nD τ).loc main_arg0)) (m ((c : Thread nD τ).loc main_arg1)) (m ((c : Thread nD τ).loc main_arg2))
    (m ((c : Thread nD τ).loc main_arg3)) (m ((c : Thread nD τ).loc main_arg4))) : Holds A (arr m c) := by
  refine ⟨fun r x => ?_, fun r x => ?_, fun r x => ?_, fun r x => ?_, fun r h => ?_, fun h n b => ?_, fun h n b => ?_⟩
  · exact (congrFun (V_main_arg0 m c) (ix2 r x : S4096x1024.Idx)).trans (R.q r x)
  · exact (congrFun (V_main_arg3 m c) (ix2 r x : S4096x1024.Idx)).trans (R.g r x)
  · exact (congrFun (V_main_arg1 m c) (ix2 r x : S4096x1024.Idx)).trans (R.k r x)
  · exact (congrFun (V_main_arg2 m c) (ix2 r x : S4096x1024.Idx)).trans (R.v r x)
  · exact (congrFun (V_main_arg4 m c) (ix2 r (ln h) : S4096x128.Idx)).trans (R.f r h)
  · exact (congrFun (V_lse m c) (ix4 h n 0 b : S16x8x1x512.Idx)).trans (hlse_at R h n b)
  · exact (congrFun (V_del m c) (ix4 h n 0 b : S16x8x1x512.Idx)).trans (hdel_at R h n b)

end Cert.KernelIdeal.Run
-- ==== Proof.Fin.lean ====
/-
  What the precondition says: every argument's elements are real numbers.
-/
module

public import proofs.«01_k».proof.Pre_finite
public import proofs.«01_k».proof.Proof.Ref
public import Idealize.ShloMosaic.Lib.ReduceAll

@[expose] public section

noncomputable section

namespace Cert.Pre_finite

open Idealize.ShloMosaic Idealize.ShloMosaic.Tactic Cert.Attention

/-- The relations among shapes that the precondition takes. -/
theorem facts : Facts where
  bitsLt_bf16_f32 := by decide
  bcast_S_S4096x1024 := by decide
  reducesTo_S4096x1024_S_d0_1 := by decide
  h_S_ := by decide
  slices_S4096x128_S4096x16_0_0 := by decide
  bcast_S_S4096x16 := by decide
  reducesTo_S4096x16_S_d0_1 := by decide

instance : Facts := facts

/-- A number whose size is below infinity is real. -/
theorem real_of_lt (x : EReal) (h : max x (-x) < ⊤) : ∃ r : ℝ, x = (r : EReal) := by
  have h1 : x ≠ ⊤ := fun e => by rw [e] at h; exact absurd (lt_of_le_of_lt (le_max_left _ _) h) (lt_irrefl _)
  have h2 : x ≠ ⊥ := fun e => by rw [e, EReal.neg_bot] at h; exact absurd (lt_of_le_of_lt (le_max_right _ _) h) (lt_irrefl _)
  exact ⟨x.toReal, (EReal.coe_toReal h1 h2).symm⟩

theorem real_of_cmp (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  refine real_of_lt x ?_
  by_contra hn
  simp [Ideal.cmp, hn] at h

instance : Subsingleton S_.Idx := ⟨fun a b => funext fun x => x.elim0⟩

theorem and_left {x y : IVec S_ 1} (h : andi x y = fun _ => 1#1) : x = fun _ => 1#1 := by
  funext i
  have : x i &&& y i = 1#1 := congrFun h i
  revert this
  generalize x i = a
  generalize y i = b
  revert a b
  decide

theorem and_right {x y : IVec S_ 1} (h : andi x y = fun _ => 1#1) : y = fun _ => 1#1 := by
  funext i
  have : x i &&& y i = 1#1 := congrFun h i
  revert this
  generalize x i = a
  generalize y i = b
  revert a b
  decide

/-- One argument's test: every element's size is below infinity. -/
theorem all_real (x : FVec Ideal S4096x1024 .bf16)
    (h : Host.reduce IntOp.andi (cmpf .olt (Host.absf (extf .f32 x Facts.bitsLt_bf16_f32)) (broadcastInDim S4096x1024 ![] Facts.bcast_S_S4096x1024 (constant (F := Ideal) S_ .f32 0x7F800000#32)))
      (constantI S_ 1 1#1) Facts.reducesTo_S4096x1024_S_d0_1 Facts.h_S_ = fun _ => 1#1) (i : S4096x1024.Idx) : ∃ r : ℝ, (x i : EReal) = (r : EReal) :=
  real_of_cmp _ (Host.reduce_andi_all _ _ _ _ _ (congrFun h fun a => a.elim0) i)

/-- The bias' test, over its first sixteen lanes. -/
theorem all_real' (x : FVec Ideal S4096x128 .f32)
    (h : Host.reduce IntOp.andi (cmpf .olt (Host.absf (extractStridedSlice S4096x16 ![0, 0] x Facts.slices_S4096x128_S4096x16_0_0)) (broadcastInDim S4096x16 ![] Facts.bcast_S_S4096x16 (constant (F := Ideal) S_ .f32 0x7F800000#32)))
      (constantI S_ 1 1#1) Facts.reducesTo_S4096x16_S_d0_1 Facts.h_S_ = fun _ => 1#1) (r : Fin 4096) (e : Fin 16) : ∃ z : ℝ, (x (ix2 r (ln e)) : EReal) = (z : EReal) := by
  obtain ⟨z, hz⟩ := real_of_cmp _ (Host.reduce_andi_all _ _ _ _ _ (congrFun h fun a => a.elim0) (ix2 r e : S4096x16.Idx))
  refine ⟨z, Eq.trans (congrArg x (funext fun a => Fin.ext ?_)) hz⟩
  match a with
  | ⟨0, _⟩ => show r.val = 0 + r.val; omega
  | ⟨1, _⟩ => show e.val = 0 + e.val; omega

/-- Arguments that meet the precondition are an attention's. -/
theorem args_of (x0 x1 x2 x3 : FVec Ideal S4096x1024 .bf16) (x4 : FVec Ideal S4096x128 .f32) (x5 : FVec Ideal S4096x7680 .bf16)
    (h : fn (F := Ideal) x0 x1 x2 x3 x4 x5 = fun _ => 1#1) : ∃ A : Attn, Args A x0 x1 x2 x3 x4 := by
  unfold fn fn_part1 at h
  have h4 := all_real' x4 (and_right h)
  have h := and_left h
  have h3 := all_real x3 (and_right h)
  have h := and_left h
  have h2 := all_real x2 (and_right h)
  have h := and_left h
  have h1 := all_real x1 (and_right h)
  have h0 := all_real x0 (and_left h)
  choose r0 e0 using h0
  choose r1 e1 using h1
  choose r2 e2 using h2
  choose r3 e3 using h3
  choose r4 e4 using h4
  exact ⟨⟨fun r x => r0 (ix2 r x), fun r x => r3 (ix2 r x), fun r x => r1 (ix2 r x), fun r x => r2 (ix2 r x), r4⟩,
    ⟨fun r x => e0 _, fun r x => e1 _, fun r x => e2 _, fun r x => e3 _, e4⟩⟩

end Cert.Pre_finite
-- ==== Proof.Product.lean ====
/-
  Products of matrices of extended reals, in the three ways a training step takes them.
-/
module

public import Idealize.ShloMosaic.PureOps.Ideal
public import Idealize.ShloMosaic.Lib.Pointwise

@[expose] public section

noncomputable section

namespace Cert.Product

open Idealize.ShloMosaic

/-- A matrix of extended reals of `a` rows and `b` columns. -/
abbrev Mat (a b : Nat) := (⟨2, ![a, b]⟩ : Shape).Idx → EReal

variable {a b k : Nat}

/-- `A B`: rows of `A` times columns of `B`. -/
def mulNN (A : Mat a k) (B : Mat k b) : Mat a b := fun i => ∑ x : Fin k, A (ix2 (i 0) x) * B (ix2 x (i 1))
/-- `A Bᵀ`: rows of `A` times rows of `B`. -/
def mulNT (A : Mat a k) (B : Mat b k) : Mat a b := fun i => ∑ x : Fin k, A (ix2 (i 0) x) * B (ix2 (i 1) x)
/-- `Aᵀ B`: columns of `A` times columns of `B`. -/
def mulTN (A : Mat k a) (B : Mat k b) : Mat a b := fun i => ∑ x : Fin k, A (ix2 x (i 0)) * B (ix2 x (i 1))

/-- A matrix's entries, each made non-negative and squared. -/
def relu2 {a b : Nat} (A : Mat a b) : Mat a b := fun i => max (A i) 0 * max (A i) 0

/-- The single-precision constant 2. -/
def two : EReal := Ideal.ofBits .f32 0x40000000#32
/-- The entries of `A` times 2 times the roots of those of `B`. -/
def twiceSqrt {a b : Nat} (A B : Mat a b) : Mat a b := fun i => A i * two * Ideal.sqrt (B i)

/-! An entry of the product of two blocks is the matching entry of the product of the whole matrices, where the
blocks hold that row and that column. -/
section
variable {a' b' : Nat} {X : Mat a k} {Y : Mat k b} {A : Mat a' k} {B : Mat k b'} {y : (⟨2, ![a, b]⟩ : Shape).Idx} {i : (⟨2, ![a', b']⟩ : Shape).Idx}

theorem mulNN_tile (hX : ∀ x, X (ix2 (y 0) x) = A (ix2 (i 0) x)) (hY : ∀ x, Y (ix2 x (y 1)) = B (ix2 x (i 1))) :
    mulNN X Y y = mulNN A B i := Finset.sum_congr rfl fun x _ => congrArg₂ (· * ·) (hX x) (hY x)

theorem mulNT_tile {Y : Mat b k} {B : Mat b' k} (hX : ∀ x, X (ix2 (y 0) x) = A (ix2 (i 0) x)) (hY : ∀ x, Y (ix2 (y 1) x) = B (ix2 (i 1) x)) :
    mulNT X Y y = mulNT A B i := Finset.sum_congr rfl fun x _ => congrArg₂ (· * ·) (hX x) (hY x)

theorem mulTN_tile {X : Mat k a} {A : Mat k a'} (hX : ∀ x, X (ix2 x (y 0)) = A (ix2 x (i 0))) (hY : ∀ x, Y (ix2 x (y 1)) = B (ix2 x (i 1))) :
    mulTN X Y y = mulTN A B i := Finset.sum_congr rfl fun x _ => congrArg₂ (· * ·) (hX x) (hY x)

/-- The two parts of a product's sum, from two pairs of blocks. -/
theorem mulNT_two {l : Nat} {X : Mat a k} {Y : Mat b k} {X' : Mat a l} {Y' : Mat b l} {A : Mat a' (k + l)} {B : Mat b' (k + l)}
    (hX : ∀ x, X (ix2 (y 0) x) = A (ix2 (i 0) (Fin.castAdd l x))) (hY : ∀ x, Y (ix2 (y 1) x) = B (ix2 (i 1) (Fin.castAdd l x)))
    (hX' : ∀ x, X' (ix2 (y 0) x) = A (ix2 (i 0) (Fin.natAdd k x))) (hY' : ∀ x, Y' (ix2 (y 1) x) = B (ix2 (i 1) (Fin.natAdd k x))) :
    mulNT X Y y + mulNT X' Y' y = mulNT A B i :=
  (congrArg₂ (· + ·) (Finset.sum_congr rfl fun x _ => congrArg₂ (· * ·) (hX x) (hY x))
    (Finset.sum_congr rfl fun x _ => congrArg₂ (· * ·) (hX' x) (hY' x))).trans
    (Fin.sum_univ_add fun x => A (ix2 (i 0) x) * B (ix2 (i 1) x)).symm

end

end Cert.Product

end
-- ==== Proof.MlpCalls.lean ====
/-
  What each of the six calls of the MLP leaves in its result array: a product of the arrays it reads.
-/
module

public import proofs.«01_k».proof.Proof.Gen.MlpIdeal.Frame
public import Idealize.ShloMosaic.Lib.Pipeline.Value
public import Idealize.ShloMosaic.Lib.Pipeline.ValueKit
public import proofs.«01_k».proof.Proof.Product

@[expose] public section

set_option maxRecDepth 16384

noncomputable section

namespace Cert.MlpIdeal.Run

open Cert.MlpIdeal Cert.MlpIdeal.Gen Cert.Product
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b)) (c : Dev nD)

/-! ### The hidden layer -/

theorem idx0_0 : ∀ t : Fin grid0.N, win0_0.index t = ![t.val / 4, 0] := by decide +kernel
theorem idx0_1 : ∀ t : Fin grid0.N, win0_1.index t = ![0, t.val % 4] := by decide +kernel
theorem idx0_2 : ∀ t : Fin grid0.N, win0_2.index t = ![t.val / 4, t.val % 4] := by decide +kernel

theorem pay0 (x y : Vec Ideal S1024x1024 .bf16) : k0_pay1 x y = relu2 (mulNN (k := 1024) x y) := by
  funext i
  pointwise [k0_pay1]
  rfl

/-- The first call leaves the squared ramp of the product of its two operands. -/
theorem arr0 : (dat0 V c).arrAt 2 cfg0.N = relu2 (mulNN (k := 1024) (V c main_arg0) (V c main_arg1)) := by
  refine (dat0 V c).arrAt_eq_of_covers 2 _ (by decide +kernel) fun t hf y => ?_
  blk_simp
  rw [after0_2]; frame_out
  rw [pay0]
  refine congrArg (fun z : EReal => max z 0 * max z 0) (mulNN_tile (fun k => ?_) fun k => ?_)
  · blk_simp [iblk0]
    exact congrArg (V c main_arg0) (by blk_ext [idx0_0, idx0_2])
  · blk_simp [iblk0]
    exact congrArg (V c main_arg1) (by blk_ext [idx0_1, idx0_2])

/-! ### The second product -/

theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![t.val, 0] := by decide +kernel

theorem pay1 (x : Vec Ideal S1024x4096 .bf16) (y : Vec Ideal S4096x1024 .bf16) : k1_pay1 x y = mulNN (k := 4096) x y := by
  funext i
  pointwise [k1_pay1]
  rfl

/-- The second call leaves the product of its two operands. -/
theorem arr1 : (dat1 V c).arrAt 2 cfg1.N = mulNN (k := 4096) (V c main_v0) (V c main_arg2) := by
  refine (dat1 V c).arrAt_eq_of_covers 2 _ (by decide +kernel) fun t hf y => ?_
  blk_simp
  rw [after1_2]; frame_out
  rw [pay1]
  refine mulNN_tile (fun k => ?_) fun k => ?_
  · blk_simp [iblk1]
    exact congrArg (V c main_v0) (by blk_ext [idx1_0, idx1_2])
  · blk_simp [iblk1]
    exact congrArg (V c main_arg2) (by blk_ext [idx1_1, idx1_2])

/-! ### The hidden layer's gradient -/

theorem idx2_0 : ∀ t : Fin grid2.N, win2_0.index t = ![t.val / 4, 0] := by decide +kernel
theorem idx2_1 : ∀ t : Fin grid2.N, win2_1.index t = ![t.val % 4, 0] := by decide +kernel
theorem idx2_2 : ∀ t : Fin grid2.N, win2_2.index t = ![t.val / 4, t.val % 4] := by decide +kernel
theorem idx2_3 : ∀ t : Fin grid2.N, win2_3.index t = ![t.val / 4, t.val % 4] := by decide +kernel

theorem pay2 (x y z : Vec Ideal S1024x1024 .bf16) : k2_pay1 x y z = twiceSqrt (mulNT (k := 1024) x y) z := by
  funext i
  pointwise [k2_pay1]

  rfl

/-- The third call leaves, entry by entry, the product of its first operand with its second transposed, times 2, times the
    root of its third. -/
theorem arr2 : (dat2 V c).arrAt 3 cfg2.N = twiceSqrt (mulNT (k := 1024) (V c main_arg3) (V c main_arg2)) (V c main_v0) := by
  refine (dat2 V c).arrAt_eq_of_covers 3 _ (by decide +kernel) fun t hf y => ?_
  blk_simp
  rw [after2_3]; frame_out
  rw [pay2]
  refine congrArg₂ (fun z w : EReal => z * two * Ideal.sqrt w) (mulNT_tile (fun k => ?_) fun k => ?_) ?_
  · blk_simp [iblk2]
    exact congrArg (V c main_arg3) (by blk_ext [idx2_0, idx2_3])
  · blk_simp [iblk2]
    exact congrArg (V c main_arg2) (by blk_ext [idx2_1, idx2_3])
  · blk_simp [iblk2]
    exact congrArg (V c main_v0) (by blk_ext [idx2_2, idx2_3])

/-! ### The gradients of the weights -/

theorem idx3_0 : ∀ t : Fin grid3.N, win3_0.index t = ![0, t.val] := by decide +kernel
theorem idx3_1 : ∀ t : Fin grid3.N, win3_1.index t = ![0, 0] := by decide +kernel
theorem idx3_2 : ∀ t : Fin grid3.N, win3_2.index t = ![t.val, 0] := by decide +kernel

theorem pay3 (x y : Vec Ideal S4096x1024 .bf16) : k3_pay1 x y = mulTN (k := 4096) x y := by
  funext i
  pointwise [k3_pay1]
  rfl

/-- The fourth call leaves its first operand, transposed, times its second. -/
theorem arr3 : (dat3 V c).arrAt 2 cfg3.N = mulTN (k := 4096) (V c main_v0) (V c main_arg3) := by
  refine (dat3 V c).arrAt_eq_of_covers 2 _ (by decide +kernel) fun t hf y => ?_
  blk_simp
  rw [after3_2]; frame_out
  rw [pay3]
  refine mulTN_tile (fun k => ?_) fun k => ?_
  · blk_simp [iblk3]
    exact congrArg (V c main_v0) (by blk_ext [idx3_0, idx3_2])
  · blk_simp [iblk3]
    exact congrArg (V c main_arg3) (by blk_ext [idx3_1, idx3_2])

theorem idx4_0 : ∀ t : Fin grid4.N, win4_0.index t = ![0, 0] := by decide +kernel
theorem idx4_1 : ∀ t : Fin grid4.N, win4_1.index t = ![0, t.val] := by decide +kernel
theorem idx4_2 : ∀ t : Fin grid4.N, win4_2.index t = ![0, t.val] := by decide +kernel

theorem pay4 (x y : Vec Ideal S4096x1024 .bf16) : k4_pay1 x y = mulTN (k := 4096) x y := by
  funext i
  pointwise [k4_pay1]
  rfl

/-- So does the fifth. -/
theorem arr4 : (dat4 V c).arrAt 2 cfg4.N = mulTN (k := 4096) (V c main_arg0) (V c main_v2) := by
  refine (dat4 V c).arrAt_eq_of_covers 2 _ (by decide +kernel) fun t hf y => ?_
  blk_simp
  rw [after4_2]; frame_out
  rw [pay4]
  refine mulTN_tile (fun k => ?_) fun k => ?_
  · blk_simp [iblk4]
    exact congrArg (V c main_arg0) (by blk_ext [idx4_0, idx4_2])
  · blk_simp [iblk4]
    exact congrArg (V c main_v2) (by blk_ext [idx4_1, idx4_2])

/-! ### The gradient of the input -/

theorem idx5_0 : ∀ t : Fin grid5.N, win5_0.index t = ![t.val, 0] := by decide +kernel
theorem idx5_1 : ∀ t : Fin grid5.N, win5_1.index t = ![0, 0] := by decide +kernel
theorem idx5_2 : ∀ t : Fin grid5.N, win5_2.index t = ![t.val, 0] := by decide +kernel

theorem pay5 (x y : Vec Ideal S1024x4096 .bf16) : k5_pay1 x y = mulNT (k := 4096) x y := by
  funext i
  pointwise [k5_pay1]
  rfl

/-- The sixth call leaves its first operand times its second transposed. -/
theorem arr5 : (dat5 V c).arrAt 2 cfg5.N = mulNT (k := 4096) (V c main_v2) (V c main_arg1) := by
  refine (dat5 V c).arrAt_eq_of_covers 2 _ (by decide +kernel) fun t hf y => ?_
  blk_simp
  rw [after5_2]; frame_out
  rw [pay5]
  refine mulNT_tile (fun k => ?_) fun k => ?_
  · blk_simp [iblk5]
    exact congrArg (V c main_v2) (by blk_ext [idx5_0, idx5_2])
  · blk_simp [iblk5]
    exact congrArg (V c main_arg1) (by blk_ext [idx5_1, idx5_2])

end Cert.MlpIdeal.Run

end
-- ==== Proof.MlpRun.lean ====
/-
  The MLP's run: its six calls one after another, and what the four results hold at the end.
-/
module

public import proofs.«01_k».proof.Proof.MlpCalls

@[expose] public section

set_option maxRecDepth 16384

noncomputable section

namespace Cert.MlpIdeal.Run

open Cert.MlpIdeal Cert.MlpIdeal.Gen Cert.Product
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters the six calls run, every semaphore ends at zero, and every array of the main memory
    ends with the contents `W6`, which the calls' results make up one after another. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end

/-! ### The results, from the arguments -/

variable (m : (ℓ : Loc nD τ sig) → Buf (Elt Ideal) ℓ) (ρ : Dev nD → PrngReg) (c : Dev nD)

/-- The four arguments: the input, the two weights, and the gradient of the output. -/
abbrev xh : Mat 4096 1024 := m ((c : Thread nD τ).loc main_arg0)
abbrev xw1 : Mat 1024 4096 := m ((c : Thread nD τ).loc main_arg1)
abbrev xw2 : Mat 4096 1024 := m ((c : Thread nD τ).loc main_arg2)
abbrev xg : Mat 4096 1024 := m ((c : Thread nD τ).loc main_arg3)

/-- The hidden layer and its gradient. -/
abbrev hid : Mat 4096 4096 := relu2 (mulNN (k := 1024) (xh m c) (xw1 m c))
abbrev dhid : Mat 4096 4096 := twiceSqrt (mulNT (k := 1024) (xg m c) (xw2 m c)) (hid m c)

theorem W1_v0 : V1 m ρ c main_v0 = hid m c := (W1_arr m ρ c 2).trans (arr0 (V0 m ρ) c)
theorem W2_v0 : V2 m ρ c main_v0 = hid m c := (W2_of m ρ c main_v0 (by decide +kernel)).trans (W1_v0 m ρ c)
theorem W3_v0 : V3 m ρ c main_v0 = hid m c := (W3_of m ρ c main_v0 (by decide +kernel)).trans (W2_v0 m ρ c)

theorem W2_v1 : V2 m ρ c main_v1 = mulNN (k := 4096) (hid m c) (xw2 m c) := by
  refine (W2_arr m ρ c 2).trans ((arr1 (V1 m ρ) c).trans ?_)
  rw [W1_v0, show V1 m ρ c main_arg2 = xw2 m c from W1_args m ρ c main_arg2 (by decide)]

theorem W3_v2 : V3 m ρ c main_v2 = dhid m c := by
  refine (W3_arr m ρ c 3).trans ((arr2 (V2 m ρ) c).trans ?_)
  rw [W2_v0, show V2 m ρ c main_arg2 = xw2 m c from W2_args m ρ c main_arg2 (by decide),
    show V2 m ρ c main_arg3 = xg m c from W2_args m ρ c main_arg3 (by decide)]
theorem W4_v2 : V4 m ρ c main_v2 = dhid m c := (W4_of m ρ c main_v2 (by decide +kernel)).trans (W3_v2 m ρ c)
theorem W5_v2 : V5 m ρ c main_v2 = dhid m c := (W5_of m ρ c main_v2 (by decide +kernel)).trans (W4_v2 m ρ c)

theorem W4_v3 : V4 m ρ c main_v3 = mulTN (k := 4096) (hid m c) (xg m c) := by
  refine (W4_arr m ρ c 2).trans ((arr3 (V3 m ρ) c).trans ?_)
  rw [W3_v0, show V3 m ρ c main_arg3 = xg m c from W3_args m ρ c main_arg3 (by decide)]

theorem W5_v4 : V5 m ρ c main_v4 = mulTN (k := 4096) (xh m c) (dhid m c) := by
  refine (W5_arr m ρ c 2).trans ((arr4 (V4 m ρ) c).trans ?_)
  rw [W4_v2, show V4 m ρ c main_arg0 = xh m c from W4_args m ρ c main_arg0 (by decide)]

/-- The gradient of the input ends in its array, -/
theorem W6_v5 : W6 m ρ c main_v5 = mulNT (k := 4096) (dhid m c) (xw1 m c) := by
  refine (W6_arr m ρ c 2).trans ((arr5 (V5 m ρ) c).trans ?_)
  rw [W5_v2, show V5 m ρ c main_arg1 = xw1 m c from W5_args m ρ c main_arg1 (by decide)]
/-- and so do the output -/
theorem W6_v1 : W6 m ρ c main_v1 = mulNN (k := 4096) (hid m c) (xw2 m c) :=
  (W6_of m ρ c main_v1 (by decide +kernel)).trans ((W5_of m ρ c main_v1 (by decide +kernel)).trans
    ((W4_of m ρ c main_v1 (by decide +kernel)).trans ((W3_of m ρ c main_v1 (by decide +kernel)).trans (W2_v1 m ρ c))))
/-- and the gradients of the two weights. -/
theorem W6_v3 : W6 m ρ c main_v3 = mulTN (k := 4096) (hid m c) (xg m c) :=
  (W6_of m ρ c main_v3 (by decide +kernel)).trans ((W5_of m ρ c main_v3 (by decide +kernel)).trans (W4_v3 m ρ c))
theorem W6_v4 : W6 m ρ c main_v4 = mulTN (k := 4096) (xh m c) (dhid m c) :=
  (W6_of m ρ c main_v4 (by decide +kernel)).trans (W5_v4 m ρ c)

end Cert.MlpIdeal.Run

end
-- ==== Proof.MlpRef.lean ====
/-
  The MLP's reference, read: the output and the three gradients as products of matrices.
-/
module

public import proofs.«01_k».proof.Proof.Gen.MlpReferenceIdeal.Read
public import proofs.«01_k».proof.Proof.Product

@[expose] public section

set_option maxRecDepth 16384

noncomputable section

namespace Cert.MlpReferenceIdeal.Read

open Cert.MlpReferenceIdeal Cert.MlpReferenceIdeal.Gen Cert.Product
open Idealize.ShloMosaic Idealize.ShloMosaic.TcCoe

/-- The gradient through the squared ramp: where the ramp's argument is positive, the gradient times twice the ramp, else 0;
    which is the gradient times 2 times the root of the squared ramp. -/
theorem ramp_grad (r g t : EReal) : (if 0 < r then g * (t * max r 0) else 0) = g * t * Ideal.sqrt (max r 0 * max r 0) := by
  by_cases h : 0 < r
  · rw [if_pos h, max_eq_left h.le, mul_assoc]
    congr 2
    induction r with
    | bot => exact absurd h (by simp)
    | top => simp
    | coe x =>
      have hx : 0 ≤ x := by exact_mod_cast h.le
      rw [← EReal.coe_mul, Ideal.sqrt_coe, if_neg (not_lt.mpr (mul_self_nonneg x)), Real.sqrt_mul_self hx]
  · rw [if_neg h, max_eq_right (not_lt.mp h), mul_zero]
    have : Ideal.sqrt 0 = 0 := by
      rw [← EReal.coe_zero, Ideal.sqrt_coe]; simp
    rw [this, mul_zero]

variable (x0 : Mat 4096 1024) (x1 : Mat 1024 4096) (x2 x3 : Mat 4096 1024)

/-- The first product. -/
theorem ref_pre : (val_main_v3 (F := Ideal) x0 x1 : Mat 4096 4096) = mulNN (k := 1024) x0 x1 := by
  funext i
  pointwise [val_main_v3, val_main_v0, val_main_v1]
  rfl

/-- The hidden layer. -/
theorem ref_hid : (val_main_v8 (F := Ideal) x0 x1 : Mat 4096 4096) = relu2 (mulNN (k := 1024) x0 x1) := by
  funext i
  pointwise [val_main_v8, val_main_v4, val_main_call0_v0, val_main_call0_cst]
  rw [ref_pre]
  rfl

/-- The hidden layer's gradient. -/
theorem ref_dhid : (val_main_v18 (F := Ideal) x0 x1 x2 x3 : Mat 4096 4096) = twiceSqrt (mulNT (k := 1024) x3 x2) (relu2 (mulNN (k := 1024) x0 x1)) := by
  funext i
  pointwise [val_main_v18, val_main_v16, val_main_v17, val_main_v6, val_main_v5, val_main_v10, val_main_v9, val_main_v4, val_main_call0_v0, val_main_call0_cst, val_main_cst, val_main_cst_1, val_main_cst_2, val_main_v15, val_main_v12, val_main_v2]
  rw [ref_pre]
  exact ramp_grad _ _ _

/-- The output. -/
theorem ref_y : (val_main_v11 (F := Ideal) x0 x1 x2 : Mat 4096 1024) = mulNN (k := 4096) (relu2 (mulNN (k := 1024) x0 x1)) x2 := by
  funext i
  pointwise [val_main_v11, val_main_v2]
  rw [ref_hid]
  rfl

/-- The gradient of the input. -/
theorem ref_dh : (val_main_v21 (F := Ideal) x0 x1 x2 x3 : Mat 4096 1024) =
    mulNT (k := 4096) (twiceSqrt (mulNT (k := 1024) x3 x2) (relu2 (mulNN (k := 1024) x0 x1))) x1 := by
  funext i
  pointwise [val_main_v21, val_main_v1]
  rw [ref_dhid]
  rfl

/-- The gradient of the first weight. -/
theorem ref_dw1 : (val_main_v22 (F := Ideal) x0 x1 x2 x3 : Mat 1024 4096) =
    mulTN (k := 4096) x0 (twiceSqrt (mulNT (k := 1024) x3 x2) (relu2 (mulNN (k := 1024) x0 x1))) := by
  funext i
  pointwise [val_main_v22, val_main_v20, val_main_v19, val_main_v0]
  rw [ref_dhid]
  exact Finset.sum_congr rfl fun k _ => mul_comm _ _

/-- The gradient of the second weight. -/
theorem ref_dw2 : (val_main_v23 (F := Ideal) x0 x1 x3 : Mat 4096 1024) = mulTN (k := 4096) (relu2 (mulNN (k := 1024) x0 x1)) x3 := by
  funext i
  pointwise [val_main_v23, val_main_v14, val_main_v13, val_main_v12]
  rw [ref_hid]
  exact Finset.sum_congr rfl fun k _ => mul_comm _ _

end Cert.MlpReferenceIdeal.Read

end
-- ==== Proof.MlpClaims.lean ====
/-
  The MLP's claims: both programs run and leave their arguments, and the kernel's output and gradients are the reference's.
-/
module

public import proofs.«01_k».proof.Proof.MlpRun
public import proofs.«01_k».proof.Proof.MlpRef
public import proofs.«01_k».proof.Proof.Gen.Mlp
public import proofs.«01_k».proof.Proof.Gen.MlpReferenceIdeal.Run
public import proofs.«01_k».proof.Defs
public import Idealize.ShloMosaic.Lib.Claim
public import Idealize.ShloMosaic.Lib.StableHlo.RunHlo

@[expose] public section

set_option maxRecDepth 16384

noncomputable section

namespace Cert.Proof

open Idealize.ShloMosaic Idealize.ShloMosaic.TcCoe Idealize.SL.Sem Cert.Product

/-- The MLP's program and its idealized one have the same text, so that the claim of the first is that of the second over
    machine floats. -/
theorem same_mlp : Cert.quiescent_Mlp = (∀ (m : (ℓ : Loc Cert.MlpIdeal.nD Cert.MlpIdeal.τ Cert.MlpIdeal.sig) → Buf (Elt Bits) ℓ)
    (g : Dev Cert.MlpIdeal.nD → PrngReg), True →
    θ_run (Cert.MlpIdeal.defs (F := Bits)) (onTc (τ := Cert.MlpIdeal.τ) (Cert.MlpIdeal.main (F := Bits))) ⟨m, fun _ => 0, g⟩ (fun r =>
      (∀ c : Dev Cert.MlpIdeal.nD,
        r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
        ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
        ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
        ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)) := by chain_rfl

/-- The MLP's six calls run, leave their arguments as they were and every semaphore at zero, -/
theorem frame_mlp : Cert.quiescent_Mlp := same_mlp ▸ fun m g _ => Cert.MlpIdeal.Gen.frame (F := Bits) m g

/-- the idealized ones too. -/
theorem frame_mlp_ideal : Cert.quiescent_MlpIdeal := fun m g _ => Cert.MlpIdeal.Gen.frame m g

/-- The reference runs and leaves its arguments as they were; it has no semaphore. -/
theorem frame_mlp_ref : Cert.quiescent_MlpReferenceIdeal := fun m g _ =>
  (θ_run Cert.MlpReferenceIdeal.defs _ _).mono (fun r h => ⟨fun c => (h c).2.2.2.2, sem_eq_zero_of_no_sems (by decide) r.2⟩)
    (Cert.MlpReferenceIdeal.Value.run (F := Ideal) m g)

section
open Cert.MlpIdeal Cert.MlpIdeal.Run

/-- The kernel's output and its three gradients are the reference's, on all arguments. -/
theorem values_mlp : Cert.algebraic_MlpIdeal_MlpReferenceIdeal := fun m g m' g' _ hag => by
  refine ⟨fun c => mulNN (k := 4096) (hid m c) (xw2 m c), fun c => mulNT (k := 4096) (dhid m c) (xw1 m c),
    fun c => mulTN (k := 4096) (xh m c) (dhid m c), fun c => mulTN (k := 4096) (hid m c) (xg m c), ?_, ?_⟩
  · refine θ_run_mono (θ_run_and (run_main m g) (Cert.MlpIdeal.Gen.frame m g)) fun r hr c => ?_
    have h := fun b hb => hr.1.1 c _ (Cert.MlpIdeal.Gen.mem_uc b hb)
    exact ⟨(h main_v1 (by decide)).trans (W6_v1 m g c), (h main_v5 (by decide)).trans (W6_v5 m g c),
      (h main_v4 (by decide)).trans (W6_v4 m g c), (h main_v3 (by decide)).trans (W6_v3 m g c), hr.2.1 c⟩
  · refine θ_run_mono (Cert.MlpReferenceIdeal.Value.run (F := Ideal) m' g') fun r hr c => ?_
    obtain ⟨e0, e1, e2, e3⟩ := hag c
    obtain ⟨h0, h1, h2, h3, h4⟩ := hr c
    refine ⟨h0.trans ((Cert.MlpReferenceIdeal.Read.val_main_v11_eq _ _ _).trans ?_), h1.trans ((Cert.MlpReferenceIdeal.Read.val_main_v21_eq _ _ _ _).trans ?_),
      h2.trans ((Cert.MlpReferenceIdeal.Read.val_main_v22_eq _ _ _ _).trans ?_), h3.trans ((Cert.MlpReferenceIdeal.Read.val_main_v23_eq _ _ _).trans ?_), h4⟩
    · rw [e0, e1, e2]; exact Cert.MlpReferenceIdeal.Read.ref_y _ _ _
    · rw [e0, e1, e2, e3]; exact Cert.MlpReferenceIdeal.Read.ref_dh _ _ _ _
    · rw [e0, e1, e2, e3]; exact Cert.MlpReferenceIdeal.Read.ref_dw1 _ _ _ _
    · rw [e0, e1, e3]; exact Cert.MlpReferenceIdeal.Read.ref_dw2 _ _ _
end

end Cert.Proof

end
-- ==== Proof.MixerCalls.lean ====
/-
  What each of the nine products of the token mixer leaves in its result array: the product of the two arrays it reads.
-/
module

public import proofs.«01_k».proof.Proof.Gen.MixerIdeal.Frame
public import Idealize.ShloMosaic.Lib.Pipeline.Value
public import Idealize.ShloMosaic.Lib.Pipeline.ValueKit
public import proofs.«01_k».proof.Proof.Product

@[expose] public section

set_option maxRecDepth 16384

noncomputable section

namespace Cert.MixerIdeal.Run

open Cert.MixerIdeal Cert.MixerIdeal.Gen Cert.Product
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b)) (c : Dev nD)

/-! What a call stores at one grid point, in the three forms of a product; a sum rounded to bf16 is the same. -/

theorem payNN (x y : Vec Ideal S1024x1024 .bf16) : k0_pay1 x y = mulNN (k := 1024) x y := by
  funext i
  pointwise [k0_pay1]
  rfl

theorem payNT (x y : Vec Ideal S1024x1024 .bf16) : k3_pay1 x y = mulNT (k := 1024) x y := by
  funext i
  pointwise [k3_pay1]
  rfl

theorem payTN (x y : Vec Ideal S4096x1024 .bf16) : k4_pay1 x y = mulTN (k := 4096) x y := by
  funext i
  pointwise [k4_pay1]
  rfl

theorem payNT_round (x y : Vec Ideal S1024x1024 .bf16) : k5_pay1 x y = mulNT (k := 1024) x y := payNT x y

/-! ### Call 1 -/

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

/-- The attention's branch. -/
theorem arr0 : (dat0 V c).arrAt 2 cfg0.N = mulNN (k := 1024) (V c main_arg0) (V c main_arg2) := by
  refine (dat0 V c).arrAt_eq_of_covers 2 _ (by decide +kernel) fun t hf y => ?_
  blk_simp
  rw [after0_2]; frame_out
  refine (congrFun (payNN _ _) y).trans (mulNN_tile (fun k => ?_) fun k => ?_)
  · blk_simp [iblk0]
    exact congrArg (V c main_arg0) (by blk_ext [idx0_0, idx0_2])
  · blk_simp [iblk0]
    exact congrArg (V c main_arg2) (by blk_ext [idx0_1, idx0_2])

/-! ### Call 2 -/

theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![t.val, 0] := by decide +kernel

/-- The convolution's branch. -/
theorem arr1 : (dat1 V c).arrAt 2 cfg1.N = mulNN (k := 1024) (V c main_arg1) (V c main_arg3) := by
  refine (dat1 V c).arrAt_eq_of_covers 2 _ (by decide +kernel) fun t hf y => ?_
  blk_simp
  rw [after1_2]; frame_out
  refine (congrFun (payNN _ _) y).trans (mulNN_tile (fun k => ?_) fun k => ?_)
  · blk_simp [iblk1]
    exact congrArg (V c main_arg1) (by blk_ext [idx1_0, idx1_2])
  · blk_simp [iblk1]
    exact congrArg (V c main_arg3) (by blk_ext [idx1_1, idx1_2])

/-! ### Call 3 -/

theorem idx2_0 : ∀ t : Fin grid2.N, win2_0.index t = ![t.val, 0] := by decide +kernel
theorem idx2_1 : ∀ t : Fin grid2.N, win2_1.index t = ![0, 0] := by decide +kernel
theorem idx2_2 : ∀ t : Fin grid2.N, win2_2.index t = ![t.val, 0] := by decide +kernel

/-- The output. -/
theorem arr2 : (dat2 V c).arrAt 2 cfg2.N = mulNN (k := 1024) (V c main_arg5) (V c main_arg4) := by
  refine (dat2 V c).arrAt_eq_of_covers 2 _ (by decide +kernel) fun t hf y => ?_
  blk_simp
  rw [after2_2]; frame_out
  refine (congrFun (payNN _ _) y).trans (mulNN_tile (fun k => ?_) fun k => ?_)
  · blk_simp [iblk2]
    exact congrArg (V c main_arg5) (by blk_ext [idx2_0, idx2_2])
  · blk_simp [iblk2]
    exact congrArg (V c main_arg4) (by blk_ext [idx2_1, idx2_2])

/-! ### Call 4 -/

theorem idx3_0 : ∀ t : Fin grid3.N, win3_0.index t = ![t.val, 0] := by decide +kernel
theorem idx3_1 : ∀ t : Fin grid3.N, win3_1.index t = ![0, 0] := by decide +kernel
theorem idx3_2 : ∀ t : Fin grid3.N, win3_2.index t = ![t.val, 0] := by decide +kernel

/-- The gradient of the merged branches. -/
theorem arr3 : (dat3 V c).arrAt 2 cfg3.N = mulNT (k := 1024) (V c main_arg6) (V c main_arg4) := by
  refine (dat3 V c).arrAt_eq_of_covers 2 _ (by decide +kernel) fun t hf y => ?_
  blk_simp
  rw [after3_2]; frame_out
  refine (congrFun (payNT _ _) y).trans (mulNT_tile (fun k => ?_) fun k => ?_)
  · blk_simp [iblk3]
    exact congrArg (V c main_arg6) (by blk_ext [idx3_0, idx3_2])
  · blk_simp [iblk3]
    exact congrArg (V c main_arg4) (by blk_ext [idx3_1, idx3_2])

/-! ### Call 5 -/

theorem idx4_0 : ∀ t : Fin grid4.N, win4_0.index t = ![0, 0] := by decide +kernel
theorem idx4_1 : ∀ t : Fin grid4.N, win4_1.index t = ![0, 0] := by decide +kernel
theorem idx4_2 : ∀ t : Fin grid4.N, win4_2.index t = ![0, 0] := by decide +kernel

/-- The gradient of the last weight. -/
theorem arr4 : (dat4 V c).arrAt 2 cfg4.N = mulTN (k := 4096) (V c main_arg5) (V c main_arg6) := by
  refine (dat4 V c).arrAt_eq_of_covers 2 _ (by decide +kernel) fun t hf y => ?_
  blk_simp
  rw [after4_2]; frame_out
  refine (congrFun (payTN _ _) y).trans (mulTN_tile (fun k => ?_) fun k => ?_)
  · blk_simp [iblk4]
    exact congrArg (V c main_arg5) (by blk_ext [idx4_0, idx4_2])
  · blk_simp [iblk4]
    exact congrArg (V c main_arg6) (by blk_ext [idx4_1, idx4_2])

/-! ### Call 6 -/

theorem idx5_0 : ∀ t : Fin grid5.N, win5_0.index t = ![t.val, 0] := by decide +kernel
theorem idx5_1 : ∀ t : Fin grid5.N, win5_1.index t = ![0, 0] := by decide +kernel
theorem idx5_2 : ∀ t : Fin grid5.N, win5_2.index t = ![t.val, 0] := by decide +kernel

/-- The gradient of the attention's output. -/
theorem arr5 : (dat5 V c).arrAt 2 cfg5.N = mulNT (k := 1024) (V c main_arg7) (V c main_arg2) := by
  refine (dat5 V c).arrAt_eq_of_covers 2 _ (by decide +kernel) fun t hf y => ?_
  blk_simp
  rw [after5_2]; frame_out
  refine (congrFun (payNT_round _ _) y).trans (mulNT_tile (fun k => ?_) fun k => ?_)
  · blk_simp [iblk5]
    exact congrArg (V c main_arg7) (by blk_ext [idx5_0, idx5_2])
  · blk_simp [iblk5]
    exact congrArg (V c main_arg2) (by blk_ext [idx5_1, idx5_2])

/-! ### Call 7 -/

theorem idx6_0 : ∀ t : Fin grid6.N, win6_0.index t = ![0, 0] := by decide +kernel
theorem idx6_1 : ∀ t : Fin grid6.N, win6_1.index t = ![0, 0] := by decide +kernel
theorem idx6_2 : ∀ t : Fin grid6.N, win6_2.index t = ![0, 0] := by decide +kernel

/-- The gradient of the weight of the attention's branch. -/
theorem arr6 : (dat6 V c).arrAt 2 cfg6.N = mulTN (k := 4096) (V c main_arg0) (V c main_arg7) := by
  refine (dat6 V c).arrAt_eq_of_covers 2 _ (by decide +kernel) fun t hf y => ?_
  blk_simp
  rw [after6_2]; frame_out
  refine (congrFun (payTN _ _) y).trans (mulTN_tile (fun k => ?_) fun k => ?_)
  · blk_simp [iblk6]
    exact congrArg (V c main_arg0) (by blk_ext [idx6_0, idx6_2])
  · blk_simp [iblk6]
    exact congrArg (V c main_arg7) (by blk_ext [idx6_1, idx6_2])

/-! ### Call 8 -/

theorem idx7_0 : ∀ t : Fin grid7.N, win7_0.index t = ![t.val, 0] := by decide +kernel
theorem idx7_1 : ∀ t : Fin grid7.N, win7_1.index t = ![0, 0] := by decide +kernel
theorem idx7_2 : ∀ t : Fin grid7.N, win7_2.index t = ![t.val, 0] := by decide +kernel

/-- The gradient of the convolution's output. -/
theorem arr7 : (dat7 V c).arrAt 2 cfg7.N = mulNT (k := 1024) (V c main_arg8) (V c main_arg3) := by
  refine (dat7 V c).arrAt_eq_of_covers 2 _ (by decide +kernel) fun t hf y => ?_
  blk_simp
  rw [after7_2]; frame_out
  refine (congrFun (payNT _ _) y).trans (mulNT_tile (fun k => ?_) fun k => ?_)
  · blk_simp [iblk7]
    exact congrArg (V c main_arg8) (by blk_ext [idx7_0, idx7_2])
  · blk_simp [iblk7]
    exact congrArg (V c main_arg3) (by blk_ext [idx7_1, idx7_2])

/-! ### Call 9 -/

theorem idx8_0 : ∀ t : Fin grid8.N, win8_0.index t = ![0, 0] := by decide +kernel
theorem idx8_1 : ∀ t : Fin grid8.N, win8_1.index t = ![0, 0] := by decide +kernel
theorem idx8_2 : ∀ t : Fin grid8.N, win8_2.index t = ![0, 0] := by decide +kernel

/-- The gradient of the weight of the convolution's branch. -/
theorem arr8 : (dat8 V c).arrAt 2 cfg8.N = mulTN (k := 4096) (V c main_arg1) (V c main_arg8) := by
  refine (dat8 V c).arrAt_eq_of_covers 2 _ (by decide +kernel) fun t hf y => ?_
  blk_simp
  rw [after8_2]; frame_out
  refine (congrFun (payTN _ _) y).trans (mulTN_tile (fun k => ?_) fun k => ?_)
  · blk_simp [iblk8]
    exact congrArg (V c main_arg1) (by blk_ext [idx8_0, idx8_2])
  · blk_simp [iblk8]
    exact congrArg (V c main_arg8) (by blk_ext [idx8_1, idx8_2])

end Cert.MixerIdeal.Run

end
-- ==== Proof.MixerRun.lean ====
/-
  The run of the token mixer's products: its nine calls one after another, and what the nine results hold at the end.
-/
module

public import proofs.«01_k».proof.Proof.MixerCalls

@[expose] public section

set_option maxRecDepth 16384

noncomputable section

namespace Cert.MixerIdeal.Run

open Cert.MixerIdeal Cert.MixerIdeal.Gen Cert.Product
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters the nine calls run, every semaphore ends at zero, and every array of the main memory
    ends with the contents `W9`, which the calls' results make up one after another. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

end

/-! ### The results, from the arguments -/

variable (m : (ℓ : Loc nD τ sig) → Buf (Elt Ideal) ℓ) (ρ : Dev nD → PrngReg) (c : Dev nD)

/-- The arguments: the attention's and the convolution's outputs, the three weights, the merged branches, and the gradients of
    the output and of the two branches. -/
abbrev x0 : Mat 4096 1024 := m ((c : Thread nD τ).loc main_arg0)
abbrev x1 : Mat 4096 1024 := m ((c : Thread nD τ).loc main_arg1)
abbrev x2 : Mat 1024 1024 := m ((c : Thread nD τ).loc main_arg2)
abbrev x3 : Mat 1024 1024 := m ((c : Thread nD τ).loc main_arg3)
abbrev x4 : Mat 1024 1024 := m ((c : Thread nD τ).loc main_arg4)
abbrev x5 : Mat 4096 1024 := m ((c : Thread nD τ).loc main_arg5)
abbrev x6 : Mat 4096 1024 := m ((c : Thread nD τ).loc main_arg6)
abbrev x7 : Mat 4096 1024 := m ((c : Thread nD τ).loc main_arg7)
abbrev x8 : Mat 4096 1024 := m ((c : Thread nD τ).loc main_arg8)

/-- The attention's branch at the end, -/
theorem W9_v0 : W9 m ρ c main_v0 = mulNN (k := 1024) (x0 m c) (x2 m c) := by
  refine (W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((arr0 (V0 m ρ) c).trans ?_)))))))))
  rfl

/-- the convolution's branch, -/
theorem W9_v1 : W9 m ρ c main_v1 = mulNN (k := 1024) (x1 m c) (x3 m c) := by
  refine (W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans ((W2_arr m ρ c 2).trans ((arr1 (V1 m ρ) c).trans ?_))))))))
  rw [show V1 m ρ c main_arg1 = x1 m c from W1_args m ρ c main_arg1 (by decide),
    show V1 m ρ c main_arg3 = x3 m c from W1_args m ρ c main_arg3 (by decide)]

/-- the output, -/
theorem W9_v2 : W9 m ρ c main_v2 = mulNN (k := 1024) (x5 m c) (x4 m c) := by
  refine (W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_arr m ρ c 2).trans ((arr2 (V2 m ρ) c).trans ?_)))))))
  rw [show V2 m ρ c main_arg5 = x5 m c from W2_args m ρ c main_arg5 (by decide),
    show V2 m ρ c main_arg4 = x4 m c from W2_args m ρ c main_arg4 (by decide)]

/-- the gradient of the merged branches, -/
theorem W9_v3 : W9 m ρ c main_v3 = mulNT (k := 1024) (x6 m c) (x4 m c) := by
  refine (W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans ((W4_arr m ρ c 2).trans ((arr3 (V3 m ρ) c).trans ?_))))))
  rw [show V3 m ρ c main_arg6 = x6 m c from W3_args m ρ c main_arg6 (by decide),
    show V3 m ρ c main_arg4 = x4 m c from W3_args m ρ c main_arg4 (by decide)]

/-- the gradient of the last weight, -/
theorem W9_v4 : W9 m ρ c main_v4 = mulTN (k := 4096) (x5 m c) (x6 m c) := by
  refine (W9_of m ρ c main_v4 (by decide +kernel)).trans ((W8_of m ρ c main_v4 (by decide +kernel)).trans ((W7_of m ρ c main_v4 (by decide +kernel)).trans ((W6_of m ρ c main_v4 (by decide +kernel)).trans ((W5_arr m ρ c 2).trans ((arr4 (V4 m ρ) c).trans ?_)))))
  rw [show V4 m ρ c main_arg5 = x5 m c from W4_args m ρ c main_arg5 (by decide),
    show V4 m ρ c main_arg6 = x6 m c from W4_args m ρ c main_arg6 (by decide)]

/-- the gradients of the attention's output -/
theorem W9_v5 : W9 m ρ c main_v5 = mulNT (k := 1024) (x7 m c) (x2 m c) := by
  refine (W9_of m ρ c main_v5 (by decide +kernel)).trans ((W8_of m ρ c main_v5 (by decide +kernel)).trans ((W7_of m ρ c main_v5 (by decide +kernel)).trans ((W6_arr m ρ c 2).trans ((arr5 (V5 m ρ) c).trans ?_))))
  rw [show V5 m ρ c main_arg7 = x7 m c from W5_args m ρ c main_arg7 (by decide),
    show V5 m ρ c main_arg2 = x2 m c from W5_args m ρ c main_arg2 (by decide)]

/-- and of its weight, -/
theorem W9_v6 : W9 m ρ c main_v6 = mulTN (k := 4096) (x0 m c) (x7 m c) := by
  refine (W9_of m ρ c main_v6 (by decide +kernel)).trans ((W8_of m ρ c main_v6 (by decide +kernel)).trans ((W7_arr m ρ c 2).trans ((arr6 (V6 m ρ) c).trans ?_)))
  rw [show V6 m ρ c main_arg0 = x0 m c from W6_args m ρ c main_arg0 (by decide),
    show V6 m ρ c main_arg7 = x7 m c from W6_args m ρ c main_arg7 (by decide)]

/-- and those of the convolution's output -/
theorem W9_v7 : W9 m ρ c main_v7 = mulNT (k := 1024) (x8 m c) (x3 m c) := by
  refine (W9_of m ρ c main_v7 (by decide +kernel)).trans ((W8_arr m ρ c 2).trans ((arr7 (V7 m ρ) c).trans ?_))
  rw [show V7 m ρ c main_arg8 = x8 m c from W7_args m ρ c main_arg8 (by decide),
    show V7 m ρ c main_arg3 = x3 m c from W7_args m ρ c main_arg3 (by decide)]

/-- and of its weight. -/
theorem W9_v8 : W9 m ρ c main_v8 = mulTN (k := 4096) (x1 m c) (x8 m c) := by
  refine (W9_arr m ρ c 2).trans ((arr8 (V8 m ρ) c).trans ?_)
  rw [show V8 m ρ c main_arg1 = x1 m c from W8_args m ρ c main_arg1 (by decide),
    show V8 m ρ c main_arg8 = x8 m c from W8_args m ρ c main_arg8 (by decide)]

end Cert.MixerIdeal.Run

end
-- ==== Proof.MixerClaims.lean ====
/-
  The claims of the token mixer's products: both programs run and leave their arguments, and the kernel's nine results are the
  reference's.
-/
module

public import proofs.«01_k».proof.Proof.MixerRun
public import proofs.«01_k».proof.Proof.Gen.Mixer
public import proofs.«01_k».proof.Proof.Gen.MixerReferenceIdeal.Run
public import proofs.«01_k».proof.Proof.Gen.MixerReferenceIdeal.Read
public import proofs.«01_k».proof.Defs
public import Idealize.ShloMosaic.Lib.Claim
public import Idealize.ShloMosaic.Lib.StableHlo.RunHlo

@[expose] public section

set_option maxRecDepth 16384

noncomputable section

namespace Cert.MixerReferenceIdeal.Read

open Cert.MixerReferenceIdeal Cert.MixerReferenceIdeal.Gen Cert.Product
open Idealize.ShloMosaic Idealize.ShloMosaic.TcCoe

/-! The reference's results, read as products of matrices. -/

variable (x0 x1 : Mat 4096 1024) (x2 x3 x4 : Mat 1024 1024) (x5 x6 x7 x8 : Mat 4096 1024)

theorem ref_v6 : (val_main_v6 (F := Ideal) x0 x2 : Mat 4096 1024) = mulNN (k := 1024) x0 x2 := by
  funext i
  pointwise [val_main_v0, val_main_v3, val_main_v6]
  rfl

theorem ref_v7 : (val_main_v7 (F := Ideal) x1 x3 : Mat 4096 1024) = mulNN (k := 1024) x1 x3 := by
  funext i
  pointwise [val_main_v1, val_main_v4, val_main_v7]
  rfl

theorem ref_v8 : (val_main_v8 (F := Ideal) x4 x5 : Mat 4096 1024) = mulNN (k := 1024) x5 x4 := by
  funext i
  pointwise [val_main_v2, val_main_v5, val_main_v8]
  rfl

theorem ref_v21 : (val_main_v21 (F := Ideal) x2 x7 : Mat 4096 1024) = mulNT (k := 1024) x7 x2 := by
  funext i
  pointwise [val_main_v20, val_main_v21, val_main_v3, val_main_v9]
  rfl

theorem ref_v17 : (val_main_v17 (F := Ideal) x3 x8 : Mat 4096 1024) = mulNT (k := 1024) x8 x3 := by
  funext i
  pointwise [val_main_v10, val_main_v17, val_main_v4]
  rfl

theorem ref_v14 : (val_main_v14 (F := Ideal) x4 x6 : Mat 4096 1024) = mulNT (k := 1024) x6 x4 := by
  funext i
  pointwise [val_main_v11, val_main_v14, val_main_v5]
  rfl

theorem ref_v22 : (val_main_v22 (F := Ideal) x0 x7 : Mat 1024 1024) = mulTN (k := 4096) x0 x7 := by
  funext i
  pointwise [val_main_v0, val_main_v18, val_main_v19, val_main_v22, val_main_v9]
  exact Finset.sum_congr rfl fun k _ => mul_comm _ _

theorem ref_v23 : (val_main_v23 (F := Ideal) x1 x8 : Mat 1024 1024) = mulTN (k := 4096) x1 x8 := by
  funext i
  pointwise [val_main_v1, val_main_v10, val_main_v15, val_main_v16, val_main_v23]
  exact Finset.sum_congr rfl fun k _ => mul_comm _ _

theorem ref_v24 : (val_main_v24 (F := Ideal) x5 x6 : Mat 1024 1024) = mulTN (k := 4096) x5 x6 := by
  funext i
  pointwise [val_main_v11, val_main_v12, val_main_v13, val_main_v2, val_main_v24]
  exact Finset.sum_congr rfl fun k _ => mul_comm _ _

end Cert.MixerReferenceIdeal.Read

namespace Cert.Proof

open Idealize.ShloMosaic Idealize.ShloMosaic.TcCoe Idealize.SL.Sem Cert.Product

/-- The program and its idealized one have the same text, so that the claim of the first is that of the second over machine
    floats. -/
theorem same_mixer : Cert.quiescent_Mixer = (∀ (m : (ℓ : Loc Cert.MixerIdeal.nD Cert.MixerIdeal.τ Cert.MixerIdeal.sig) → Buf (Elt Bits) ℓ)
    (g : Dev Cert.MixerIdeal.nD → PrngReg), True → type_of% (Cert.MixerIdeal.Gen.frame (F := Bits) m g)) := by chain_rfl

/-- The nine calls run, leave their arguments as they were and every semaphore at zero, -/
theorem frame_mixer : Cert.quiescent_Mixer := same_mixer ▸ fun m g _ => Cert.MixerIdeal.Gen.frame (F := Bits) m g

/-- the idealized ones too. -/
theorem frame_mixer_ideal : Cert.quiescent_MixerIdeal := fun m g _ => Cert.MixerIdeal.Gen.frame m g

/-- The reference runs and leaves its arguments as they were; it has no semaphore. -/
theorem frame_mixer_ref : Cert.quiescent_MixerReferenceIdeal := fun m g _ =>
  (θ_run Cert.MixerReferenceIdeal.defs _ _).mono
    (fun r h => ⟨fun c => (h c).2.2.2.2.2.2.2.2.2, sem_eq_zero_of_no_sems (by decide) r.2⟩)
    (Cert.MixerReferenceIdeal.Value.run (F := Ideal) m g)

section
open Cert.MixerIdeal Cert.MixerIdeal.Run

/-- The nine results of the kernel are the reference's, on all arguments. -/
theorem values_mixer : Cert.algebraic_MixerIdeal_MixerReferenceIdeal := fun m g m' g' _ hag => by
  refine ⟨fun c => mulNN (k := 1024) (x0 m c) (x2 m c),
    fun c => mulNN (k := 1024) (x1 m c) (x3 m c),
    fun c => mulNN (k := 1024) (x5 m c) (x4 m c),
    fun c => mulNT (k := 1024) (x7 m c) (x2 m c),
    fun c => mulNT (k := 1024) (x8 m c) (x3 m c),
    fun c => mulNT (k := 1024) (x6 m c) (x4 m c),
    fun c => mulTN (k := 4096) (x0 m c) (x7 m c),
    fun c => mulTN (k := 4096) (x1 m c) (x8 m c),
    fun c => mulTN (k := 4096) (x5 m c) (x6 m c), ?_, ?_⟩
  · refine θ_run_mono (θ_run_and (run_main m g) (Cert.MixerIdeal.Gen.frame m g)) fun r hr c => ?_
    have h := fun b hb => hr.1.1 c _ (Cert.MixerIdeal.Gen.mem_uc b hb)
    exact ⟨(h main_v0 (by decide)).trans (W9_v0 m g c),
      (h main_v1 (by decide)).trans (W9_v1 m g c),
      (h main_v2 (by decide)).trans (W9_v2 m g c),
      (h main_v5 (by decide)).trans (W9_v5 m g c),
      (h main_v7 (by decide)).trans (W9_v7 m g c),
      (h main_v3 (by decide)).trans (W9_v3 m g c),
      (h main_v6 (by decide)).trans (W9_v6 m g c),
      (h main_v8 (by decide)).trans (W9_v8 m g c),
      (h main_v4 (by decide)).trans (W9_v4 m g c), hr.2.1 c⟩
  · refine θ_run_mono (Cert.MixerReferenceIdeal.Value.run (F := Ideal) m' g') fun r hr c => ?_
    obtain ⟨e0, e1, e2, e3, e4, e5, e6, e7, e8⟩ := hag c
    obtain ⟨h0, h1, h2, h3, h4, h5, h6, h7, h8, h9⟩ := hr c
    refine ⟨h0.trans ((Cert.MixerReferenceIdeal.Read.val_main_v6_eq _ _).trans ?_),
      h1.trans ((Cert.MixerReferenceIdeal.Read.val_main_v7_eq _ _).trans ?_),
      h2.trans ((Cert.MixerReferenceIdeal.Read.val_main_v8_eq _ _).trans ?_),
      h3.trans ((Cert.MixerReferenceIdeal.Read.val_main_v21_eq _ _).trans ?_),
      h4.trans ((Cert.MixerReferenceIdeal.Read.val_main_v17_eq _ _).trans ?_),
      h5.trans ((Cert.MixerReferenceIdeal.Read.val_main_v14_eq _ _).trans ?_),
      h6.trans ((Cert.MixerReferenceIdeal.Read.val_main_v22_eq _ _).trans ?_),
      h7.trans ((Cert.MixerReferenceIdeal.Read.val_main_v23_eq _ _).trans ?_),
      h8.trans ((Cert.MixerReferenceIdeal.Read.val_main_v24_eq _ _).trans ?_), h9⟩
    · rw [e0, e2]; exact Cert.MixerReferenceIdeal.Read.ref_v6 _ _
    · rw [e1, e3]; exact Cert.MixerReferenceIdeal.Read.ref_v7 _ _
    · rw [e4, e5]; exact Cert.MixerReferenceIdeal.Read.ref_v8 _ _
    · rw [e2, e7]; exact Cert.MixerReferenceIdeal.Read.ref_v21 _ _
    · rw [e3, e8]; exact Cert.MixerReferenceIdeal.Read.ref_v17 _ _
    · rw [e4, e6]; exact Cert.MixerReferenceIdeal.Read.ref_v14 _ _
    · rw [e0, e7]; exact Cert.MixerReferenceIdeal.Read.ref_v22 _ _
    · rw [e1, e8]; exact Cert.MixerReferenceIdeal.Read.ref_v23 _ _
    · rw [e5, e6]; exact Cert.MixerReferenceIdeal.Read.ref_v24 _ _
end

end Cert.Proof

end
-- ==== Proof.Columns.lean ====
/-
  The columns of the input projection's weight: as four shards hold them one after another, and as the kernel orders and pads
  them.
-/
module

public import proofs.«01_k».proof.Proof.Product

@[expose] public section

noncomputable section

namespace Cert.Columns

open Idealize.ShloMosaic Cert.Product

/-- Four matrices of 1024 rows and 1796 columns: the shards of the weight. -/
abbrev Shards := (⟨3, ![4, 1024, 1796]⟩ : Shape).Idx → EReal

/-- Row `r` and column `n` of the weight, whose 7184 columns are the shards' one after another; 0 at later columns. -/
def weight (g : Shards) (r : Fin 1024) (n : Nat) : EReal :=
  if h : n < 7184 then g (ix3 ⟨n / 1796, by omega⟩ r ⟨n % 1796, Nat.mod_lt _ (by decide)⟩) else 0

theorem weight_of (g : Shards) (i : (⟨3, ![4, 1024, 1796]⟩ : Shape).Idx) (r : Fin 1024) (n : Nat)
    (hr : (i 1).val = r.val) (hn : (i 0).val * 1796 + (i 2).val = n) : g i = weight g r n := by
  have h0 : (i 0).val < 4 := (i 0).isLt
  have h2 : (i 2).val < 1796 := (i 2).isLt
  have h : n < 7184 := by omega
  rw [weight, dif_pos h]
  refine congrArg g (funext fun a => ?_)
  match a with
  | ⟨0, _⟩ => exact Fin.ext (show (i 0).val = n / 1796 by omega)
  | ⟨1, _⟩ => exact Fin.ext hr
  | ⟨2, _⟩ => exact Fin.ext (show (i 2).val = n % 1796 by omega)

theorem weight_ix (g : Shards) (s : Fin 4) (r : Fin 1024) (q : Fin 1796) (n : Nat) (hn : s.val * 1796 + q.val = n) :
    g (ix3 s r q) = weight g r n := weight_of g _ r n rfl hn

theorem weight_zero (g : Shards) (r : Fin 1024) (n : Nat) (h : 7184 ≤ n) : weight g r n = 0 := dif_neg (not_lt.mpr h)

/-- The weight's column which is the kernel's column `j`; the kernel's last 496 columns are no column of the weight. -/
def colOf (j : Nat) : Nat := if j < 2048 then j else if j < 6144 then j + 1040 else if j < 7184 then j - 4096 else j

/-- The weight as the kernel orders its columns, 496 columns of zeros after them. -/
def padded (g : Shards) : Mat 1024 7680 := fun j => weight g (j 0) (colOf (j 1).val)

/-- The kernel's column which is the weight's column `n`. -/
def colAt (n : Nat) : Nat := if n < 2048 then n else if n < 3088 then n + 4096 else n - 1040

theorem colAt_lt (n : Nat) (h : n < 7184) : colAt n < 7680 := by unfold colAt; split_ifs <;> omega

/-- Where column `i 2` of shard `i 0` stands among the kernel's columns, in row `i 1`. -/
def place (i : (⟨3, ![4, 1024, 1796]⟩ : Shape).Idx) : (⟨2, ![1024, 7680]⟩ : Shape).Idx :=
  ix2 (i 1) ⟨colAt ((i 0).val * 1796 + (i 2).val),
    colAt_lt _ (by have h0 : (i 0).val < 4 := (i 0).isLt; have h2 : (i 2).val < 1796 := (i 2).isLt; omega)⟩

/-- The shards of a matrix whose columns are in the kernel's order. -/
def shards (A : Mat 1024 7680) : Shards := fun i => A (place i)

/-- An entry of the matrix is the shards' entry whose place it is. -/
theorem shards_of (A : Mat 1024 7680) (j : (⟨2, ![1024, 7680]⟩ : Shape).Idx) (i : (⟨3, ![4, 1024, 1796]⟩ : Shape).Idx)
    (h0 : (j 0).val = (i 1).val) (h1 : (j 1).val = colAt ((i 0).val * 1796 + (i 2).val)) : A j = shards A i := by
  refine congrArg A (funext fun a => ?_)
  match a with
  | ⟨0, _⟩ => exact Fin.ext h0
  | ⟨1, _⟩ => exact Fin.ext h1

theorem shards_ix (A : Mat 1024 7680) (r : Fin 1024) (q : Fin 7680) (i : (⟨3, ![4, 1024, 1796]⟩ : Shape).Idx) (h0 : r = i 1)
    (h1 : q.val = colAt ((i 0).val * 1796 + (i 2).val)) : A (ix2 r q) = shards A i := shards_of A _ i (congrArg Fin.val h0) h1

end Cert.Columns

end
-- ==== Proof.InProjCalls.lean ====
/-
  What the two products of the input projection leave in their result arrays, and what the program does before and after
  them: it orders the weight's columns, and puts the gradient's columns back.
-/
module

public import proofs.«01_k».proof.Proof.Gen.InProjIdeal.Frame
public import Idealize.ShloMosaic.Lib.Pipeline.Value
public import Idealize.ShloMosaic.Lib.Pipeline.ValueKit
public import Idealize.ShloMosaic.Lib.StableHlo.RunHlo
public import proofs.«01_k».proof.Proof.Columns

@[expose] public section

set_option maxRecDepth 16384

noncomputable section

namespace Cert.InProjIdeal.Run

open Cert.InProjIdeal Cert.InProjIdeal.Gen Cert.Product Cert.Columns
open Idealize.ShloMosaic Idealize.ShloMosaic.TcCoe
open Idealize.SL Idealize.SL.Sem
open Idealize.ShloMosaic.Pipeline (Dat Cfg Window)

section
variable (V : (c : Dev nD) → (b : Ref sig .tc) → Buf (Elt Ideal) ((c : Thread nD τ).loc b)) (c : Dev nD)

theorem idx0_0 : ∀ t : Fin grid0.N, win0_0.index t = ![t.val / 5, 0] := by decide +kernel
theorem idx0_1 : ∀ t : Fin grid0.N, win0_1.index t = ![0, t.val % 5] := by decide +kernel
theorem idx0_2 : ∀ t : Fin grid0.N, win0_2.index t = ![t.val / 5, t.val % 5] := by decide +kernel
theorem idx1_0 : ∀ t : Fin grid1.N, win1_0.index t = ![0, 0] := by decide +kernel
theorem idx1_1 : ∀ t : Fin grid1.N, win1_1.index t = ![0, t.val] := by decide +kernel
theorem idx1_2 : ∀ t : Fin grid1.N, win1_2.index t = ![0, t.val] := by decide +kernel

theorem pay0 (x : Vec Ideal S1024x1024 .bf16) (y : Vec Ideal S1024x1536 .bf16) : k0_pay1 x y = mulNN (k := 1024) x y := by
  funext i
  pointwise [k0_pay1]
  rfl

theorem pay1 (x : Vec Ideal S4096x1024 .bf16) (y : Vec Ideal S4096x768 .bf16) : k1_pay1 x y = mulTN (k := 4096) x y := by
  funext i
  pointwise [k1_pay1]
  rfl

/-- The projection. -/
theorem arr0 : (dat0 V c).arrAt 2 cfg0.N = mulNN (k := 1024) (V c main_arg1) (V c main_v16) := by
  refine (dat0 V c).arrAt_eq_of_covers 2 _ (by decide +kernel) fun t hf y => ?_
  blk_simp
  rw [after0_2]; frame_out
  rw [pay0]
  refine mulNN_tile (fun k => ?_) fun k => ?_
  · blk_simp [iblk0]
    exact congrArg (V c main_arg1) (by blk_ext [idx0_0, idx0_2])
  · blk_simp [iblk0]
    exact congrArg (V c main_v16) (by blk_ext [idx0_1, idx0_2])

/-- The gradient of the weight, in the kernel's order of columns. -/
theorem arr1 : (dat1 V c).arrAt 2 cfg1.N = mulTN (k := 4096) (V c main_arg1) (V c main_arg2) := by
  refine (dat1 V c).arrAt_eq_of_covers 2 _ (by decide +kernel) fun t hf y => ?_
  blk_simp
  rw [after1_2]; frame_out
  rw [pay1]
  refine mulTN_tile (fun k => ?_) fun k => ?_
  · blk_simp [iblk1]
    exact congrArg (V c main_arg1) (by blk_ext [idx1_0, idx1_2])
  · blk_simp [iblk1]
    exact congrArg (V c main_arg2) (by blk_ext [idx1_1, idx1_2])

end

/-! The operations before the first call, which order the weight's columns, and those after the second, which put the
gradient's columns back. -/

/-- The shards' pieces, one after another. -/
def ordered (g : (⟨S4x1024x1796, .bf16⟩ : BufTy).Contents (Elt Ideal)) : (⟨S1024x7680, .bf16⟩ : BufTy).Contents (Elt Ideal) :=
  concatenate S1024x7680 1 [⟨S1024x1796, (shapeCast S1024x1796 (extractStridedSlice S1x1024x1796 ![0, 0, 0] g slices_S4x1024x1796_S1x1024x1796_0_0_0) shapeCasts_S1x1024x1796_S1024x1796 : (⟨S1024x1796, .bf16⟩ : BufTy).Contents (Elt Ideal))⟩,
    ⟨S1024x252, (extractStridedSlice S1024x252 ![0, 0] (shapeCast S1024x1796 (extractStridedSlice S1x1024x1796 ![1, 0, 0] g slices_S4x1024x1796_S1x1024x1796_1_0_0) shapeCasts_S1x1024x1796_S1024x1796) slices_S1024x1796_S1024x252_0_0 : (⟨S1024x252, .bf16⟩ : BufTy).Contents (Elt Ideal))⟩,
    ⟨S1024x504, (extractStridedSlice S1024x504 ![0, 1292] (shapeCast S1024x1796 (extractStridedSlice S1x1024x1796 ![1, 0, 0] g slices_S4x1024x1796_S1x1024x1796_1_0_0) shapeCasts_S1x1024x1796_S1024x1796) slices_S1024x1796_S1024x504_0_1292 : (⟨S1024x504, .bf16⟩ : BufTy).Contents (Elt Ideal))⟩,
    ⟨S1024x1796, (shapeCast S1024x1796 (extractStridedSlice S1x1024x1796 ![2, 0, 0] g slices_S4x1024x1796_S1x1024x1796_2_0_0) shapeCasts_S1x1024x1796_S1024x1796 : (⟨S1024x1796, .bf16⟩ : BufTy).Contents (Elt Ideal))⟩,
    ⟨S1024x1796, (shapeCast S1024x1796 (extractStridedSlice S1x1024x1796 ![3, 0, 0] g slices_S4x1024x1796_S1x1024x1796_3_0_0) shapeCasts_S1x1024x1796_S1024x1796 : (⟨S1024x1796, .bf16⟩ : BufTy).Contents (Elt Ideal))⟩,
    ⟨S1024x1040, (extractStridedSlice S1024x1040 ![0, 252] (shapeCast S1024x1796 (extractStridedSlice S1x1024x1796 ![1, 0, 0] g slices_S4x1024x1796_S1x1024x1796_1_0_0) shapeCasts_S1x1024x1796_S1024x1796) slices_S1024x1796_S1024x1040_0_252 : (⟨S1024x1040, .bf16⟩ : BufTy).Contents (Elt Ideal))⟩,
    ⟨S1024x496, (broadcastInDim S1024x496 ![] bcast_S_S1024x496 (constant (F := Ideal) S_ .bf16 0x0000#16) : (⟨S1024x496, .bf16⟩ : BufTy).Contents (Elt Ideal))⟩]
    concatenates_S1024x1796_S1024x252_S1024x504_S1024x1796_S1024x1796_S1024x1040_S1024x496_S1024x7680_d1

/-- The gradient's pieces, by shards. -/
def unordered (A : (⟨S1024x7680, .bf16⟩ : BufTy).Contents (Elt Ideal)) : (⟨S4x1024x1796, .bf16⟩ : BufTy).Contents (Elt Ideal) :=
  concatenate S4x1024x1796 0 [⟨S1x1024x1796, (broadcastInDim S1x1024x1796 ![1, 2] bcast_S1024x1796_S1x1024x1796_1_2 (extractStridedSlice S1024x1796 ![0, 0] A slices_S1024x7680_S1024x1796_0_0) : (⟨S1x1024x1796, .bf16⟩ : BufTy).Contents (Elt Ideal))⟩,
    ⟨S1x1024x1796, (broadcastInDim S1x1024x1796 ![1, 2] bcast_S1024x1796_S1x1024x1796_1_2 (concatenate S1024x1796 1 [⟨S1024x252, (extractStridedSlice S1024x252 ![0, 1796] A slices_S1024x7680_S1024x252_0_1796 : (⟨S1024x252, .bf16⟩ : BufTy).Contents (Elt Ideal))⟩, ⟨S1024x1040, (extractStridedSlice S1024x1040 ![0, 6144] A slices_S1024x7680_S1024x1040_0_6144 : (⟨S1024x1040, .bf16⟩ : BufTy).Contents (Elt Ideal))⟩, ⟨S1024x504, (extractStridedSlice S1024x504 ![0, 2048] A slices_S1024x7680_S1024x504_0_2048 : (⟨S1024x504, .bf16⟩ : BufTy).Contents (Elt Ideal))⟩] concatenates_S1024x252_S1024x1040_S1024x504_S1024x1796_d1) : (⟨S1x1024x1796, .bf16⟩ : BufTy).Contents (Elt Ideal))⟩,
    ⟨S1x1024x1796, (broadcastInDim S1x1024x1796 ![1, 2] bcast_S1024x1796_S1x1024x1796_1_2 (extractStridedSlice S1024x1796 ![0, 2552] A slices_S1024x7680_S1024x1796_0_2552) : (⟨S1x1024x1796, .bf16⟩ : BufTy).Contents (Elt Ideal))⟩,
    ⟨S1x1024x1796, (broadcastInDim S1x1024x1796 ![1, 2] bcast_S1024x1796_S1x1024x1796_1_2 (extractStridedSlice S1024x1796 ![0, 4348] A slices_S1024x7680_S1024x1796_0_4348) : (⟨S1x1024x1796, .bf16⟩ : BufTy).Contents (Elt Ideal))⟩]
    concatenates_S1x1024x1796_S1x1024x1796_S1x1024x1796_S1x1024x1796_S4x1024x1796_d0

theorem after_ordered (W : Valuation τ sig (Elt Ideal)) :
    StableHlo.after hostOps0 W (Proc.devRef .tc main_v16) = ordered (W (Proc.devRef .tc main_arg0)) := by
  unfold ordered
  after_results <;> rfl

theorem after_unordered (W : Valuation τ sig (Elt Ideal)) :
    StableHlo.after hostOps2 W (Proc.devRef .tc main_v30) = unordered (W (Proc.devRef .tc main_v18)) := by
  unfold unordered
  after_results <;> rfl

theorem ordered_eq (g : (⟨S4x1024x1796, .bf16⟩ : BufTy).Contents (Elt Ideal)) : ordered g = padded g := by
  funext j
  have hj : (j 1).val < 7680 := (j 1).isLt
  pointwise [ordered]
  show _ = weight _ (j 0) (colOf (j 1).val)
  split_ifs
  all_goals first
    | exact absurd rfl ‹_›
    | (refine weight_ix g _ _ _ _ ?_
       simp only [colOf, Fin.val_zero, Fin.val_one, Fin.val_two, show (3 : Fin 4).val = 3 from rfl]
       split_ifs <;> omega)
    | (refine (weight_zero _ _ _ ?_).symm
       simp only [colOf]
       split_ifs <;> omega)

theorem unordered_eq (A : (⟨S1024x7680, .bf16⟩ : BufTy).Contents (Elt Ideal)) : unordered A = shards A := by
  funext j
  pointwise [unordered]
  have h0 : (j 0).val < 4 := (j 0).isLt
  have h2 : (j 2).val < 1796 := (j 2).isLt
  split_ifs
  all_goals first
    | exact absurd rfl ‹_›
    | (refine shards_ix A _ _ j rfl ?_
       simp only [colAt]
       split_ifs <;> omega)

end Cert.InProjIdeal.Run

end
-- ==== Proof.InProjRun.lean ====
/-
  The run of the input projection: the operations around its two calls and the calls, and what the two results hold at the end.
-/
module

public import proofs.«01_k».proof.Proof.InProjCalls

@[expose] public section

set_option maxRecDepth 16384

noncomputable section

namespace Cert.InProjIdeal.Run

open Cert.InProjIdeal Cert.InProjIdeal.Gen Cert.Product Cert.Columns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters the two calls and the operations around them run, every semaphore ends at zero, and every array of the main memory
    ends with the contents `W4`, which the results make up one after another. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end

/-! ### The results, from the arguments -/

variable (m : (ℓ : Loc nD τ sig) → Buf (Elt Ideal) ℓ) (ρ : Dev nD → PrngReg) (c : Dev nD)

/-- The arguments: the weight's shards, the layer's input, and the gradient of the projection in the kernel's order. -/
abbrev xw : Shards := m ((c : Thread nD τ).loc main_arg0)
abbrev xh : Mat 4096 1024 := m ((c : Thread nD τ).loc main_arg1)
abbrev xd : Mat 4096 7680 := m ((c : Thread nD τ).loc main_arg2)

theorem W1_v16 : V1 m ρ c main_v16 = padded (xw m c) := (after_ordered (W0 m ρ c)).trans (ordered_eq _)

/-- The projection ends in its array, -/
theorem W4_v17 : W4 m ρ c main_v17 = mulNN (k := 1024) (xh m c) (padded (xw m c)) := by
  refine (W4_of m ρ c main_v17 (by decide +kernel)).trans ((W3_of m ρ c main_v17 (by decide +kernel)).trans
    ((W2_arr m ρ c 2).trans ((arr0 (V1 m ρ) c).trans ?_)))
  rw [W1_v16, show V1 m ρ c main_arg1 = xh m c from W1_args m ρ c main_arg1 (by decide)]

/-- and so does the gradient of the weight, by shards. -/
theorem W4_v30 : W4 m ρ c main_v30 = shards (mulTN (k := 4096) (xh m c) (xd m c)) := by
  refine (after_unordered (W3 m ρ c)).trans ((unordered_eq _).trans (congrArg shards ?_))
  refine (W3_arr m ρ c 2).trans ((arr1 (V2 m ρ) c).trans ?_)
  rw [show V2 m ρ c main_arg1 = xh m c from W2_args m ρ c main_arg1 (by decide),
    show V2 m ρ c main_arg2 = xd m c from W2_args m ρ c main_arg2 (by decide)]

end Cert.InProjIdeal.Run

end
-- ==== Proof.InProjClaims.lean ====
/-
  The claims of the input projection: both programs run and leave their arguments, and the kernel's projection and gradient
  of the weight are the reference's.
-/
module

public import proofs.«01_k».proof.Proof.InProjRun
public import proofs.«01_k».proof.Proof.Gen.InProj
public import proofs.«01_k».proof.Proof.Gen.InProjReferenceIdeal.Run
public import proofs.«01_k».proof.Proof.Gen.InProjReferenceIdeal.Read
public import proofs.«01_k».proof.Defs
public import Idealize.ShloMosaic.Lib.Claim
public import Idealize.ShloMosaic.Lib.StableHlo.RunHlo

@[expose] public section

set_option maxRecDepth 16384

noncomputable section

namespace Cert.InProjReferenceIdeal.Read

open Cert.InProjReferenceIdeal Cert.InProjReferenceIdeal.Gen Cert.Product Cert.Columns
open Idealize.ShloMosaic Idealize.ShloMosaic.TcCoe

variable (x0 : Shards) (x1 : Mat 4096 1024) (x2 : Mat 4096 7680)

/-- The whole weight. -/
theorem ref_weight (r : Fin 1024) (n : Fin 7184) : (val_main_v1 (F := Ideal) x0 : Mat 1024 7184) (ix2 r n) = weight x0 r n.val := by
  rw [val_main_v1_apply, val_main_v0_apply]
  have hr := r.isLt
  have hn := n.isLt
  refine weight_of x0 _ r n.val ?_ ?_
  · show (r.val * 7184 + n.val) / 7184 = r.val
    omega
  · show (r.val * 7184 + n.val) / 1796 % 4 * 1796 + (r.val * 7184 + n.val) % 1796 = n.val
    omega

/-- The projection at the weight's own column `n`, which is the kernel's column where that holds it. -/
theorem ref_col (r : Fin 4096) (n : Fin 7184) (j : (⟨2, ![4096, 7680]⟩ : Shape).Idx) (hr : r = j 0) (hn : n.val = colOf (j 1).val) :
    (val_main_v4 (F := Ideal) x0 x1 : Mat 4096 7184) (ix2 r n) = mulNN (k := 1024) x1 (padded x0) j := by
  subst hr
  pointwise [val_main_v4, val_main_v2, val_main_v3]
  refine Finset.sum_congr rfl fun k _ => congrArg (x1 (ix2 (j 0) k) * ·) ?_
  refine (ref_weight x0 k n).trans ?_
  rw [hn]
  rfl

/-- The projection in the kernel's order of columns. -/
theorem ref_proj : (val_main_v17 (F := Ideal) x0 x1 : Mat 4096 7680) = mulNN (k := 1024) x1 (padded x0) := by
  funext j
  have hj : (j 1).val < 7680 := (j 1).isLt
  pointwise [val_main_v17, val_main_v13, val_main_v14, val_main_v15, val_main_v16, val_main_cst]
  split_ifs
  all_goals first
    | exact absurd rfl ‹_›
    | (refine ref_col x0 x1 _ _ j rfl ?_
       simp only [colOf]
       split_ifs <;> omega)
    | (refine (Finset.sum_eq_zero fun k _ => ?_).symm
       refine mul_eq_zero_of_right _ (weight_zero _ _ _ ?_)
       show 7184 ≤ colOf (j 1).val
       simp only [colOf]
       split_ifs <;> omega)

/-- The gradient of the projection at the weight's own column `n`. -/
theorem ref_own (s : Fin 4096) (n : Fin 7184) : (val_main_v8 (F := Ideal) x2 : Mat 4096 7184) (ix2 s n)
    = x2 (ix2 s ⟨colAt n.val, colAt_lt _ n.isLt⟩) := by
  have hn := n.isLt
  pointwise [val_main_v8, val_main_v5, val_main_v6, val_main_v7]
  split_ifs
  all_goals first
    | exact absurd rfl ‹_›
    | (refine congrArg x2 (congrArg (ix2 s) (Fin.ext ?_))
       simp only [colAt]
       split_ifs <;> omega)

/-- The gradient of the weight, by shards. -/
theorem ref_grad : (val_main_v20 (F := Ideal) x1 x2 : Shards) = shards (mulTN (k := 4096) x1 x2) := by
  funext i
  have h0 : (i 0).val < 4 := (i 0).isLt
  have h1 : (i 1).val < 1024 := (i 1).isLt
  have h2 : (i 2).val < 1796 := (i 2).isLt
  rw [val_main_v20_apply, val_main_v19_apply, val_main_v18_apply, val_main_v11_apply]
  pointwise [val_main_v10, val_main_v9, val_main_v2]
  show _ = ∑ k : Fin 4096, x1 (ix2 k (i 1)) * x2 (ix2 k (place i 1))
  refine Finset.sum_congr rfl fun k _ => (congrArg₂ (· * ·) (ref_own x2 _ _) rfl).trans ?_
  rw [mul_comm]
  refine congrArg₂ (· * ·) (congrArg x1 (congrArg (ix2 k) (Fin.ext ?_))) (congrArg x2 (congrArg (ix2 k) (Fin.ext (congrArg colAt ?_))))
  · show (((i 1).val * 4 + (i 0).val) * 1796 + (i 2).val) / 7184 = (i 1).val
    omega
  · show (((i 1).val * 4 + (i 0).val) * 1796 + (i 2).val) % 7184 = (i 0).val * 1796 + (i 2).val
    omega

end Cert.InProjReferenceIdeal.Read

namespace Cert.Proof

open Idealize.ShloMosaic Idealize.ShloMosaic.TcCoe Idealize.SL.Sem Cert.Product Cert.Columns

/-- The program and its idealized one have the same text, so that the claim of the first is that of the second over machine
    floats. -/
theorem same_in_proj : Cert.quiescent_InProj = (∀ (m : (ℓ : Loc Cert.InProjIdeal.nD Cert.InProjIdeal.τ Cert.InProjIdeal.sig) → Buf (Elt Bits) ℓ)
    (g : Dev Cert.InProjIdeal.nD → PrngReg), True → type_of% (Cert.InProjIdeal.Gen.frame (F := Bits) m g)) := by chain_rfl

/-- The two calls and the operations around them run, leave their arguments as they were and every semaphore at zero, -/
theorem frame_in_proj : Cert.quiescent_InProj := same_in_proj ▸ fun m g _ => Cert.InProjIdeal.Gen.frame (F := Bits) m g

/-- the idealized ones too. -/
theorem frame_in_proj_ideal : Cert.quiescent_InProjIdeal := fun m g _ => Cert.InProjIdeal.Gen.frame m g

/-- The reference runs and leaves its arguments as they were; it has no semaphore. -/
theorem frame_in_proj_ref : Cert.quiescent_InProjReferenceIdeal := fun m g _ =>
  (θ_run Cert.InProjReferenceIdeal.defs _ _).mono (fun r h => ⟨fun c => (h c).2.2, sem_eq_zero_of_no_sems (by decide) r.2⟩)
    (Cert.InProjReferenceIdeal.Value.run (F := Ideal) m g)

section
open Cert.InProjIdeal Cert.InProjIdeal.Run

/-- The kernel's projection and gradient of the weight are the reference's, on all arguments. -/
theorem values_in_proj : Cert.algebraic_InProjIdeal_InProjReferenceIdeal := fun m g m' g' _ hag => by
  refine ⟨fun c => mulNN (k := 1024) (xh m c) (padded (xw m c)), fun c => shards (mulTN (k := 4096) (xh m c) (xd m c)), ?_, ?_⟩
  · refine θ_run_mono (θ_run_and (run_main m g) (Cert.InProjIdeal.Gen.frame m g)) fun r hr c => ?_
    have h := fun b hb => hr.1.1 c _ (Cert.InProjIdeal.Gen.mem_uc b hb)
    exact ⟨(h main_v17 (by decide)).trans (W4_v17 m g c), (h main_v30 (by decide)).trans (W4_v30 m g c), hr.2.1 c⟩
  · refine θ_run_mono (Cert.InProjReferenceIdeal.Value.run (F := Ideal) m' g') fun r hr c => ?_
    obtain ⟨e0, e1, e2⟩ := hag c
    obtain ⟨h0, h1, h2⟩ := hr c
    refine ⟨h0.trans ((Cert.InProjReferenceIdeal.Read.val_main_v17_eq _ _).trans ?_),
      h1.trans ((Cert.InProjReferenceIdeal.Read.val_main_v20_eq _ _).trans ?_), h2⟩
    · rw [e0, e1]; exact Cert.InProjReferenceIdeal.Read.ref_proj _ _
    · rw [e1, e2]; exact Cert.InProjReferenceIdeal.Read.ref_grad _ _
end

end Cert.Proof

end
-- ==== Proof.InGradCalls.lean ====
/-
  What the product for the gradient of the layer's input leaves in its result array: the product over all the kernel's columns,
  which the call takes in two halves.
-/
module

public import proofs.«01_k».proof.Proof.Gen.InGradIdeal.Frame
public import Idealize.ShloMosaic.Lib.Pipeline.Value
public import Idealize.ShloMosaic.Lib.Pipeline.ValueKit
public import Idealize.ShloMosaic.Lib.StableHlo.RunHlo
public import proofs.«01_k».proof.Proof.InProjCalls

@[expose] public section

set_option maxRecDepth 16384

noncomputable section

namespace Cert.InGradIdeal.Run

open Cert.InGradIdeal Cert.InGradIdeal.Gen Cert.Product Cert.Columns
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

theorem idx_0 : ∀ t : Fin grid0.N, win0_0.index t = ![t.val / 2, t.val % 2] := by decide +kernel
theorem idx_1 : ∀ t : Fin grid0.N, win0_1.index t = ![0, t.val % 2] := by decide +kernel
theorem idx_2 : ∀ t : Fin grid0.N, win0_2.index t = ![t.val / 2, 0] := by decide +kernel

theorem half (x y : Vec Ideal S1024x3840 .bf16) : k0_pay1 x y = mulNT (k := 3840) x y := by
  funext i
  pointwise [k0_pay1]
  rfl

theorem first_half (x y : Vec Ideal S1024x3840 .bf16) : k0_pay2 x y = mulNT (k := 3840) x y := by
  funext i
  pointwise [k0_pay2]
  rw [half]

theorem both_halves (x y : Vec Ideal S1024x3840 .bf16) (a : Vec Ideal S1024x1024 .f32) (i : S1024x1024.Idx) :
    k0_pay4 x y a i = a i + mulNT (k := 3840) x y i := by
  pointwise [k0_pay4]
  rw [half]

/-- The weight, as the kernel orders its columns, when the call is entered. -/
theorem V_padded : V m c main_v16 = padded (m ((c : Thread nD τ).loc main_arg0)) := by
  refine Eq.trans ?_ (Cert.InProjIdeal.Run.ordered_eq _)
  show StableHlo.after hostOps0 _ (Proc.devRef .tc main_v16) = _
  unfold Cert.InProjIdeal.Run.ordered
  after_results <;> rfl

/-- The result is written back after the second half. -/
theorem flush_second : ∀ t : Fin cfg0.N, (cfg0.win 2).flush t = true → t.val % 2 = 1 := by decide +kernel

/-- After the first half the accumulator holds the first half's product. -/
theorem acc_first (t : Fin cfg0.N) (h0 : t.val % 2 = 0) :
    (outsAt0 m c t.val t.isLt).2 = mulNT (k := 3840) (iblk m c 0 t) (iblk m c 1 t) := by
  rw [outsAt0_A m c t h0 (by omega)]; frame_out
  rw [first_half]

/-- After the second half the result's block holds the sum of both. -/
theorem out_second (t : Fin cfg0.N) (h2 : t.val % 2 = 1) (y : S1024x1024.Idx) :
    (outsAt0 m c t.val t.isLt).1 y = (outsAt0 m c (t.val - 1) (Nat.lt_of_le_of_lt (Nat.sub_le _ _) t.isLt)).2 y
      + mulNT (k := 3840) (iblk m c 0 t) (iblk m c 1 t) y := by
  rw [outsAt0_B m c t (by omega) h2]; frame_out
  rw [both_halves]
  exact congrArg (· + _) (congrFun (Memref.IsWhole.read_unread _ _) y)

/-- The gradient of the layer's input. -/
theorem arr : (dats m 0 c).arrAt 2 cfg0.N = mulNT (k := 7680) (V m c main_arg1) (V m c main_v16) := by
  refine (dats m 0 c).arrAt_eq_of_covers 2 _ (by decide +kernel) fun t hf y => ?_
  have h2 : t.val % 2 = 1 := flush_second t hf
  have e : ∀ s : Fin cfg0.N, s.val = t.val - 1 → (outsAt0 m c (t.val - 1) (Nat.lt_of_le_of_lt (Nat.sub_le _ _) t.isLt)).2
      = mulNT (k := 3840) (iblk m c 0 s) (iblk m c 1 s) := fun s hs => by
    have := acc_first m c s (by omega)
    simpa only [hs] using this
  have hs := e ⟨t.val - 1, Nat.lt_of_le_of_lt (Nat.sub_le _ _) t.isLt⟩ rfl
  generalize hq : (⟨t.val - 1, Nat.lt_of_le_of_lt (Nat.sub_le _ _) t.isLt⟩ : Fin cfg0.N) = s at hs
  have hv : s.val = t.val - 1 := by rw [← hq]
  blk_simp
  rw [after0_2, out_second m c t h2, hs]
  refine mulNT_two (k := 3840) (l := 3840) (fun k => ?_) (fun k => ?_) (fun k => ?_) fun k => ?_
  · blk_simp [iblk]
    exact congrArg (V m c main_arg1) (by blk_ext [idx_0, idx_2]; show s.val % 2 * 3840 + k.val = k.val; omega)
  · blk_simp [iblk]
    exact congrArg (V m c main_v16) (by blk_ext [idx_1, idx_2]; show s.val % 2 * 3840 + k.val = k.val; omega)
  · blk_simp [iblk]
    exact congrArg (V m c main_arg1) (by blk_ext [idx_0, idx_2]; show t.val % 2 * 3840 + k.val = 3840 + k.val; omega)
  · blk_simp [iblk]
    exact congrArg (V m c main_v16) (by blk_ext [idx_1, idx_2]; show t.val % 2 * 3840 + k.val = 3840 + k.val; omega)

end Cert.InGradIdeal.Run

end
-- ==== Proof.InGradClaims.lean ====
/-
  The claims of the gradient of the layer's input: both programs run and leave their arguments, and the kernel's gradient is
  the reference's.
-/
module

public import proofs.«01_k».proof.Proof.InGradCalls
public import proofs.«01_k».proof.Proof.Gen.InGrad
public import proofs.«01_k».proof.Proof.Gen.InGradReferenceIdeal.Run
public import proofs.«01_k».proof.Proof.Gen.InGradReferenceIdeal.Read
public import proofs.«01_k».proof.Defs
public import Idealize.ShloMosaic.Lib.Claim

@[expose] public section

set_option maxRecDepth 16384

noncomputable section

namespace Cert.InGradReferenceIdeal.Read

open Cert.InGradReferenceIdeal Cert.InGradReferenceIdeal.Gen Cert.Product Cert.Columns
open Idealize.ShloMosaic Idealize.ShloMosaic.TcCoe

variable (x0 : Shards) (x1 : Mat 4096 7680)

/-- The whole weight. -/
theorem ref_weight (r : Fin 1024) (n : Fin 7184) : (val_main_v1 (F := Ideal) x0 : Mat 1024 7184) (ix2 r n) = weight x0 r n.val := by
  rw [val_main_v1_apply, val_main_v0_apply]
  have hr := r.isLt
  have hn := n.isLt
  refine weight_of x0 _ r n.val ?_ ?_
  · show (r.val * 7184 + n.val) / 7184 = r.val
    omega
  · show (r.val * 7184 + n.val) / 1796 % 4 * 1796 + (r.val * 7184 + n.val) % 1796 = n.val
    omega

/-- The gradient of the projection at the weight's own column `n`. -/
theorem ref_own (s : Fin 4096) (n : Fin 7184) : (val_main_v6 (F := Ideal) x1 : Mat 4096 7184) (ix2 s n)
    = x1 (ix2 s ⟨colAt n.val, colAt_lt _ n.isLt⟩) := by
  have hn := n.isLt
  pointwise [val_main_v6, val_main_v3, val_main_v4, val_main_v5]
  split_ifs
  all_goals first
    | exact absurd rfl ‹_›
    | (refine congrArg x1 (congrArg (ix2 s) (Fin.ext ?_))
       simp only [colAt]
       split_ifs <;> omega)

/-- The gradient of the layer's input: the sum over the weight's own columns is that over the kernel's, whose further columns
    are zeros. -/
theorem ref_input : (val_main_v8 (F := Ideal) x0 x1 : Mat 4096 1024) = mulNT (k := 7680) x1 (padded x0) := by
  funext i
  pointwise [val_main_v8, val_main_v7, val_main_v2]
  show (∑ n : Fin 7184, (val_main_v6 (F := Ideal) x1 : Mat 4096 7184) (ix2 (i 0) n) * (val_main_v1 (F := Ideal) x0 : Mat 1024 7184) (ix2 (i 1) n))
    = ∑ j : Fin 7680, x1 (ix2 (i 0) j) * padded x0 (ix2 (i 1) j)
  refine Finset.sum_of_injOn (fun n => ⟨colAt n.val, colAt_lt _ n.isLt⟩) ?_ ?_ ?_ ?_
  · intro a _ b _ h
    have h' : colAt a.val = colAt b.val := congrArg Fin.val h
    have ha := a.isLt
    have hb := b.isLt
    refine Fin.ext ?_
    simp only [colAt] at h'
    split_ifs at h' <;> omega
  · exact fun _ _ => Finset.mem_coe.mpr (Finset.mem_univ _)
  · intro j _ hj
    have hlt := j.isLt
    refine mul_eq_zero_of_right _ (weight_zero _ _ _ ?_)
    show 7184 ≤ colOf j.val
    by_contra hc
    have hc := not_le.mp hc
    refine hj ⟨⟨colOf j.val, hc⟩, Finset.mem_coe.mpr (Finset.mem_univ _), Fin.ext ?_⟩
    show colAt (colOf j.val) = j.val
    simp only [colAt, colOf] at hc ⊢
    split_ifs at hc ⊢ <;> omega
  · intro n _
    have hn := n.isLt
    refine congrArg₂ (· * ·) (ref_own x1 _ n) ((ref_weight x0 _ n).trans ?_)
    show weight x0 (i 1) n.val = weight x0 (i 1) (colOf (colAt n.val))
    refine congrArg (weight x0 (i 1)) ?_
    simp only [colAt, colOf]
    split_ifs <;> omega

end Cert.InGradReferenceIdeal.Read

namespace Cert.Proof

open Idealize.ShloMosaic Idealize.ShloMosaic.TcCoe Idealize.SL.Sem Cert.Product Cert.Columns

/-- The program and its idealized one have the same text, so that the claim of the first is that of the second over machine
    floats. -/
theorem same_in_grad : Cert.quiescent_InGrad = (∀ (m : (ℓ : Loc Cert.InGradIdeal.nD Cert.InGradIdeal.τ Cert.InGradIdeal.sig) → Buf (Elt Bits) ℓ)
    (g : Dev Cert.InGradIdeal.nD → PrngReg), True → type_of% (Cert.InGradIdeal.Gen.frame (F := Bits) m g)) := by chain_rfl

/-- The call and the operations before it run, leave their arguments as they were and every semaphore at zero, -/
theorem frame_in_grad : Cert.quiescent_InGrad := same_in_grad ▸ fun m g _ => Cert.InGradIdeal.Gen.frame (F := Bits) m g

/-- the idealized ones too. -/
theorem frame_in_grad_ideal : Cert.quiescent_InGradIdeal := fun m g _ => Cert.InGradIdeal.Gen.frame m g

/-- The reference runs and leaves its arguments as they were; it has no semaphore. -/
theorem frame_in_grad_ref : Cert.quiescent_InGradReferenceIdeal := fun m g _ =>
  (θ_run Cert.InGradReferenceIdeal.defs _ _).mono (fun r h => ⟨fun c => (h c).2, sem_eq_zero_of_no_sems (by decide) r.2⟩)
    (Cert.InGradReferenceIdeal.Value.run (F := Ideal) m g)

section
open Cert.InGradIdeal Cert.InGradIdeal.Run

/-- The kernel's gradient of the layer's input is the reference's, on all arguments. -/
theorem values_in_grad : Cert.algebraic_InGradIdeal_InGradReferenceIdeal := fun m g m' g' _ hag => by
  refine ⟨fun c => mulNT (k := 7680) (m ((c.tc : Thread nD τ).loc main_arg1)) (padded (m ((c.tc : Thread nD τ).loc main_arg0))), ?_, ?_⟩
  · refine θ_run_mono (θ_run_and (Cert.InGradIdeal.Gen.run_main m g) (Cert.InGradIdeal.Gen.frame m g)) fun r hr c => ?_
    refine ⟨((hr.1 c).1 2).trans ((arr m c).trans ?_), hr.2.1 c⟩
    rw [V_padded]
    exact congrArg (fun a => mulNT (k := 7680) a _) (Cert.InGradIdeal.Gen.V_main_arg1 m c)
  · refine θ_run_mono (Cert.InGradReferenceIdeal.Value.run (F := Ideal) m' g') fun r hr c => ?_
    obtain ⟨e0, e1⟩ := hag c
    refine ⟨(hr c).1.trans ((Cert.InGradReferenceIdeal.Read.val_main_v8_eq _ _).trans ?_), (hr c).2⟩
    rw [e0, e1]
    exact Cert.InGradReferenceIdeal.Read.ref_input _ _
end

end Cert.Proof

end
-- ==== Proof.MergeCalls.lean ====
/-
  What the merge of the two branches leaves in its result array: the gates' sums, which the call takes in blocks of rows.
-/
module

public import proofs.«01_k».proof.Proof.Gen.MergeIdeal.Frame
public import Idealize.ShloMosaic.Lib.Pipeline.Value
public import Idealize.ShloMosaic.Lib.Pipeline.ValueKit
public import proofs.«01_k».proof.Proof.Product

@[expose] public section

set_option maxRecDepth 16384

noncomputable section

namespace Cert.Merge

open Idealize.ShloMosaic Idealize.ShloMosaic.TcCoe Cert.Product

/-- The single-precision constants 1 and 0. -/
def one : EReal := Ideal.ofBits .f32 0x3F800000#32
def nil : EReal := Ideal.ofBits .f32 0x00000000#32
theorem nil_sub (x : EReal) : nil - x = -x := by
  rw [show nil = 0 by simp [nil, Ideal.ofBits, Ideal.ieee], sub_eq_add_neg, zero_add]

/-- The gate's logistic. -/
def sg (x : EReal) : EReal := Ideal.div one (one + Ideal.exp (-x))

/-- The gates' inputs: columns 4096 to 5119 of the projection for the first branch, 5120 to 6143 for the second. -/
def gateA (P : Mat 4096 7680) (i : (⟨2, ![4096, 1024]⟩ : Shape).Idx) : EReal :=
  sg (P (ix2 (i 0) ⟨4096 + (i 1).val, by have : (i 1).val < 1024 := (i 1).isLt; omega⟩))
def gateB (P : Mat 4096 7680) (i : (⟨2, ![4096, 1024]⟩ : Shape).Idx) : EReal :=
  sg (P (ix2 (i 0) ⟨5120 + (i 1).val, by have : (i 1).val < 1024 := (i 1).isLt; omega⟩))

/-- The branches' sum, each times its gate. -/
def merged (P : Mat 4096 7680) (A B : Mat 4096 1024) : Mat 4096 1024 := fun i => gateA P i * A i + gateB P i * B i

end Cert.Merge

namespace Cert.MergeIdeal.Run

open Cert.MergeIdeal Cert.MergeIdeal.Gen Cert.Product Cert.Merge
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

theorem idx_0 : ∀ t : Fin grid0.N, win0_0.index t = ![t.val, 4] := by decide +kernel
theorem idx_1 : ∀ t : Fin grid0.N, win0_1.index t = ![t.val, 5] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel

/-- The stored block, entry by entry. -/
theorem block_apply (p a q b : Vec Ideal S1024x1024 .f32) (y : S1024x1024.Idx) :
    (k0_pay1 p a q b y : EReal) = sg (p y) * a y + sg (q y) * b y :=
  congrArg₂ (fun u v => Ideal.div one (one + Ideal.exp u) * a y + Ideal.div one (one + Ideal.exp v) * b y) (nil_sub _) (nil_sub _)

/-- The blocks of the gates' columns, entry by entry. -/
theorem X0_0_apply (t : Fin cfg0.N) (y : S1024x1024.Idx) (z : S4096x7680.Idx) (h0 : (z 0).val = t.val * 1024 + (y 0).val)
    (h1 : (z 1).val = 4096 + (y 1).val) : (X0_0 m c t : S1024x1024.Idx → EReal) y = (V m c main_arg0 : S4096x7680.Idx → EReal) z := by
  unfold X0_0 Pipeline.Window.fill
  rw [dif_pos (moved0_0 t y)]
  blk_simp [iblk]
  exact congrArg (V m c main_arg0) (by
    blk_ext [idx_0]
    all_goals first | exact h0.symm | omega)
theorem X0_1_apply (t : Fin cfg0.N) (y : S1024x1024.Idx) (z : S4096x7680.Idx) (h0 : (z 0).val = t.val * 1024 + (y 0).val)
    (h1 : (z 1).val = 5120 + (y 1).val) : (X0_1 m c t : S1024x1024.Idx → EReal) y = (V m c main_arg0 : S4096x7680.Idx → EReal) z := by
  unfold X0_1 Pipeline.Window.fill
  rw [dif_pos (moved0_1 t y)]
  blk_simp [iblk]
  exact congrArg (V m c main_arg0) (by
    blk_ext [idx_1]
    all_goals first | exact h0.symm | omega)

/-- The merged branches. -/
theorem arr : (dats m 0 c).arrAt 4 cfg0.N = merged (V m c main_arg0) (V m c main_arg1) (V m c main_arg2) := by
  refine (dats m 0 c).arrAt_eq_of_covers 4 _ (by decide +kernel) fun t hf y => ?_
  blk_simp
  rw [after0_4]
  unfold outsAt0
  frame_out
  rw [block_apply]
  refine congrArg₂ (· + ·) (congrArg₂ (fun u v => sg u * v) ?_ ?_) (congrArg₂ (fun u v => sg u * v) ?_ ?_)
  · exact X0_0_apply m c t _ _ (by blk_simp [idx_4]) (by blk_simp [idx_4])
  · blk_simp [iblk]
    exact congrArg (V m c main_arg1) (by blk_ext [idx_2, idx_4])
  · exact X0_1_apply m c t _ _ (by blk_simp [idx_4]) (by blk_simp [idx_4])
  · blk_simp [iblk]
    exact congrArg (V m c main_arg2) (by blk_ext [idx_3, idx_4])

end Cert.MergeIdeal.Run

end
-- ==== Proof.MergeClaims.lean ====
/-
  The claims of the merge of the two branches: both programs run and leave their arguments, and the kernel's merged branches
  are the reference's.
-/
module

public import proofs.«01_k».proof.Proof.MergeCalls
public import proofs.«01_k».proof.Proof.Gen.Merge
public import proofs.«01_k».proof.Proof.Gen.MergeReferenceIdeal.Run
public import proofs.«01_k».proof.Proof.Gen.MergeReferenceIdeal.Read
public import proofs.«01_k».proof.Defs
public import Idealize.ShloMosaic.Lib.Claim

@[expose] public section

set_option maxRecDepth 16384

noncomputable section

namespace Cert.MergeReferenceIdeal.Read

open Cert.MergeReferenceIdeal Cert.MergeReferenceIdeal.Gen Cert.Product Cert.Merge
open Idealize.ShloMosaic Idealize.ShloMosaic.TcCoe

variable (x0 : Mat 4096 7680) (x1 x2 : Mat 4096 1024)

/-- The gates. -/
theorem ref_gateA (i : S4096x1024.Idx) : (val_main_v8 (F := Ideal) x0 i : EReal) = gateA x0 i := by
  show Ideal.div one (one + Ideal.exp (-(val_main_v1 (F := Ideal) x0 i : EReal))) = _
  rw [val_main_v1_apply, val_main_v0_apply]
  exact congrArg (fun j => sg (x0 j)) (ix2_eta _).symm
theorem ref_gateB (i : S4096x1024.Idx) : (val_main_v15 (F := Ideal) x0 i : EReal) = gateB x0 i := by
  show Ideal.div one (one + Ideal.exp (-(val_main_v2 (F := Ideal) x0 i : EReal))) = _
  rw [val_main_v2_apply, val_main_v0_apply]
  have h : (i 1).val < 1024 := (i 1).isLt
  refine congrArg (fun j => sg (x0 j)) ?_
  funext a
  fin_cases a
  · rfl
  · refine Fin.ext ?_
    show 4096 + (1024 + (i 1).val) = 5120 + (i 1).val
    omega

/-- The reference's sum of the branches. -/
theorem ref_merged : (val_main_v18 (F := Ideal) x0 x1 x2 : Mat 4096 1024) = merged x0 x1 x2 :=
  funext fun i => congrArg₂ (fun u v => u * x1 i + v * x2 i) (ref_gateA x0 i) (ref_gateB x0 i)

end Cert.MergeReferenceIdeal.Read

namespace Cert.Proof

open Idealize.ShloMosaic Idealize.ShloMosaic.TcCoe Idealize.SL.Sem Cert.Product

/-- The program and its idealized one have the same text, so that the claim of the first is that of the second over machine
    floats. -/
theorem same_merge : Cert.quiescent_Merge = (∀ (m : (ℓ : Loc Cert.MergeIdeal.nD Cert.MergeIdeal.τ Cert.MergeIdeal.sig) → Buf (Elt Bits) ℓ)
    (g : Dev Cert.MergeIdeal.nD → PrngReg), True → type_of% (Cert.MergeIdeal.Gen.frame (F := Bits) m g)) := by chain_rfl

/-- The call runs, leaves its arguments as they were and every semaphore at zero, -/
theorem frame_merge : Cert.quiescent_Merge := same_merge ▸ fun m g _ => Cert.MergeIdeal.Gen.frame (F := Bits) m g

/-- the idealized one too. -/
theorem frame_merge_ideal : Cert.quiescent_MergeIdeal := fun m g _ => Cert.MergeIdeal.Gen.frame m g

/-- The reference runs and leaves its arguments as they were; it has no semaphore. -/
theorem frame_merge_ref : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

section
open Cert.MergeIdeal Cert.MergeIdeal.Run

/-- The kernel's merged branches are the reference's, on all arguments. -/
theorem values_merge : Cert.algebraic_MergeIdeal_MergeReferenceIdeal := fun m g m' g' _ hag => by
  refine ⟨fun c => Cert.Merge.merged (m ((c.tc : Thread nD τ).loc main_arg0)) (m ((c.tc : Thread nD τ).loc main_arg1)) (m ((c.tc : Thread nD τ).loc main_arg2)), ?_, ?_⟩
  · refine θ_run_mono (θ_run_and (Cert.MergeIdeal.Gen.run_main m g) (Cert.MergeIdeal.Gen.frame m g)) fun r hr c => ?_
    exact ⟨((hr.1 c).1 4).trans (arr m c), hr.2.1 c⟩
  · refine θ_run_mono (Cert.MergeReferenceIdeal.Value.run (F := Ideal) m' g') fun r hr c => ?_
    obtain ⟨e0, e1, e2⟩ := hag c
    refine ⟨(hr c).1.trans ((Cert.MergeReferenceIdeal.Read.val_main_v18_eq _ _ _).trans ?_), (hr c).2⟩
    rw [e0, e1, e2]
    exact Cert.MergeReferenceIdeal.Read.ref_merged _ _ _
end

end Cert.Proof

end
-- ==== Proof.MergeGradCalls.lean ====
/-
  What the gradient of the merge leaves in its result arrays: the gradients of the two branches, and those of the gates' inputs
  in two column groups of the wide array, whose other columns stay.
-/
module

public import proofs.«01_k».proof.Proof.Gen.MergeGradIdeal.Frame
public import Idealize.ShloMosaic.Lib.Pipeline.Value
public import Idealize.ShloMosaic.Lib.Pipeline.ValueKit
public import proofs.«01_k».proof.Proof.MergeCalls

@[expose] public section

set_option maxRecDepth 16384

noncomputable section

namespace Cert.Merge

open Idealize.ShloMosaic Idealize.ShloMosaic.TcCoe Cert.Product

/-- The gradient of a gate's input, from the merged gradient `d`, the branch `a` and the gate `s`. -/
def gateGrad (d a s : EReal) : EReal := d * a * (s * (one - s))

/-- The branches' gradients: the merged gradient times the gate. -/
def gradA (D : Mat 4096 1024) (P : Mat 4096 7680) : Mat 4096 1024 := fun i => D i * gateA P i
def gradB (D : Mat 4096 1024) (P : Mat 4096 7680) : Mat 4096 1024 := fun i => D i * gateB P i

/-- The gradient of the wide array: columns 4096 to 5119 are the first gate's, 5120 to 6143 the second's, and the others are
    the given array's. -/
def wide (D : Mat 4096 1024) (P : Mat 4096 7680) (A B : Mat 4096 1024) (W : Mat 4096 7680) : Mat 4096 7680 := fun i =>
  if h : 4096 ≤ (i 1).val ∧ (i 1).val < 5120 then
    gateGrad (D (ix2 (i 0) ⟨(i 1).val - 4096, by omega⟩)) (A (ix2 (i 0) ⟨(i 1).val - 4096, by omega⟩)) (sg (P i))
  else if h : 5120 ≤ (i 1).val ∧ (i 1).val < 6144 then
    gateGrad (D (ix2 (i 0) ⟨(i 1).val - 5120, by omega⟩)) (B (ix2 (i 0) ⟨(i 1).val - 5120, by omega⟩)) (sg (P i))
  else W i

end Cert.Merge

namespace Cert.MergeGradIdeal.Run

open Cert.MergeGradIdeal Cert.MergeGradIdeal.Gen Cert.Product Cert.Merge
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

theorem idx_0 : ∀ t : Fin grid0.N, win0_0.index t = ![t.val, 0] := by decide +kernel
theorem idx_1 : ∀ t : Fin grid0.N, win0_1.index t = ![t.val, 4] := by decide +kernel
theorem idx_2 : ∀ t : Fin grid0.N, win0_2.index t = ![t.val, 5] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 2] := by decide +kernel
theorem idx_6 : ∀ t : Fin grid0.N, win0_6.index t = ![t.val, 0] := by decide +kernel
theorem idx_7 : ∀ t : Fin grid0.N, win0_7.index t = ![t.val, 0] := by decide +kernel

/-- The stored blocks, entry by entry. -/
theorem gate_apply (p : Vec Ideal S512x1024 .f32) (y : S512x1024.Idx) : (k0_pay2 p y : EReal) = sg (p y) :=
  congrArg (fun u => Ideal.div one (one + Ideal.exp u)) (nil_sub _)
theorem gate_apply' (p : Vec Ideal S512x1024 .f32) (y : S512x1024.Idx) : (k0_pay3 p y : EReal) = sg (p y) :=
  congrArg (fun u => Ideal.div one (one + Ideal.exp u)) (nil_sub _)
theorem branch_apply (d p : Vec Ideal S512x1024 .f32) (y : S512x1024.Idx) : (k0_pay4 d p y : EReal) = d y * sg (p y) :=
  congrArg (d y * ·) (gate_apply p y)
theorem branch_apply' (d p : Vec Ideal S512x1024 .f32) (y : S512x1024.Idx) : (k0_pay5 d p y : EReal) = d y * sg (p y) :=
  congrArg (d y * ·) (gate_apply' p y)
theorem wide_apply (d p a : Vec Ideal S512x1024 .f32) (y : S512x1024.Idx) :
    (k0_pay6 d p a y : EReal) = gateGrad (d y) (a y) (sg (p y)) :=
  (congrArg (fun s => d y * a y * s * (one - s)) (gate_apply p y)).trans (mul_assoc _ _ _)
theorem wide_apply' (d p b : Vec Ideal S512x1024 .f32) (y : S512x1024.Idx) :
    (k0_pay1 (k0_pay3 p) (k0_pay7 d b) y : EReal) = gateGrad (d y) (b y) (sg (p y)) :=
  (congrArg (fun s => d y * b y * s * (one - s)) (gate_apply' p y)).trans (mul_assoc _ _ _)

/-- The blocks of the gates' columns, entry by entry. -/
theorem X0_1_apply (t : Fin cfg0.N) (y : S512x1024.Idx) (z : S4096x7680.Idx) (h0 : (z 0).val = t.val * 512 + (y 0).val)
    (h1 : (z 1).val = 4096 + (y 1).val) : (X0_1 m c t : S512x1024.Idx → EReal) y = (V m c main_arg1 : S4096x7680.Idx → EReal) z := by
  unfold X0_1 Pipeline.Window.fill
  rw [dif_pos (moved0_1 t y)]
  blk_simp [iblk]
  exact congrArg (V m c main_arg1) (by
    blk_ext [idx_1]
    all_goals first | exact h0.symm | omega)
theorem X0_2_apply (t : Fin cfg0.N) (y : S512x1024.Idx) (z : S4096x7680.Idx) (h0 : (z 0).val = t.val * 512 + (y 0).val)
    (h1 : (z 1).val = 5120 + (y 1).val) : (X0_2 m c t : S512x1024.Idx → EReal) y = (V m c main_arg1 : S4096x7680.Idx → EReal) z := by
  unfold X0_2 Pipeline.Window.fill
  rw [dif_pos (moved0_2 t y)]
  blk_simp [iblk]
  exact congrArg (V m c main_arg1) (by
    blk_ext [idx_2]
    all_goals first | exact h0.symm | omega)

/-- The gradient of the first branch, -/
theorem arr6 : (dats m 0 c).arrAt 6 cfg0.N = gradA (V m c main_arg0) (V m c main_arg1) := by
  refine (dats m 0 c).arrAt_eq_of_covers 6 _ (by decide +kernel) fun t hf y => ?_
  blk_simp
  rw [after0_6]
  unfold outsAt0
  frame_out
  rw [branch_apply]
  refine congrArg₂ (fun u v => u * sg v) ?_ ?_
  · blk_simp [iblk]
    exact congrArg (V m c main_arg0) (by blk_ext [idx_0, idx_6])
  · exact X0_1_apply m c t _ _ (by blk_simp [idx_6]) (by blk_simp [idx_6])

/-- and of the second. -/
theorem arr7 : (dats m 0 c).arrAt 7 cfg0.N = gradB (V m c main_arg0) (V m c main_arg1) := by
  refine (dats m 0 c).arrAt_eq_of_covers 7 _ (by decide +kernel) fun t hf y => ?_
  blk_simp
  rw [after0_7]
  unfold outsAt0
  frame_out
  rw [branch_apply']
  refine congrArg₂ (fun u v => u * sg v) ?_ ?_
  · blk_simp [iblk]
    exact congrArg (V m c main_arg0) (by blk_ext [idx_0, idx_7])
  · exact X0_2_apply m c t _ _ (by blk_simp [idx_7]) (by blk_simp [idx_7])

/-- The wide block's left half is the first gate's, -/
theorem block_left (t : Fin cfg0.N) (y : S512x2048.Idx) (z : S512x1024.Idx) (h0 : (y 0).val = (z 0).val) (h1 : (y 1).val = (z 1).val) :
    ((outsAt0 m c t).1 y : EReal) = gateGrad ((iblk m c 0 t : S512x1024.Idx → EReal) z) ((iblk m c 3 t : S512x1024.Idx → EReal) z) (sg ((X0_1 m c t : S512x1024.Idx → EReal) z)) := by
  unfold outsAt0
  frame_out
  refine View.canon_eq_of_allAt _ y _ (View.cover_of_tiled_head _ _ _ rfl y) ?_
  refine View.allAt_cons_unit _ _ _ _ _ (fun x hx => ?_) (View.allAt_cons_unit _ _ _ _ _ (fun x hx => ?_) (View.allAt_nil _ _))
  · have e : (y 1).val = 1024 + (x 1).val := hx 1
    have hz : (z 1).val < 1024 := (z 1).isLt
    omega
  · have e : x = z := funext fun a => Fin.ext (by
      have ha := hx a
      fin_cases a
      · have ha : (y 0).val = 0 + (x 0).val := ha
        show (x 0).val = (z 0).val
        omega
      · have ha : (y 1).val = 0 + (x 1).val := ha
        show (x 1).val = (z 1).val
        omega)
    rw [e]
    exact wide_apply _ _ _ z

/-- its right half the second's. -/
theorem block_right (t : Fin cfg0.N) (y : S512x2048.Idx) (z : S512x1024.Idx) (h0 : (y 0).val = (z 0).val) (h1 : (y 1).val = 1024 + (z 1).val) :
    ((outsAt0 m c t).1 y : EReal) = gateGrad ((iblk m c 0 t : S512x1024.Idx → EReal) z) ((iblk m c 4 t : S512x1024.Idx → EReal) z) (sg ((X0_2 m c t : S512x1024.Idx → EReal) z)) := by
  unfold outsAt0
  frame_out
  refine View.canon_eq_of_allAt _ y _ (View.cover_of_tiled_head _ _ _ rfl y) ?_
  refine View.allAt_cons_unit _ _ _ _ _ (fun x hx => ?_) (View.allAt_cons_unit _ _ _ _ _ (fun x hx => ?_) (View.allAt_nil _ _))
  · have e : x = z := funext fun a => Fin.ext (by
      have ha := hx a
      fin_cases a
      · have ha : (y 0).val = 0 + (x 0).val := ha
        show (x 0).val = (z 0).val
        omega
      · have ha : (y 1).val = 1024 + (x 1).val := ha
        show (x 1).val = (z 1).val
        omega)
    rw [e]
    exact wide_apply' _ _ _ z
  · have e : (y 1).val = 0 + (x 1).val := hx 1
    have hx1 : (x 1).val < 1024 := (x 1).isLt
    omega

/-- The wide array. -/
theorem arr5 : (dats m 0 c).arrAt 5 cfg0.N
    = wide (V m c main_arg0) (V m c main_arg1) (V m c main_arg2) (V m c main_arg3) (V m c main_arg4) := by
  have h : (dats m 0 c).arrAt 5 cfg0.N = fun i : S4096x7680.Idx => if (i 1).val / 2048 = 2 then
      wide (V m c main_arg0) (V m c main_arg1) (V m c main_arg2) (V m c main_arg3) (V m c main_arg4) i else V m c main_arg4 i := by
    refine (dats m 0 c).arrAt_eq_of_coversWhere 5 _ (fun β => β (1 : Fin _) = 2) (by decide +kernel) (fun t hf y => ?_) (fun j => Iff.rfl)
    blk_simp
    rw [after0_5]
    obtain ⟨u, hu⟩ : ∃ u : S512x2048.Idx, u = (cfg0.win 5).xinj (cfg0.grid.coords t) y := ⟨_, rfl⟩
    obtain ⟨z, hz⟩ : ∃ z : S4096x7680.Idx, z = (win0_5.blk t).view.emb y := ⟨_, rfl⟩
    have z0 : (z 0).val = t.val * 512 + (u 0).val := by rw [hz, hu]; blk_simp [idx_5]
    have z1 : (z 1).val = 2 * 2048 + (u 1).val := by rw [hz, hu]; blk_simp [idx_5]
    refine (congrArg (outsAt0 m c t).1 hu.symm).trans (Eq.trans ?_ (congrArg (wide _ _ _ _ _) hz))
    have hu1 : (u 1).val < 2048 := (u 1).isLt
    have hu0 : (u 0).val < 512 := (u 0).isLt
    unfold wide
    by_cases hl : (u 1).val < 1024
    · rw [dif_pos (by omega)]
      refine (block_left m c t u (ix2 ⟨(u 0).val, hu0⟩ ⟨(u 1).val, hl⟩) rfl rfl).trans ?_
      refine congr (congrArg₂ gateGrad ?_ ?_) (congrArg sg ?_)
      · blk_simp [iblk]
        exact congrArg (V m c main_arg0) (by
          blk_ext [idx_0]
          all_goals first | exact z0.symm | omega)
      · blk_simp [iblk]
        exact congrArg (V m c main_arg2) (by
          blk_ext [idx_3]
          all_goals first | exact z0.symm | omega)
      · exact X0_1_apply m c t _ _ z0 (by show (z 1).val = 4096 + (u 1).val; omega)
    · rw [dif_neg (by omega), dif_pos (by omega)]
      refine (block_right m c t u (ix2 ⟨(u 0).val, hu0⟩ ⟨(u 1).val - 1024, by omega⟩) rfl (by show (u 1).val = 1024 + ((u 1).val - 1024); omega)).trans ?_
      refine congr (congrArg₂ gateGrad ?_ ?_) (congrArg sg ?_)
      · blk_simp [iblk]
        exact congrArg (V m c main_arg0) (by
          blk_ext [idx_0]
          all_goals first | exact z0.symm | omega)
      · blk_simp [iblk]
        exact congrArg (V m c main_arg3) (by
          blk_ext [idx_4]
          all_goals first | exact z0.symm | omega)
      · exact X0_2_apply m c t _ _ z0 (by show (z 1).val = 5120 + ((u 1).val - 1024); omega)
  refine h.trans (funext fun i => ?_)
  have hi : ((i : S4096x7680.Idx) 1).val < 7680 := ((i : S4096x7680.Idx) 1).isLt
  by_cases h2 : ((i : S4096x7680.Idx) 1).val / 2048 = 2
  · exact if_pos h2
  · refine (if_neg h2).trans ?_
    unfold wide
    rw [dif_neg (by omega), dif_neg (by omega)]

end Cert.MergeGradIdeal.Run

end
-- ==== Proof.MergeGradClaims.lean ====
/-
  The claims of the gradient of the merge: both programs run and leave their arguments, and the kernel's gradients of the
  branches and of the gates' inputs are the reference's.
-/
module

public import proofs.«01_k».proof.Proof.MergeGradCalls
public import proofs.«01_k».proof.Proof.Gen.MergeGrad
public import proofs.«01_k».proof.Proof.Gen.MergeGradReferenceIdeal.Run
public import proofs.«01_k».proof.Proof.Gen.MergeGradReferenceIdeal.Read
public import proofs.«01_k».proof.Defs
public import Idealize.ShloMosaic.Lib.Claim

@[expose] public section

set_option maxRecDepth 16384

noncomputable section

namespace Cert.MergeGradReferenceIdeal.Read

open Cert.MergeGradReferenceIdeal Cert.MergeGradReferenceIdeal.Gen Cert.Product Cert.Merge
open Idealize.ShloMosaic Idealize.ShloMosaic.TcCoe

variable (x0 : Mat 4096 1024) (x1 : Mat 4096 7680) (x2 x3 : Mat 4096 1024) (x4 : Mat 4096 7680)

/-- The gates. -/
theorem ref_gateA (i : S4096x1024.Idx) : (val_main_v8 (F := Ideal) x1 i : EReal) = gateA x1 i := by
  show Ideal.div one (one + Ideal.exp (-(val_main_v1 (F := Ideal) x1 i : EReal))) = _
  rw [val_main_v1_apply, val_main_v0_apply]
  exact congrArg (fun j => sg (x1 j)) (ix2_eta _).symm
theorem ref_gateB (i : S4096x1024.Idx) : (val_main_v18 (F := Ideal) x1 i : EReal) = gateB x1 i := by
  show Ideal.div one (one + Ideal.exp (-(val_main_v2 (F := Ideal) x1 i : EReal))) = _
  rw [val_main_v2_apply, val_main_v0_apply]
  have h : (i 1).val < 1024 := (i 1).isLt
  refine congrArg (fun j => sg (x1 j)) ?_
  funext a
  fin_cases a
  · rfl
  · refine Fin.ext ?_
    show 4096 + (1024 + (i 1).val) = 5120 + (i 1).val
    omega

/-- The merged gradient, reshaped to its own shape. -/
theorem ref_same (i : S4096x1024.Idx) : (val_main_v24 (F := Ideal) x0 i : EReal) = x0 i := by
  unfold val_main_v24
  rw [shapeCast_self]
theorem ref_same' (i : S4096x1024.Idx) : (val_main_v25 (F := Ideal) x0 i : EReal) = x0 i := by
  unfold val_main_v25
  rw [shapeCast_self]

/-- The branches' gradients. -/
theorem ref_first : (val_main_v37 (F := Ideal) x0 x1 : Mat 4096 1024) = gradA x0 x1 := funext fun i =>
  (congrArg₂ (· * ·) (ref_gateA x1 i) (ref_same x0 i)).trans (mul_comm _ _)
theorem ref_second : (val_main_v38 (F := Ideal) x0 x1 : Mat 4096 1024) = gradB x0 x1 := funext fun i =>
  (congrArg₂ (· * ·) (ref_gateB x1 i) (ref_same' x0 i)).trans (mul_comm _ _)

/-- The gates' inputs' gradients. -/
theorem ref_gradA (i : S4096x1024.Idx) : (val_main_v31 (F := Ideal) x0 x1 x2 i : EReal) = gateGrad (x0 i) (x2 i) (gateA x1 i) :=
  congrArg₂ (fun d s => d * x2 i * (s * (one - s))) (ref_same x0 i) (ref_gateA x1 i)
theorem ref_gradB (i : S4096x1024.Idx) : (val_main_v28 (F := Ideal) x0 x1 x3 i : EReal) = gateGrad (x0 i) (x3 i) (gateB x1 i) :=
  congrArg₂ (fun d s => d * x3 i * (s * (one - s))) (ref_same' x0 i) (ref_gateB x1 i)

/-- Two places of a matrix with the same row and column. -/
theorem ix_of {a b : Nat} {i j : (⟨2, ![a, b]⟩ : Shape).Idx} (h0 : i 0 = j 0) (h1 : (i 1).val = (j 1).val) : i = j := by
  funext x
  fin_cases x
  · exact h0
  · exact Fin.ext h1

/-- The wide array's gradient. -/
theorem ref_wide : (val_main_v36 (F := Ideal) x0 x1 x2 x3 x4 : Mat 4096 7680) = wide x0 x1 x2 x3 x4 := by
  funext i
  have hi : (i 1).val < 7680 := (i 1).isLt
  pointwise [val_main_v36, val_main_v34, val_main_v32, val_main_v33, val_main_v35]
  unfold wide
  split_ifs
  all_goals first
    | exact absurd rfl ‹_›
    | (exfalso; omega)
    | with_reducible rfl
    | (rw [ref_gradA, dif_pos (by omega)]
       exact congrArg (gateGrad _ _) (congrArg (fun j => sg (x1 j)) (ix_of rfl (by show 4096 + ((i 1).val - 4096) = (i 1).val; omega))))
    | (rw [ref_gradB, dif_neg (by omega), dif_pos (by omega)]
       have e : (ix2 (i 0) ⟨(i 1).val - 4096 - 1024, by omega⟩ : S4096x1024.Idx) = ix2 (i 0) ⟨(i 1).val - 5120, by omega⟩ :=
         congrArg (ix2 (i 0)) (Fin.ext (Nat.sub_sub _ _ _))
       rw [e]
       exact congrArg (gateGrad _ _) (congrArg (fun j => sg (x1 j)) (ix_of rfl (by show 5120 + ((i 1).val - 5120) = (i 1).val; omega))))
    | (rw [dif_neg (by omega), dif_neg (by omega)]
       exact congrArg x4 (ix_of rfl (by show 6144 + ((i 1).val - 4096 - 2048) = (i 1).val; omega)))

end Cert.MergeGradReferenceIdeal.Read

namespace Cert.Proof

open Idealize.ShloMosaic Idealize.ShloMosaic.TcCoe Idealize.SL.Sem Cert.Product

/-- The program and its idealized one have the same text, so that the claim of the first is that of the second over machine
    floats. -/
theorem same_merge_grad : Cert.quiescent_MergeGrad = (∀ (m : (ℓ : Loc Cert.MergeGradIdeal.nD Cert.MergeGradIdeal.τ Cert.MergeGradIdeal.sig) → Buf (Elt Bits) ℓ)
    (g : Dev Cert.MergeGradIdeal.nD → PrngReg), True → type_of% (Cert.MergeGradIdeal.Gen.frame (F := Bits) m g)) := by chain_rfl

/-- The call runs, leaves its arguments as they were and every semaphore at zero, -/
theorem frame_merge_grad : Cert.quiescent_MergeGrad := same_merge_grad ▸ fun m g _ => Cert.MergeGradIdeal.Gen.frame (F := Bits) m g

/-- the idealized one too. -/
theorem frame_merge_grad_ideal : Cert.quiescent_MergeGradIdeal := fun m g _ => Cert.MergeGradIdeal.Gen.frame m g

/-- The reference runs and leaves its arguments as they were; it has no semaphore. -/
theorem frame_merge_grad_ref : Cert.quiescent_MergeGradReferenceIdeal := fun m g _ =>
  (θ_run Cert.MergeGradReferenceIdeal.defs _ _).mono (fun r h => ⟨fun c => (h c).2.2.2, sem_eq_zero_of_no_sems (by decide) r.2⟩)
    (Cert.MergeGradReferenceIdeal.Value.run (F := Ideal) m g)

section
open Cert.MergeGradIdeal Cert.MergeGradIdeal.Gen Cert.MergeGradIdeal.Run

/-- The kernel's gradients are the reference's, on all arguments. -/
theorem values_merge_grad : Cert.algebraic_MergeGradIdeal_MergeGradReferenceIdeal := fun m g m' g' _ hag => by
  refine ⟨fun c => Cert.Merge.wide (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    fun c => Cert.Merge.gradA (m ((c.tc : Thread nD τ).loc main_arg0)) (m ((c.tc : Thread nD τ).loc main_arg1)),
    fun c => Cert.Merge.gradB (m ((c.tc : Thread nD τ).loc main_arg0)) (m ((c.tc : Thread nD τ).loc main_arg1)), ?_, ?_⟩
  · refine θ_run_mono (θ_run_and (Cert.MergeGradIdeal.Gen.run_main m g) (Cert.MergeGradIdeal.Gen.frame m g)) fun r hr c => ?_
    refine ⟨((hr.1 c).1 5).trans ((arr5 m c).trans ?_), ((hr.1 c).1 6).trans ((arr6 m c).trans ?_), ((hr.1 c).1 7).trans ((arr7 m c).trans ?_), hr.2.1 c⟩
    · rw [V_main_arg0, V_main_arg1, V_main_arg2, V_main_arg3, V_main_arg4]
    · rw [V_main_arg0, V_main_arg1]
    · rw [V_main_arg0, V_main_arg1]
  · refine θ_run_mono (Cert.MergeGradReferenceIdeal.Value.run (F := Ideal) m' g') fun r hr c => ?_
    obtain ⟨e0, e1, e2, e3, e4⟩ := hag c
    refine ⟨(hr c).1.trans ((Cert.MergeGradReferenceIdeal.Read.val_main_v36_eq _ _ _ _ _).trans ?_),
      (hr c).2.1.trans ((Cert.MergeGradReferenceIdeal.Read.val_main_v37_eq _ _).trans ?_),
      (hr c).2.2.1.trans ((Cert.MergeGradReferenceIdeal.Read.val_main_v38_eq _ _).trans ?_), (hr c).2.2.2⟩
    · rw [e0, e1, e2, e3, e4]
      exact Cert.MergeGradReferenceIdeal.Read.ref_wide _ _ _ _ _
    · rw [e0, e1]
      exact Cert.MergeGradReferenceIdeal.Read.ref_first _ _
    · rw [e0, e1]
      exact Cert.MergeGradReferenceIdeal.Read.ref_second _ _
end

end Cert.Proof

end
-- ==== Proof.KernelRun.lean ====
/-
  One run of the kernel's body on any float type, with the results it leaves unnamed: what the launch of `Kernel`
  needs for its frame claim. The two runs are the two sides of the body's one conditional.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 1 rfl).trans ((hA c 1).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x8x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x8x1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)

-- (the run's proof term is large: checking it walks past the default budget)
set_option maxHeartbeats 1000000 in
/-- The body's run where its conditional is taken: the inputs' windows are left as they were, the outputs' at contents nothing names. -/
theorem kernelRun0_A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole) (hc0 : cond0_0 i)
    (x0 : Vec F S4096x128 .bf16) (x1 : Vec F S4096x128 .bf16) (x2 : Vec F S512x128 .bf16) (x3 : Vec F S512x128 .bf16) (x4 : Vec F S512x128 .f32) (x5 : Vec F S2x8x1x512 .f32) (x6 : Vec F S2x8x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_flash_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14) K := by
    intro E K
    simp only [cc0_flash_bwd_eq_skeleton]; unfold cc0_flash_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

-- (the run's proof term is large: checking it walks past the default budget)
set_option maxHeartbeats 1000000 in
/-- The body's run where its conditional is not taken: the inputs' windows are left as they were, the outputs' at contents nothing names. -/
theorem kernelRun0_B (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x8x1x512 .f32) (harg7 : arg7.IsWhole) (arg8 : Memref sig .tc .vmem S2x8x1x512 .f32) (harg8 : arg8.IsWhole) (arg10 : Memref sig .tc .vmem S512x128 .bf16) (harg10 : arg10.IsWhole) (arg11 : Memref sig .tc .vmem S512x128 .bf16) (harg11 : arg11.IsWhole) (arg12 : Memref sig .tc .vmem S4096x128 .f32) (harg12 : arg12.IsWhole) (arg13 : Memref sig .tc .vmem S2x8x1x512 .f32) (harg13 : arg13.IsWhole) (arg14 : Memref sig .tc .vmem S512x128 .f32) (harg14 : arg14.IsWhole) (hc0 : ¬cond0_0 i)
    (x0 : Vec F S4096x128 .bf16) (x1 : Vec F S4096x128 .bf16) (x2 : Vec F S512x128 .bf16) (x3 : Vec F S512x128 .bf16) (x4 : Vec F S512x128 .f32) (x5 : Vec F S2x8x1x512 .f32) (x6 : Vec F S2x8x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_flash_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14) K := by
    intro E K
    simp only [cc0_flash_bwd_eq_skeleton]; unfold cc0_flash_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Forget

end
-- ==== Proof.KernelFrame.lean ====
/-
  The frame claim of `Kernel` on any float type: it runs, its arguments end as they were, and every semaphore ends at
  zero. What it leaves in its results is not named here.
-/
module

public import proofs.«01_k».proof.Proof.KernelRun
public import Idealize.ShloMosaic.Lib.Claim

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 64 := lt_of_lt_of_eq t.isLt (show cfg0.N = 64 from N_0)
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- `Kernel` runs; its arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Forget

end
-- ==== Proof.lean ====
/-
  The certificate: the backward attention kernel's two runs, its reference's run, and the equality of their results; and
  the same of the products of the MLP, of the mixer and of the input projection, and of the gates.
-/
module

public import proofs.«01_k».proof.Defs
public import proofs.«01_k».proof.Proof.Final
public import proofs.«01_k».proof.Proof.Fin
public import proofs.«01_k».proof.Proof.MlpClaims
public import proofs.«01_k».proof.Proof.MixerClaims
public import proofs.«01_k».proof.Proof.InProjClaims
public import proofs.«01_k».proof.Proof.InGradClaims
public import proofs.«01_k».proof.Proof.MergeClaims
public import proofs.«01_k».proof.Proof.MergeGradClaims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import Idealize.ShloMosaic.Lib.Claim
public import proofs.«01_k».proof.Proof.Gen.ReferenceIdeal.Run
public import proofs.«01_k».proof.Proof.Gen.Mlp
public import proofs.«01_k».proof.Proof.Gen.MlpIdeal
public import proofs.«01_k».proof.Proof.Gen.MlpIdeal.Frame
public import proofs.«01_k».proof.Proof.Gen.MlpReferenceIdeal.Run
public import proofs.«01_k».proof.Proof.Gen.MlpReferenceIdeal.Read
public import proofs.«01_k».proof.Proof.Gen.ReferenceIdeal.Read
public import Idealize.ShloMosaic.Adequacy
public import Idealize.ShloMosaic.Lib.StableHlo.RunHlo
public import Idealize.ShloMosaic.Init

@[expose] public section

noncomputable section

namespace Cert.Proof

open Idealize.ShloMosaic Idealize.ShloMosaic.TcCoe Idealize.SL.Sem Cert.Attention Cert.KernelIdeal.Run

abbrev IdealMem := (ℓ : Loc Cert.KernelIdeal.nD Cert.KernelIdeal.τ Cert.KernelIdeal.sig) → Buf (Elt Ideal) ℓ
abbrev RefMem := (ℓ : Loc Cert.ReferenceIdeal.nD Cert.ReferenceIdeal.τ Cert.ReferenceIdeal.sig) → Buf (Elt Ideal) ℓ

/-- The idealized kernel runs, leaves its arguments as they were and every semaphore at zero. -/
theorem frame_ideal : Cert.quiescent_KernelIdeal := fun m g _ =>
  θ_run_with_sems (Cert.KernelIdeal.Gen.frame_of m g (dats m) (fun c w => A_eq m c w)) (run_main_quiescent m g)

/-- The reference runs and leaves its arguments as they were; it has no semaphore. -/
theorem frame_ref : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem _root_.Cert.Attention.Args.of_eq {A : Attn} {x0 x1 x2 x3 y0 y1 y2 y3 : Cert.ReferenceIdeal.S4096x1024.Idx → EReal} {x4 y4 : Cert.ReferenceIdeal.S4096x128.Idx → EReal}
    (R : Args A x0 x1 x2 x3 x4) (e0 : y0 = x0) (e1 : y1 = x1) (e2 : y2 = x2) (e3 : y3 = x3) (e4 : y4 = x4) : Args A y0 y1 y2 y3 y4 := by
  subst e0 e1 e2 e3 e4
  exact R

theorem gW_pos (A : Attn) (x5 : Cert.KernelIdeal.S4096x7680.Idx → EReal) (r : Fin 4096) (x : Fin 7680) (h : 6144 ≤ x.val ∧ x.val < 7168) :
    gW A x5 (ix2 r x) = (A.dv r ⟨x.val - 6144, by omega⟩ : EReal) := dif_pos h
theorem gW_neg (A : Attn) (x5 : Cert.KernelIdeal.S4096x7680.Idx → EReal) (r : Fin 4096) (x : Fin 7680) (h : ¬(6144 ≤ x.val ∧ x.val < 7168)) :
    gW A x5 (ix2 r x) = x5 (ix2 r x) := dif_neg h

section
open Cert.ReferenceIdeal.Read
variable {A : Attn} {x0 x1 x2 x3 : Cert.ReferenceIdeal.S4096x1024.Idx → EReal} {x4 : Cert.ReferenceIdeal.S4096x128.Idx → EReal} (R : Args A x0 x1 x2 x3 x4)
include R

/-- The reference's five results, whole. -/
theorem ref0 : (val_main_v92 (F := Ideal) x0 x1 x2 x3 x4 : Cert.ReferenceIdeal.S4096x1024.Idx → EReal) = gK A := funext fun i => by
  obtain ⟨r, x, rfl⟩ : ∃ r x, i = ix2 r x := ⟨i 0, i 1, ix2_eta i⟩
  exact ref_dk R r x
theorem ref1 (x5 : Cert.ReferenceIdeal.S4096x7680.Idx → EReal) : (val_main_v90 (F := Ideal) x0 x1 x3 x4 x5 : Cert.ReferenceIdeal.S4096x7680.Idx → EReal) = gW A x5 := funext fun i => by
  obtain ⟨r, x, rfl⟩ : ∃ r x, i = ix2 r x := ⟨i 0, i 1, ix2_eta i⟩
  refine (ref_proj x0 x1 x3 x4 x5 r x).trans ?_
  by_cases h : 6144 ≤ x.val ∧ x.val < 7168
  · exact (dif_pos h).trans ((ref_dv R r _).trans (gW_pos A x5 r x h).symm)
  · exact (dif_neg h).trans (gW_neg A x5 r x h).symm
theorem ref2 : (val_main_v93 (F := Ideal) x0 x1 x2 x3 x4 : Cert.ReferenceIdeal.S4096x1024.Idx → EReal) = gQ A := funext fun i => by
  obtain ⟨r, x, rfl⟩ : ∃ r x, i = ix2 r x := ⟨i 0, i 1, ix2_eta i⟩
  exact ref_dq R r x
theorem ref3 : (val_main_v95 (F := Ideal) x0 x1 x2 x3 x4 : Cert.ReferenceIdeal.S16x8x1x512.Idx → EReal) = gF A := funext fun i => by
  obtain ⟨h, n, b, rfl⟩ : ∃ h n b, i = ix4 h n 0 b := ⟨i 0, i 1, i 3, ix4_eta i⟩
  exact ref_dfq R h n b (row n b) rfl
theorem ref4 : (val_main_v97 (F := Ideal) x0 x1 x2 x3 x4 : Cert.ReferenceIdeal.S4096x1024.Idx → EReal) = gG A := funext fun i => by
  obtain ⟨r, x, rfl⟩ : ∃ r x, i = ix2 r x := ⟨i 0, i 1, ix2_eta i⟩
  exact ref_dfk R r x
end

set_option maxHeartbeats 4000000 in
/-- On finite arguments the kernel's five gradients are the reference's. -/
theorem values : Cert.algebraic_KernelIdeal_ReferenceIdeal_pre_finite := fun m g m' g' hpre hag => by
  choose A R using fun c => Cert.Pre_finite.args_of _ _ _ _ _ _ (hpre c)
  refine ⟨fun c => gK (A c), fun c => gW (A c) (m ((c : Thread Cert.KernelIdeal.nD Cert.KernelIdeal.τ).loc Cert.KernelIdeal.main_arg5)), fun c => gQ (A c), fun c => gF (A c), fun c => gG (A c), ?_, ?_⟩
  · refine θ_run_mono (θ_run_and (run_main_quiescent m g) (frame_ideal m g trivial)) fun r hr c => ?_
    have H := holds_of m c (R c)
    have h := (hr.1.1 c).1
    exact ⟨(h 7).trans (out7 m c H), (h 8).trans (out8 m c H), (h 9).trans (out9 m c H), (h 10).trans (out10 m c H), (h 11).trans (out11 m c H), hr.2.1 c⟩
  · refine θ_run_mono (Cert.ReferenceIdeal.Value.run (F := Ideal) m' g') fun r hr c => ?_
    obtain ⟨e0, e1, e2, e3, e4, e5⟩ := hag c
    obtain ⟨h0, h1, h2, h3, h4, h5⟩ := hr c
    have R' := (R c).of_eq e0 e1 e2 e3 e4
    exact ⟨h0.trans ((Cert.ReferenceIdeal.Read.val_main_v92_eq m' c).trans (ref0 R')),
      h1.trans ((Cert.ReferenceIdeal.Read.val_main_v90_eq m' c).trans ((ref1 R' _).trans (congrArg (gW (A c)) e5))),
      h2.trans ((Cert.ReferenceIdeal.Read.val_main_v93_eq m' c).trans (ref2 R')),
      h3.trans ((Cert.ReferenceIdeal.Read.val_main_v95_eq m' c).trans (ref3 R')),
      h4.trans ((Cert.ReferenceIdeal.Read.val_main_v97_eq m' c).trans (ref4 R')), h5⟩

/-- Every claim of the certificate. -/
theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Mixer.Gen.facts, Cert.MixerIdeal.Gen.facts, Cert.MixerReferenceIdeal.Gen.facts,
    Cert.InProj.Gen.facts, Cert.InProjIdeal.Gen.facts, Cert.InProjReferenceIdeal.Gen.facts,
    Cert.InGrad.Gen.facts, Cert.InGradIdeal.Gen.facts, Cert.InGradReferenceIdeal.Gen.facts,
    Cert.Merge.Gen.facts, Cert.MergeIdeal.Gen.facts, Cert.MergeReferenceIdeal.Gen.facts,
    Cert.MergeGrad.Gen.facts, Cert.MergeGradIdeal.Gen.facts, Cert.MergeGradReferenceIdeal.Gen.facts,
    Cert.Pre_finite.facts,
    fun m g _ => Cert.Kernel.Forget.frame m g, frame_ideal, fun m g _ => frame_ideal m g trivial, frame_ref, fun m g _ => frame_ref m g trivial,
    frame_mlp, frame_mlp_ideal, frame_mlp_ref, frame_mixer, frame_mixer_ideal, frame_mixer_ref,
    frame_in_proj, frame_in_proj_ideal, frame_in_proj_ref, frame_in_grad, frame_in_grad_ideal, frame_in_grad_ref,
    frame_merge, frame_merge_ideal, frame_merge_ref, frame_merge_grad, frame_merge_grad_ideal, frame_merge_grad_ref,
    IdealRules.named_const.statement Cert.KernelIdeal.κ "mask" .f32 0xF149F2CA#32 ⊥ rfl, values,
    trivial, values_mlp, trivial, values_mixer, trivial, values_in_proj, trivial, values_in_grad, trivial, values_merge,
    trivial, values_merge_grad⟩

end Cert.Proof

end
